-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![8192, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def holds_ReferenceIdeal_near_the_product [hReferenceIdeal : Cert.ReferenceIdeal.Facts] [hPost_near_the_product : Cert.Post_near_the_product.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ (Cert.Post_near_the_product.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (r.2.mem ((c.tc : Thread Cert.ReferenceIdeal.nD Cert.ReferenceIdeal.τ).loc Cert.ReferenceIdeal.main_v27))) = (fun _ => 1#1))

def Claim : Prop :=
  ∃ (hKernel : Cert.Kernel.Facts) (hKernelIdeal : Cert.KernelIdeal.Facts) (hReferenceIdeal : Cert.ReferenceIdeal.Facts) (hPost_near_the_product : Cert.Post_near_the_product.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_ReferenceIdeal_near_the_product (hReferenceIdeal := hReferenceIdeal) (hPost_near_the_product := hPost_near_the_product)
-- ==== Post_near_the_product.lean ====
abbrev S1024x4096 : Shape := ⟨2, ![1024, 4096]⟩
abbrev S4096x1024 : Shape := ⟨2, ![4096, 1024]⟩
abbrev S8192x1024 : Shape := ⟨2, ![8192, 1024]⟩
abbrev S1024x1024 : Shape := ⟨2, ![1024, 1024]⟩
abbrev S1024x8x512 : Shape := ⟨3, ![1024, 8, 512]⟩
abbrev S8x512x1024 : Shape := ⟨3, ![8, 512, 1024]⟩
abbrev S8x1024x1024 : Shape := ⟨3, ![8, 1024, 1024]⟩
abbrev S_ : Shape := ⟨0, ![]⟩
abbrev S1x1024x1024 : Shape := ⟨3, ![1, 1024, 1024]⟩

class Facts : Prop where
  bitsLt_bf16_f32 : FTy.bits .bf16 < FTy.bits .f32
  shapeCasts_S1024x4096_S1024x8x512 : S1024x4096.ShapeCasts S1024x8x512
  shapeCasts_S4096x1024_S8x512x1024 : S4096x1024.ShapeCasts S8x512x1024
  bcast_S_S8x1024x1024 : S_.BroadcastsInDim S8x1024x1024 (![] : Fin 0 → Fin S8x1024x1024.rank)
  reducesTo_S8x1024x1024_S1024x1024_d0 : S8x1024x1024.ReducesTo [0] S1024x1024
  h_S_ : 0 < S_.numel
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  shapeCasts_S8192x1024_S8x1024x1024 : S8192x1024.ShapeCasts S8x1024x1024
  bcast_S1x1024x1024_S8x1024x1024_0_1_2 : S1x1024x1024.BroadcastsInDim S8x1024x1024 (![0, 1, 2] : Fin 3 → Fin S8x1024x1024.rank)
  dot_S1024x4096_S4096x1024_S1024x1024_1_0_0_1_n_n_wf : DotDims.WF S1024x4096 S4096x1024 S1024x1024 [1] [0] [0] [1] [] []
  dot_S1024x8x512_S8x512x1024_S8x1024x1024_2_1_0_2_1_0_wf : DotDims.WF S1024x8x512 S8x512x1024 S8x1024x1024 [2] [1] [0] [2] [1] [0]

variable [Facts]

def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x8x512_S8x512x1024_S8x1024x1024_2_1_0_2_1_0 : DotDims S1024x8x512 S8x512x1024 S8x1024x1024 where
  lhsContracting := [2]
  rhsContracting := [1]
  lhsNonContracting := [0]
  rhsNonContracting := [2]
  lhsBatch := [1]
  rhsBatch := [0]
  wf := dot_S1024x8x512_S8x512x1024_S8x1024x1024_2_1_0_2_1_0_wf
def fn_where {F : FTy → Type} [FloatOps F] (arg0 : IVec S1x1024x1024 1) (arg1 : IVec S8x1024x1024 1) (arg2 : IVec S_ 1) : IVec S8x1024x1024 1 :=
  let v0 : IVec S8x1024x1024 1 := broadcastInDim S8x1024x1024 ![0, 1, 2] bcast_S1x1024x1024_S8x1024x1024_0_1_2 arg0
  let v1 : IVec S8x1024x1024 1 := broadcastInDim S8x1024x1024 ![] bcast_S_S8x1024x1024 arg2
  let v2 : IVec S8x1024x1024 1 := select v0 arg1 v1
  v2

def fn_part1 {F : FTy → Type} [FloatOps F] (main_v14 : IVec S1x1024x1024 1) (main_v19 : FVec F S8x1024x1024 .f32) (main_cst_1 : FVec F S_ .f32) : IVec S8x1024x1024 1 :=
  let main_v20 : FVec F S8x1024x1024 .f32 := broadcastInDim S8x1024x1024 ![] bcast_S_S8x1024x1024 main_cst_1
  let main_v21 : IVec S8x1024x1024 1 := cmpf .ole main_v19 main_v20
  let main_c_2 : IVec S_ 1 := constantI S_ 1 1#1
  let main_v22 : IVec S8x1024x1024 1 := fn_where (F := F) main_v14 main_v21 main_c_2
  main_v22

def fn {F : FTy → Type} [FloatOps F] (main_arg0 : FVec F S1024x4096 .bf16) (main_arg1 : FVec F S4096x1024 .bf16) (main_arg2 : FVec F S8192x1024 .f32) : IVec S8x1024x1024 1 :=
  let main_v0 : FVec F S1024x4096 .f32 := (extf .f32 · bitsLt_bf16_f32) main_arg0
  let main_v1 : FVec F S4096x1024 .f32 := (extf .f32 · bitsLt_bf16_f32) main_arg1
  let main_v2 : FVec F S1024x1024 .f32 := (fun l r => Host.dotGeneral dot_S1024x4096_S4096x1024_S1024x1024_1_0_0_1_n_n none l r) main_v0 main_v1
  let main_v3 : FVec F S1024x8x512 .f32 := shapeCast S1024x8x512 main_v0 shapeCasts_S1024x4096_S1024x8x512
  let main_v4 : FVec F S8x512x1024 .f32 := shapeCast S8x512x1024 main_v1 shapeCasts_S4096x1024_S8x512x1024
  let main_v5 : FVec F S8x1024x1024 .f32 := (fun l r => Host.dotGeneral dot_S1024x8x512_S8x512x1024_S8x1024x1024_2_1_0_2_1_0 none l r) main_v3 main_v4
  let main_v6 : FVec F S8x1024x1024 .f32 := Host.absf main_v5
  let main_cst : FVec F S_ .f32 := constant S_ .f32 0x42FE0000#32
  let main_v7 : FVec F S8x1024x1024 .f32 := broadcastInDim S8x1024x1024 ![] bcast_S_S8x1024x1024 main_cst
  let main_v8 : IVec S8x1024x1024 1 := cmpf .ole main_v6 main_v7
  let main_c : IVec S_ 1 := constantI S_ 1 1#1
  let main_v9 : IVec S1024x1024 1 := (fun x v => Host.reduce IntOp.andi x v reducesTo_S8x1024x1024_S1024x1024_d0 h_S_) main_v8 main_c
  let main_v10 : FVec F S1024x1024 .f32 := Host.absf main_v2
  let main_cst_0 : FVec F S_ .f32 := constant S_ .f32 0x437A0000#32
  let main_v11 : FVec F S1024x1024 .f32 := broadcastInDim S1024x1024 ![] bcast_S_S1024x1024 main_cst_0
  let main_v12 : IVec S1024x1024 1 := cmpf .ole main_v10 main_v11
  let main_v13 : IVec S1024x1024 1 := andi main_v9 main_v12
  let main_v14 : IVec S1x1024x1024 1 := broadcastInDim S1x1024x1024 ![1, 2] bcast_S1024x1024_S1x1024x1024_1_2 main_v13
  let main_v15 : FVec F S8x1024x1024 .f32 := shapeCast S8x1024x1024 main_arg2 shapeCasts_S8192x1024_S8x1024x1024
  let main_v16 : FVec F S1x1024x1024 .f32 := broadcastInDim S1x1024x1024 ![1, 2] bcast_S1024x1024_S1x1024x1024_1_2 main_v2
  let main_v17 : FVec F S8x1024x1024 .f32 := broadcastInDim S8x1024x1024 ![0, 1, 2] bcast_S1x1024x1024_S8x1024x1024_0_1_2 main_v16
  let main_v18 : FVec F S8x1024x1024 .f32 := subf main_v15 main_v17
  let main_v19 : FVec F S8x1024x1024 .f32 := Host.absf main_v18
  let main_cst_1 : FVec F S_ .f32 := constant S_ .f32 0x40900000#32
  fn_part1 (F := F) main_v14 main_v19 main_cst_1
-- ==== Kernel.lean ====
abbrev S1024x512 : Shape := ⟨2, ![1024, 512]⟩
abbrev S512x1024 : Shape := ⟨2, ![512, 1024]⟩
abbrev S1024x1024 : Shape := ⟨2, ![1024, 1024]⟩
abbrev S128x1024 : Shape := ⟨2, ![128, 1024]⟩
abbrev S2x8x128x512 : Shape := ⟨4, ![2, 8, 128, 512]⟩
abbrev S2x7 : Shape := ⟨2, ![2, 7]⟩
abbrev S2x8 : Shape := ⟨2, ![2, 8]⟩
abbrev S_ : Shape := ⟨0, ![]⟩
abbrev S128x512 : Shape := ⟨2, ![128, 512]⟩
abbrev S512x512 : Shape := ⟨2, ![512, 512]⟩
abbrev S1x1 : Shape := ⟨2, ![1, 1]⟩
abbrev S1x1x128x512 : Shape := ⟨4, ![1, 1, 128, 512]⟩

abbrev nBuf : Space → Nat
  | .hbm => 3
  | .vmem => 10
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S1024x1024, .f32⟩
  | .local _ .vmem, ⟨0, _⟩ => ⟨S1024x512, .bf16⟩
  | .local _ .vmem, ⟨1, _⟩ => ⟨S512x1024, .bf16⟩
  | .local _ .vmem, ⟨2, _⟩ => ⟨S1024x1024, .f32⟩
  | .local _ .vmem, ⟨3, _⟩ => ⟨S1024x512, .bf16⟩
  | .local _ .vmem, ⟨4, _⟩ => ⟨S512x1024, .bf16⟩
  | .local _ .vmem, ⟨5, _⟩ => ⟨S128x1024, .f32⟩
  | .local _ .vmem, ⟨6, _⟩ => ⟨S1024x1024, .i8⟩
  | .local _ .vmem, ⟨7, _⟩ => ⟨S128x1024, .i8⟩
  | .local _ .vmem, ⟨8, _⟩ => ⟨S2x8x128x512, .i8⟩
  | .local _ .vmem, ⟨9, _⟩ => ⟨S2x8x128x512, .i8⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c7_i32 : BitVec 32 := 7#32
  let v8 : BitVec 32 := Scalar.xori v7 c7_i32
  let c3_i32_1 : BitVec 32 := 3#32
  let v9 : BitVec 32 := Scalar.andi v8 c3_i32_1
  let c1_i32_2 : BitVec 32 := 1#32
  let v10 : BitVec 32 := Scalar.shrsi v9 c1_i32_2
  let v11 : BitVec 32 := Scalar.xori v9 v10
  let c4_i32_3 : BitVec 32 := 4#32
  let v12 : BitVec 32 := Scalar.andi v8 c4_i32_3
  let v13 : BitVec 32 := Scalar.ori v11 v12
  let c1_i32_26 : BitVec 32 := 1#32
  let v51 : BitVec 32 := Scalar.muli v13 c1_i32_26
  let v52 : BitVec 32 := Scalar.addi c0_i32 v51
  v52.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c6_i32 : BitVec 32 := 6#32
  let v14 : BitVec 32 := Scalar.xori v7 c6_i32
  let c3_i32_4 : BitVec 32 := 3#32
  let v15 : BitVec 32 := Scalar.andi v14 c3_i32_4
  let c1_i32_5 : BitVec 32 := 1#32
  let v16 : BitVec 32 := Scalar.shrsi v15 c1_i32_5
  let v17 : BitVec 32 := Scalar.xori v15 v16
  let c4_i32_6 : BitVec 32 := 4#32
  let v18 : BitVec 32 := Scalar.andi v14 c4_i32_6
  let v19 : BitVec 32 := Scalar.ori v17 v18
  let c1_i32_28 : BitVec 32 := 1#32
  let v53 : BitVec 32 := Scalar.muli v19 c1_i32_28
  let v54 : BitVec 32 := Scalar.addi c0_i32_29 v53
  v54.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c5_i32 : BitVec 32 := 5#32
  let v20 : BitVec 32 := Scalar.xori v7 c5_i32
  let c3_i32_7 : BitVec 32 := 3#32
  let v21 : BitVec 32 := Scalar.andi v20 c3_i32_7
  let c1_i32_8 : BitVec 32 := 1#32
  let v22 : BitVec 32 := Scalar.shrsi v21 c1_i32_8
  let v23 : BitVec 32 := Scalar.xori v21 v22
  let c4_i32_9 : BitVec 32 := 4#32
  let v24 : BitVec 32 := Scalar.andi v20 c4_i32_9
  let v25 : BitVec 32 := Scalar.ori v23 v24
  let c1_i32_31 : BitVec 32 := 1#32
  let v55 : BitVec 32 := Scalar.muli v25 c1_i32_31
  let v56 : BitVec 32 := Scalar.addi c0_i32_32 v55
  v56.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c3_i32_10 : BitVec 32 := 3#32
  let v26 : BitVec 32 := Scalar.xori v7 c3_i32_10
  let c3_i32_11 : BitVec 32 := 3#32
  let v27 : BitVec 32 := Scalar.andi v26 c3_i32_11
  let c1_i32_12 : BitVec 32 := 1#32
  let v28 : BitVec 32 := Scalar.shrsi v27 c1_i32_12
  let v29 : BitVec 32 := Scalar.xori v27 v28
  let c4_i32_13 : BitVec 32 := 4#32
  let v30 : BitVec 32 := Scalar.andi v26 c4_i32_13
  let v31 : BitVec 32 := Scalar.ori v29 v30
  let c1_i32_34 : BitVec 32 := 1#32
  let v57 : BitVec 32 := Scalar.muli v31 c1_i32_34
  let v58 : BitVec 32 := Scalar.addi c0_i32_35 v57
  v58.toNat
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c4_i32_14 : BitVec 32 := 4#32
  let v32 : BitVec 32 := Scalar.xori v7 c4_i32_14
  let c3_i32_15 : BitVec 32 := 3#32
  let v33 : BitVec 32 := Scalar.andi v32 c3_i32_15
  let c1_i32_16 : BitVec 32 := 1#32
  let v34 : BitVec 32 := Scalar.shrsi v33 c1_i32_16
  let v35 : BitVec 32 := Scalar.xori v33 v34
  let c4_i32_17 : BitVec 32 := 4#32
  let v36 : BitVec 32 := Scalar.andi v32 c4_i32_17
  let v37 : BitVec 32 := Scalar.ori v35 v36
  let c1_i32_37 : BitVec 32 := 1#32
  let v59 : BitVec 32 := Scalar.muli v37 c1_i32_37
  let v60 : BitVec 32 := Scalar.addi c0_i32_38 v59
  v60.toNat
def k0_dev6 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32 : BitVec 32 := 2#32
  let v38 : BitVec 32 := Scalar.xori v7 c2_i32
  let c3_i32_18 : BitVec 32 := 3#32
  let v39 : BitVec 32 := Scalar.andi v38 c3_i32_18
  let c1_i32_19 : BitVec 32 := 1#32
  let v40 : BitVec 32 := Scalar.shrsi v39 c1_i32_19
  let v41 : BitVec 32 := Scalar.xori v39 v40
  let c4_i32_20 : BitVec 32 := 4#32
  let v42 : BitVec 32 := Scalar.andi v38 c4_i32_20
  let v43 : BitVec 32 := Scalar.ori v41 v42
  let c1_i32_40 : BitVec 32 := 1#32
  let v61 : BitVec 32 := Scalar.muli v43 c1_i32_40
  let v62 : BitVec 32 := Scalar.addi c0_i32_41 v61
  v62.toNat
def k0_dev7 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_21 : BitVec 32 := 1#32
  let v44 : BitVec 32 := Scalar.xori v7 c1_i32_21
  let c3_i32_22 : BitVec 32 := 3#32
  let v45 : BitVec 32 := Scalar.andi v44 c3_i32_22
  let c1_i32_23 : BitVec 32 := 1#32
  let v46 : BitVec 32 := Scalar.shrsi v45 c1_i32_23
  let v47 : BitVec 32 := Scalar.xori v45 v46
  let c4_i32_24 : BitVec 32 := 4#32
  let v48 : BitVec 32 := Scalar.andi v44 c4_i32_24
  let v49 : BitVec 32 := Scalar.ori v47 v48
  let c1_i32_43 : BitVec 32 := 1#32
  let v63 : BitVec 32 := Scalar.muli v49 c1_i32_43
  let v64 : BitVec 32 := Scalar.addi c0_i32_44 v63
  v64.toNat
def k0_off1 (d0 : Dev nD) (c7_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let v8 : BitVec 32 := Scalar.xori v7 c7_i32
  let c3_i32_1 : BitVec 32 := 3#32
  let v9 : BitVec 32 := Scalar.andi v8 c3_i32_1
  let c1_i32_2 : BitVec 32 := 1#32
  let v10 : BitVec 32 := Scalar.shrsi v9 c1_i32_2
  let v11 : BitVec 32 := Scalar.xori v9 v10
  let c4_i32_3 : BitVec 32 := 4#32
  let v12 : BitVec 32 := Scalar.andi v8 c4_i32_3
  let v13 : BitVec 32 := Scalar.ori v11 v12
  let c128_i32 : BitVec 32 := 128#32
  let v75 : BitVec 32 := Scalar.muli v13 c128_i32
  let v76 : Index := Scalar.indexCast v75
  let c0_53 : Index := 0#32
  ![v76.toNat, 0]
def k0_off2 (d0 : Dev nD) (c7_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let v8 : BitVec 32 := Scalar.xori v7 c7_i32
  let c3_i32_1 : BitVec 32 := 3#32
  let v9 : BitVec 32 := Scalar.andi v8 c3_i32_1
  let c1_i32_2 : BitVec 32 := 1#32
  let v10 : BitVec 32 := Scalar.shrsi v9 c1_i32_2
  let v11 : BitVec 32 := Scalar.xori v9 v10
  let c4_i32_3 : BitVec 32 := 4#32
  let v12 : BitVec 32 := Scalar.andi v8 c4_i32_3
  let v13 : BitVec 32 := Scalar.ori v11 v12
  let c128_i32 : BitVec 32 := 128#32
  let v75 : BitVec 32 := Scalar.muli v13 c128_i32
  let v86 : Index := Scalar.indexCast v75
  let c0_58 : Index := 0#32
  ![v86.toNat, 0]
def k0_off3 (d0 : Dev nD) : Fin 2 → Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off4 (d0 : Dev nD) : Fin 4 → Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_65 : BitVec 32 := 0#32
  let c0_i32_66 : BitVec 32 := 0#32
  ![0, v2.toNat, 0, 0]
def k0_off5 (d0 : Dev nD) (c7_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let v8 : BitVec 32 := Scalar.xori v7 c7_i32
  let c3_i32_1 : BitVec 32 := 3#32
  let v9 : BitVec 32 := Scalar.andi v8 c3_i32_1
  let c1_i32_2 : BitVec 32 := 1#32
  let v10 : BitVec 32 := Scalar.shrsi v9 c1_i32_2
  let v11 : BitVec 32 := Scalar.xori v9 v10
  let c4_i32_3 : BitVec 32 := 4#32
  let v12 : BitVec 32 := Scalar.andi v8 c4_i32_3
  let v13 : BitVec 32 := Scalar.ori v11 v12
  let c128_i32 : BitVec 32 := 128#32
  let v75 : BitVec 32 := Scalar.muli v13 c128_i32
  let c0_i32_67 : BitVec 32 := 0#32
  ![v75.toNat, 0]
def k0_dev8 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c7_i32 : BitVec 32 := 7#32
  let v8 : BitVec 32 := Scalar.xori v7 c7_i32
  let c3_i32_1 : BitVec 32 := 3#32
  let v9 : BitVec 32 := Scalar.andi v8 c3_i32_1
  let c1_i32_2 : BitVec 32 := 1#32
  let v10 : BitVec 32 := Scalar.shrsi v9 c1_i32_2
  let v11 : BitVec 32 := Scalar.xori v9 v10
  let c4_i32_3 : BitVec 32 := 4#32
  let v12 : BitVec 32 := Scalar.andi v8 c4_i32_3
  let v13 : BitVec 32 := Scalar.ori v11 v12
  let c1_i32_63 : BitVec 32 := 1#32
  let v90 : BitVec 32 := Scalar.muli v13 c1_i32_63
  let v91 : BitVec 32 := Scalar.addi c0_i32_64 v90
  v91.toNat
def k0_dev9 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c6_i32 : BitVec 32 := 6#32
  let v14 : BitVec 32 := Scalar.xori v7 c6_i32
  let c3_i32_4 : BitVec 32 := 3#32
  let v15 : BitVec 32 := Scalar.andi v14 c3_i32_4
  let c1_i32_5 : BitVec 32 := 1#32
  let v16 : BitVec 32 := Scalar.shrsi v15 c1_i32_5
  let v17 : BitVec 32 := Scalar.xori v15 v16
  let c4_i32_6 : BitVec 32 := 4#32
  let v18 : BitVec 32 := Scalar.andi v14 c4_i32_6
  let v19 : BitVec 32 := Scalar.ori v17 v18
  let c1_i32_80 : BitVec 32 := 1#32
  let v114 : BitVec 32 := Scalar.muli v19 c1_i32_80
  let v115 : BitVec 32 := Scalar.addi c0_i32_81 v114
  v115.toNat
def k0_dev10 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c5_i32 : BitVec 32 := 5#32
  let v20 : BitVec 32 := Scalar.xori v7 c5_i32
  let c3_i32_7 : BitVec 32 := 3#32
  let v21 : BitVec 32 := Scalar.andi v20 c3_i32_7
  let c1_i32_8 : BitVec 32 := 1#32
  let v22 : BitVec 32 := Scalar.shrsi v21 c1_i32_8
  let v23 : BitVec 32 := Scalar.xori v21 v22
  let c4_i32_9 : BitVec 32 := 4#32
  let v24 : BitVec 32 := Scalar.andi v20 c4_i32_9
  let v25 : BitVec 32 := Scalar.ori v23 v24
  let c1_i32_97 : BitVec 32 := 1#32
  let v138 : BitVec 32 := Scalar.muli v25 c1_i32_97
  let v139 : BitVec 32 := Scalar.addi c0_i32_98 v138
  v139.toNat
def k0_dev11 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c3_i32_10 : BitVec 32 := 3#32
  let v26 : BitVec 32 := Scalar.xori v7 c3_i32_10
  let c3_i32_11 : BitVec 32 := 3#32
  let v27 : BitVec 32 := Scalar.andi v26 c3_i32_11
  let c1_i32_12 : BitVec 32 := 1#32
  let v28 : BitVec 32 := Scalar.shrsi v27 c1_i32_12
  let v29 : BitVec 32 := Scalar.xori v27 v28
  let c4_i32_13 : BitVec 32 := 4#32
  let v30 : BitVec 32 := Scalar.andi v26 c4_i32_13
  let v31 : BitVec 32 := Scalar.ori v29 v30
  let c1_i32_114 : BitVec 32 := 1#32
  let v162 : BitVec 32 := Scalar.muli v31 c1_i32_114
  let v163 : BitVec 32 := Scalar.addi c0_i32_115 v162
  v163.toNat
def k0_dev12 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c4_i32_14 : BitVec 32 := 4#32
  let v32 : BitVec 32 := Scalar.xori v7 c4_i32_14
  let c3_i32_15 : BitVec 32 := 3#32
  let v33 : BitVec 32 := Scalar.andi v32 c3_i32_15
  let c1_i32_16 : BitVec 32 := 1#32
  let v34 : BitVec 32 := Scalar.shrsi v33 c1_i32_16
  let v35 : BitVec 32 := Scalar.xori v33 v34
  let c4_i32_17 : BitVec 32 := 4#32
  let v36 : BitVec 32 := Scalar.andi v32 c4_i32_17
  let v37 : BitVec 32 := Scalar.ori v35 v36
  let c1_i32_131 : BitVec 32 := 1#32
  let v186 : BitVec 32 := Scalar.muli v37 c1_i32_131
  let v187 : BitVec 32 := Scalar.addi c0_i32_132 v186
  v187.toNat
def k0_dev13 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32 : BitVec 32 := 2#32
  let v38 : BitVec 32 := Scalar.xori v7 c2_i32
  let c3_i32_18 : BitVec 32 := 3#32
  let v39 : BitVec 32 := Scalar.andi v38 c3_i32_18
  let c1_i32_19 : BitVec 32 := 1#32
  let v40 : BitVec 32 := Scalar.shrsi v39 c1_i32_19
  let v41 : BitVec 32 := Scalar.xori v39 v40
  let c4_i32_20 : BitVec 32 := 4#32
  let v42 : BitVec 32 := Scalar.andi v38 c4_i32_20
  let v43 : BitVec 32 := Scalar.ori v41 v42
  let c1_i32_148 : BitVec 32 := 1#32
  let v210 : BitVec 32 := Scalar.muli v43 c1_i32_148
  let v211 : BitVec 32 := Scalar.addi c0_i32_149 v210
  v211.toNat
def k0_dev14 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_21 : BitVec 32 := 1#32
  let v44 : BitVec 32 := Scalar.xori v7 c1_i32_21
  let c3_i32_22 : BitVec 32 := 3#32
  let v45 : BitVec 32 := Scalar.andi v44 c3_i32_22
  let c1_i32_23 : BitVec 32 := 1#32
  let v46 : BitVec 32 := Scalar.shrsi v45 c1_i32_23
  let v47 : BitVec 32 := Scalar.xori v45 v46
  let c4_i32_24 : BitVec 32 := 4#32
  let v48 : BitVec 32 := Scalar.andi v44 c4_i32_24
  let v49 : BitVec 32 := Scalar.ori v47 v48
  let c1_i32_165 : BitVec 32 := 1#32
  let v234 : BitVec 32 := Scalar.muli v49 c1_i32_165
  let v235 : BitVec 32 := Scalar.addi c0_i32_166 v234
  v235.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_170 : BitVec 32 := 128#32
  let v243 : BitVec 32 := Scalar.muli v2 c128_i32_170
  let v244 : Index := Scalar.indexCast v243
  let c0_171 : Index := 0#32
  ![v244.toNat, 0]
def k0_off7 (d0 : Dev nD) (c7_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let v8 : BitVec 32 := Scalar.xori v7 c7_i32
  let c3_i32_1 : BitVec 32 := 3#32
  let v9 : BitVec 32 := Scalar.andi v8 c3_i32_1
  let c1_i32_2 : BitVec 32 := 1#32
  let v10 : BitVec 32 := Scalar.shrsi v9 c1_i32_2
  let v11 : BitVec 32 := Scalar.xori v9 v10
  let c4_i32_3 : BitVec 32 := 4#32
  let v12 : BitVec 32 := Scalar.andi v8 c4_i32_3
  let v13 : BitVec 32 := Scalar.ori v11 v12
  let c128_i32_177 : BitVec 32 := 128#32
  let v251 : BitVec 32 := Scalar.muli v13 c128_i32_177
  let v262 : Index := Scalar.indexCast v251
  let c512_183 : Index := 512#32
  ![v262.toNat, 512]
def k0_off8 (d0 : Dev nD) : Fin 2 → Nat :=
  let c1_i32_185 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off9 (d0 : Dev nD) : Fin 4 → Nat :=
  let c1_i32_184 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_190 : BitVec 32 := 0#32
  let c0_i32_191 : BitVec 32 := 0#32
  ![1, v2.toNat, 0, 0]
def k0_off10 (d0 : Dev nD) (c7_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let v8 : BitVec 32 := Scalar.xori v7 c7_i32
  let c3_i32_1 : BitVec 32 := 3#32
  let v9 : BitVec 32 := Scalar.andi v8 c3_i32_1
  let c1_i32_2 : BitVec 32 := 1#32
  let v10 : BitVec 32 := Scalar.shrsi v9 c1_i32_2
  let v11 : BitVec 32 := Scalar.xori v9 v10
  let c4_i32_3 : BitVec 32 := 4#32
  let v12 : BitVec 32 := Scalar.andi v8 c4_i32_3
  let v13 : BitVec 32 := Scalar.ori v11 v12
  let c128_i32_177 : BitVec 32 := 128#32
  let v251 : BitVec 32 := Scalar.muli v13 c128_i32_177
  let c512_i32 : BitVec 32 := 512#32
  ![v251.toNat, 512]
def k0_dev15 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c7_i32 : BitVec 32 := 7#32
  let v8 : BitVec 32 := Scalar.xori v7 c7_i32
  let c3_i32_1 : BitVec 32 := 3#32
  let v9 : BitVec 32 := Scalar.andi v8 c3_i32_1
  let c1_i32_2 : BitVec 32 := 1#32
  let v10 : BitVec 32 := Scalar.shrsi v9 c1_i32_2
  let v11 : BitVec 32 := Scalar.xori v9 v10
  let c4_i32_3 : BitVec 32 := 4#32
  let v12 : BitVec 32 := Scalar.andi v8 c4_i32_3
  let v13 : BitVec 32 := Scalar.ori v11 v12
  let c1_i32_188 : BitVec 32 := 1#32
  let v266 : BitVec 32 := Scalar.muli v13 c1_i32_188
  let v267 : BitVec 32 := Scalar.addi c0_i32_189 v266
  v267.toNat
def k0_dev16 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c6_i32 : BitVec 32 := 6#32
  let v14 : BitVec 32 := Scalar.xori v7 c6_i32
  let c3_i32_4 : BitVec 32 := 3#32
  let v15 : BitVec 32 := Scalar.andi v14 c3_i32_4
  let c1_i32_5 : BitVec 32 := 1#32
  let v16 : BitVec 32 := Scalar.shrsi v15 c1_i32_5
  let v17 : BitVec 32 := Scalar.xori v15 v16
  let c4_i32_6 : BitVec 32 := 4#32
  let v18 : BitVec 32 := Scalar.andi v14 c4_i32_6
  let v19 : BitVec 32 := Scalar.ori v17 v18
  let c1_i32_204 : BitVec 32 := 1#32
  let v290 : BitVec 32 := Scalar.muli v19 c1_i32_204
  let v291 : BitVec 32 := Scalar.addi c0_i32_205 v290
  v291.toNat
def k0_dev17 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c5_i32 : BitVec 32 := 5#32
  let v20 : BitVec 32 := Scalar.xori v7 c5_i32
  let c3_i32_7 : BitVec 32 := 3#32
  let v21 : BitVec 32 := Scalar.andi v20 c3_i32_7
  let c1_i32_8 : BitVec 32 := 1#32
  let v22 : BitVec 32 := Scalar.shrsi v21 c1_i32_8
  let v23 : BitVec 32 := Scalar.xori v21 v22
  let c4_i32_9 : BitVec 32 := 4#32
  let v24 : BitVec 32 := Scalar.andi v20 c4_i32_9
  let v25 : BitVec 32 := Scalar.ori v23 v24
  let c1_i32_221 : BitVec 32 := 1#32
  let v314 : BitVec 32 := Scalar.muli v25 c1_i32_221
  let v315 : BitVec 32 := Scalar.addi c0_i32_222 v314
  v315.toNat
def k0_dev18 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c3_i32_10 : BitVec 32 := 3#32
  let v26 : BitVec 32 := Scalar.xori v7 c3_i32_10
  let c3_i32_11 : BitVec 32 := 3#32
  let v27 : BitVec 32 := Scalar.andi v26 c3_i32_11
  let c1_i32_12 : BitVec 32 := 1#32
  let v28 : BitVec 32 := Scalar.shrsi v27 c1_i32_12
  let v29 : BitVec 32 := Scalar.xori v27 v28
  let c4_i32_13 : BitVec 32 := 4#32
  let v30 : BitVec 32 := Scalar.andi v26 c4_i32_13
  let v31 : BitVec 32 := Scalar.ori v29 v30
  let c1_i32_238 : BitVec 32 := 1#32
  let v338 : BitVec 32 := Scalar.muli v31 c1_i32_238
  let v339 : BitVec 32 := Scalar.addi c0_i32_239 v338
  v339.toNat
def k0_dev19 (d0 : Dev nD) : Nat :=
  let c0_i32_256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c4_i32_14 : BitVec 32 := 4#32
  let v32 : BitVec 32 := Scalar.xori v7 c4_i32_14
  let c3_i32_15 : BitVec 32 := 3#32
  let v33 : BitVec 32 := Scalar.andi v32 c3_i32_15
  let c1_i32_16 : BitVec 32 := 1#32
  let v34 : BitVec 32 := Scalar.shrsi v33 c1_i32_16
  let v35 : BitVec 32 := Scalar.xori v33 v34
  let c4_i32_17 : BitVec 32 := 4#32
  let v36 : BitVec 32 := Scalar.andi v32 c4_i32_17
  let v37 : BitVec 32 := Scalar.ori v35 v36
  let c1_i32_255 : BitVec 32 := 1#32
  let v362 : BitVec 32 := Scalar.muli v37 c1_i32_255
  let v363 : BitVec 32 := Scalar.addi c0_i32_256 v362
  v363.toNat
def k0_dev20 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32 : BitVec 32 := 2#32
  let v38 : BitVec 32 := Scalar.xori v7 c2_i32
  let c3_i32_18 : BitVec 32 := 3#32
  let v39 : BitVec 32 := Scalar.andi v38 c3_i32_18
  let c1_i32_19 : BitVec 32 := 1#32
  let v40 : BitVec 32 := Scalar.shrsi v39 c1_i32_19
  let v41 : BitVec 32 := Scalar.xori v39 v40
  let c4_i32_20 : BitVec 32 := 4#32
  let v42 : BitVec 32 := Scalar.andi v38 c4_i32_20
  let v43 : BitVec 32 := Scalar.ori v41 v42
  let c1_i32_272 : BitVec 32 := 1#32
  let v386 : BitVec 32 := Scalar.muli v43 c1_i32_272
  let v387 : BitVec 32 := Scalar.addi c0_i32_273 v386
  v387.toNat
def k0_dev21 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_21 : BitVec 32 := 1#32
  let v44 : BitVec 32 := Scalar.xori v7 c1_i32_21
  let c3_i32_22 : BitVec 32 := 3#32
  let v45 : BitVec 32 := Scalar.andi v44 c3_i32_22
  let c1_i32_23 : BitVec 32 := 1#32
  let v46 : BitVec 32 := Scalar.shrsi v45 c1_i32_23
  let v47 : BitVec 32 := Scalar.xori v45 v46
  let c4_i32_24 : BitVec 32 := 4#32
  let v48 : BitVec 32 := Scalar.andi v44 c4_i32_24
  let v49 : BitVec 32 := Scalar.ori v47 v48
  let c1_i32_289 : BitVec 32 := 1#32
  let v410 : BitVec 32 := Scalar.muli v49 c1_i32_289
  let v411 : BitVec 32 := Scalar.addi c0_i32_290 v410
  v411.toNat
def k0_off11 (d0 : Dev nD) (c7_i32 : BitVec 32) : Fin 2 → Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let v8 : BitVec 32 := Scalar.xori v7 c7_i32
  let c3_i32_1 : BitVec 32 := 3#32
  let v9 : BitVec 32 := Scalar.andi v8 c3_i32_1
  let c1_i32_2 : BitVec 32 := 1#32
  let v10 : BitVec 32 := Scalar.shrsi v9 c1_i32_2
  let v11 : BitVec 32 := Scalar.xori v9 v10
  let c4_i32_3 : BitVec 32 := 4#32
  let v12 : BitVec 32 := Scalar.andi v8 c4_i32_3
  let v13 : BitVec 32 := Scalar.ori v11 v12
  ![0, v13.toNat]
def k0_off12 (d0 : Dev nD) (c7_i32 : BitVec 32) : Fin 4 → Nat :=
  let c0_i32_302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let v8 : BitVec 32 := Scalar.xori v7 c7_i32
  let c3_i32_1 : BitVec 32 := 3#32
  let v9 : BitVec 32 := Scalar.andi v8 c3_i32_1
  let c1_i32_2 : BitVec 32 := 1#32
  let v10 : BitVec 32 := Scalar.shrsi v9 c1_i32_2
  let v11 : BitVec 32 := Scalar.xori v9 v10
  let c4_i32_3 : BitVec 32 := 4#32
  let v12 : BitVec 32 := Scalar.andi v8 c4_i32_3
  let v13 : BitVec 32 := Scalar.ori v11 v12
  let c0_i32_308 : BitVec 32 := 0#32
  let c0_i32_309 : BitVec 32 := 0#32
  ![0, v13.toNat, 0, 0]
def k0_off13 (d0 : Dev nD) (c7_i32 : BitVec 32) : Fin 4 → Nat :=
  let c0_312 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let v8 : BitVec 32 := Scalar.xori v7 c7_i32
  let c3_i32_1 : BitVec 32 := 3#32
  let v9 : BitVec 32 := Scalar.andi v8 c3_i32_1
  let c1_i32_2 : BitVec 32 := 1#32
  let v10 : BitVec 32 := Scalar.shrsi v9 c1_i32_2
  let v11 : BitVec 32 := Scalar.xori v9 v10
  let c4_i32_3 : BitVec 32 := 4#32
  let v12 : BitVec 32 := Scalar.andi v8 c4_i32_3
  let v13 : BitVec 32 := Scalar.ori v11 v12
  let v435 : Index := Scalar.indexCast v13
  let c0_313 : Index := 0#32
  let c0_314 : Index := 0#32
  ![0, v435.toNat, 0, 0]
def k0_dev22 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c7_i32 : BitVec 32 := 7#32
  let v8 : BitVec 32 := Scalar.xori v7 c7_i32
  let c3_i32_1 : BitVec 32 := 3#32
  let v9 : BitVec 32 := Scalar.andi v8 c3_i32_1
  let c1_i32_2 : BitVec 32 := 1#32
  let v10 : BitVec 32 := Scalar.shrsi v9 c1_i32_2
  let v11 : BitVec 32 := Scalar.xori v9 v10
  let c4_i32_3 : BitVec 32 := 4#32
  let v12 : BitVec 32 := Scalar.andi v8 c4_i32_3
  let v13 : BitVec 32 := Scalar.ori v11 v12
  let c1_i32_410 : BitVec 32 := 1#32
  let v531 : BitVec 32 := Scalar.muli v13 c1_i32_410
  let v532 : BitVec 32 := Scalar.addi c0_i32_411 v531
  v532.toNat
def k0_dev23 (d0 : Dev nD) : Nat :=
  let c0_i32_421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c6_i32 : BitVec 32 := 6#32
  let v14 : BitVec 32 := Scalar.xori v7 c6_i32
  let c3_i32_4 : BitVec 32 := 3#32
  let v15 : BitVec 32 := Scalar.andi v14 c3_i32_4
  let c1_i32_5 : BitVec 32 := 1#32
  let v16 : BitVec 32 := Scalar.shrsi v15 c1_i32_5
  let v17 : BitVec 32 := Scalar.xori v15 v16
  let c4_i32_6 : BitVec 32 := 4#32
  let v18 : BitVec 32 := Scalar.andi v14 c4_i32_6
  let v19 : BitVec 32 := Scalar.ori v17 v18
  let c1_i32_420 : BitVec 32 := 1#32
  let v540 : BitVec 32 := Scalar.muli v19 c1_i32_420
  let v541 : BitVec 32 := Scalar.addi c0_i32_421 v540
  v541.toNat
def k0_dev24 (d0 : Dev nD) : Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c5_i32 : BitVec 32 := 5#32
  let v20 : BitVec 32 := Scalar.xori v7 c5_i32
  let c3_i32_7 : BitVec 32 := 3#32
  let v21 : BitVec 32 := Scalar.andi v20 c3_i32_7
  let c1_i32_8 : BitVec 32 := 1#32
  let v22 : BitVec 32 := Scalar.shrsi v21 c1_i32_8
  let v23 : BitVec 32 := Scalar.xori v21 v22
  let c4_i32_9 : BitVec 32 := 4#32
  let v24 : BitVec 32 := Scalar.andi v20 c4_i32_9
  let v25 : BitVec 32 := Scalar.ori v23 v24
  let c1_i32_430 : BitVec 32 := 1#32
  let v549 : BitVec 32 := Scalar.muli v25 c1_i32_430
  let v550 : BitVec 32 := Scalar.addi c0_i32_431 v549
  v550.toNat
def k0_dev25 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c3_i32_10 : BitVec 32 := 3#32
  let v26 : BitVec 32 := Scalar.xori v7 c3_i32_10
  let c3_i32_11 : BitVec 32 := 3#32
  let v27 : BitVec 32 := Scalar.andi v26 c3_i32_11
  let c1_i32_12 : BitVec 32 := 1#32
  let v28 : BitVec 32 := Scalar.shrsi v27 c1_i32_12
  let v29 : BitVec 32 := Scalar.xori v27 v28
  let c4_i32_13 : BitVec 32 := 4#32
  let v30 : BitVec 32 := Scalar.andi v26 c4_i32_13
  let v31 : BitVec 32 := Scalar.ori v29 v30
  let c1_i32_440 : BitVec 32 := 1#32
  let v558 : BitVec 32 := Scalar.muli v31 c1_i32_440
  let v559 : BitVec 32 := Scalar.addi c0_i32_441 v558
  v559.toNat
def k0_dev26 (d0 : Dev nD) : Nat :=
  let c0_i32_451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c4_i32_14 : BitVec 32 := 4#32
  let v32 : BitVec 32 := Scalar.xori v7 c4_i32_14
  let c3_i32_15 : BitVec 32 := 3#32
  let v33 : BitVec 32 := Scalar.andi v32 c3_i32_15
  let c1_i32_16 : BitVec 32 := 1#32
  let v34 : BitVec 32 := Scalar.shrsi v33 c1_i32_16
  let v35 : BitVec 32 := Scalar.xori v33 v34
  let c4_i32_17 : BitVec 32 := 4#32
  let v36 : BitVec 32 := Scalar.andi v32 c4_i32_17
  let v37 : BitVec 32 := Scalar.ori v35 v36
  let c1_i32_450 : BitVec 32 := 1#32
  let v567 : BitVec 32 := Scalar.muli v37 c1_i32_450
  let v568 : BitVec 32 := Scalar.addi c0_i32_451 v567
  v568.toNat
def k0_dev27 (d0 : Dev nD) : Nat :=
  let c0_i32_461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32 : BitVec 32 := 2#32
  let v38 : BitVec 32 := Scalar.xori v7 c2_i32
  let c3_i32_18 : BitVec 32 := 3#32
  let v39 : BitVec 32 := Scalar.andi v38 c3_i32_18
  let c1_i32_19 : BitVec 32 := 1#32
  let v40 : BitVec 32 := Scalar.shrsi v39 c1_i32_19
  let v41 : BitVec 32 := Scalar.xori v39 v40
  let c4_i32_20 : BitVec 32 := 4#32
  let v42 : BitVec 32 := Scalar.andi v38 c4_i32_20
  let v43 : BitVec 32 := Scalar.ori v41 v42
  let c1_i32_460 : BitVec 32 := 1#32
  let v576 : BitVec 32 := Scalar.muli v43 c1_i32_460
  let v577 : BitVec 32 := Scalar.addi c0_i32_461 v576
  v577.toNat
def k0_dev28 (d0 : Dev nD) : Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_21 : BitVec 32 := 1#32
  let v44 : BitVec 32 := Scalar.xori v7 c1_i32_21
  let c3_i32_22 : BitVec 32 := 3#32
  let v45 : BitVec 32 := Scalar.andi v44 c3_i32_22
  let c1_i32_23 : BitVec 32 := 1#32
  let v46 : BitVec 32 := Scalar.shrsi v45 c1_i32_23
  let v47 : BitVec 32 := Scalar.xori v45 v46
  let c4_i32_24 : BitVec 32 := 4#32
  let v48 : BitVec 32 := Scalar.andi v44 c4_i32_24
  let v49 : BitVec 32 := Scalar.ori v47 v48
  let c1_i32_470 : BitVec 32 := 1#32
  let v585 : BitVec 32 := Scalar.muli v49 c1_i32_470
  let v586 : BitVec 32 := Scalar.addi c0_i32_471 v585
  v586.toNat
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_476 : BitVec 32 := 128#32
  let v594 : BitVec 32 := Scalar.muli v2 c128_i32_476
  let v595 : Index := Scalar.indexCast v594
  let c0_477 : Index := 0#32
  ![v595.toNat, 0]
def k0_off15 (d0 : Dev nD) (c7_i32 : BitVec 32) : Fin 2 → Nat :=
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let v8 : BitVec 32 := Scalar.xori v7 c7_i32
  let c3_i32_1 : BitVec 32 := 3#32
  let v9 : BitVec 32 := Scalar.andi v8 c3_i32_1
  let c1_i32_2 : BitVec 32 := 1#32
  let v10 : BitVec 32 := Scalar.shrsi v9 c1_i32_2
  let v11 : BitVec 32 := Scalar.xori v9 v10
  let c4_i32_3 : BitVec 32 := 4#32
  let v12 : BitVec 32 := Scalar.andi v8 c4_i32_3
  let v13 : BitVec 32 := Scalar.ori v11 v12
  ![1, v13.toNat]
def k0_off16 (d0 : Dev nD) (c7_i32 : BitVec 32) : Fin 4 → Nat :=
  let c1_i32_479 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let v8 : BitVec 32 := Scalar.xori v7 c7_i32
  let c3_i32_1 : BitVec 32 := 3#32
  let v9 : BitVec 32 := Scalar.andi v8 c3_i32_1
  let c1_i32_2 : BitVec 32 := 1#32
  let v10 : BitVec 32 := Scalar.shrsi v9 c1_i32_2
  let v11 : BitVec 32 := Scalar.xori v9 v10
  let c4_i32_3 : BitVec 32 := 4#32
  let v12 : BitVec 32 := Scalar.andi v8 c4_i32_3
  let v13 : BitVec 32 := Scalar.ori v11 v12
  let c0_i32_485 : BitVec 32 := 0#32
  let c0_i32_486 : BitVec 32 := 0#32
  ![1, v13.toNat, 0, 0]
def k0_off17 (d0 : Dev nD) (c7_i32 : BitVec 32) : Fin 4 → Nat :=
  let c1 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let v8 : BitVec 32 := Scalar.xori v7 c7_i32
  let c3_i32_1 : BitVec 32 := 3#32
  let v9 : BitVec 32 := Scalar.andi v8 c3_i32_1
  let c1_i32_2 : BitVec 32 := 1#32
  let v10 : BitVec 32 := Scalar.shrsi v9 c1_i32_2
  let v11 : BitVec 32 := Scalar.xori v9 v10
  let c4_i32_3 : BitVec 32 := 4#32
  let v12 : BitVec 32 := Scalar.andi v8 c4_i32_3
  let v13 : BitVec 32 := Scalar.ori v11 v12
  let v605 : Index := Scalar.indexCast v13
  let c0_489 : Index := 0#32
  let c0_490 : Index := 0#32
  ![1, v605.toNat, 0, 0]
def k0_dev29 (d0 : Dev nD) : Nat :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c7_i32 : BitVec 32 := 7#32
  let v8 : BitVec 32 := Scalar.xori v7 c7_i32
  let c3_i32_1 : BitVec 32 := 3#32
  let v9 : BitVec 32 := Scalar.andi v8 c3_i32_1
  let c1_i32_2 : BitVec 32 := 1#32
  let v10 : BitVec 32 := Scalar.shrsi v9 c1_i32_2
  let v11 : BitVec 32 := Scalar.xori v9 v10
  let c4_i32_3 : BitVec 32 := 4#32
  let v12 : BitVec 32 := Scalar.andi v8 c4_i32_3
  let v13 : BitVec 32 := Scalar.ori v11 v12
  let c1_i32_586 : BitVec 32 := 1#32
  let v701 : BitVec 32 := Scalar.muli v13 c1_i32_586
  let v702 : BitVec 32 := Scalar.addi c0_i32_587 v701
  v702.toNat
def k0_dev30 (d0 : Dev nD) : Nat :=
  let c0_i32_597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c6_i32 : BitVec 32 := 6#32
  let v14 : BitVec 32 := Scalar.xori v7 c6_i32
  let c3_i32_4 : BitVec 32 := 3#32
  let v15 : BitVec 32 := Scalar.andi v14 c3_i32_4
  let c1_i32_5 : BitVec 32 := 1#32
  let v16 : BitVec 32 := Scalar.shrsi v15 c1_i32_5
  let v17 : BitVec 32 := Scalar.xori v15 v16
  let c4_i32_6 : BitVec 32 := 4#32
  let v18 : BitVec 32 := Scalar.andi v14 c4_i32_6
  let v19 : BitVec 32 := Scalar.ori v17 v18
  let c1_i32_596 : BitVec 32 := 1#32
  let v710 : BitVec 32 := Scalar.muli v19 c1_i32_596
  let v711 : BitVec 32 := Scalar.addi c0_i32_597 v710
  v711.toNat
def k0_dev31 (d0 : Dev nD) : Nat :=
  let c0_i32_607 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c5_i32 : BitVec 32 := 5#32
  let v20 : BitVec 32 := Scalar.xori v7 c5_i32
  let c3_i32_7 : BitVec 32 := 3#32
  let v21 : BitVec 32 := Scalar.andi v20 c3_i32_7
  let c1_i32_8 : BitVec 32 := 1#32
  let v22 : BitVec 32 := Scalar.shrsi v21 c1_i32_8
  let v23 : BitVec 32 := Scalar.xori v21 v22
  let c4_i32_9 : BitVec 32 := 4#32
  let v24 : BitVec 32 := Scalar.andi v20 c4_i32_9
  let v25 : BitVec 32 := Scalar.ori v23 v24
  let c1_i32_606 : BitVec 32 := 1#32
  let v719 : BitVec 32 := Scalar.muli v25 c1_i32_606
  let v720 : BitVec 32 := Scalar.addi c0_i32_607 v719
  v720.toNat
def k0_dev32 (d0 : Dev nD) : Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c3_i32_10 : BitVec 32 := 3#32
  let v26 : BitVec 32 := Scalar.xori v7 c3_i32_10
  let c3_i32_11 : BitVec 32 := 3#32
  let v27 : BitVec 32 := Scalar.andi v26 c3_i32_11
  let c1_i32_12 : BitVec 32 := 1#32
  let v28 : BitVec 32 := Scalar.shrsi v27 c1_i32_12
  let v29 : BitVec 32 := Scalar.xori v27 v28
  let c4_i32_13 : BitVec 32 := 4#32
  let v30 : BitVec 32 := Scalar.andi v26 c4_i32_13
  let v31 : BitVec 32 := Scalar.ori v29 v30
  let c1_i32_616 : BitVec 32 := 1#32
  let v728 : BitVec 32 := Scalar.muli v31 c1_i32_616
  let v729 : BitVec 32 := Scalar.addi c0_i32_617 v728
  v729.toNat
def k0_dev33 (d0 : Dev nD) : Nat :=
  let c0_i32_627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c4_i32_14 : BitVec 32 := 4#32
  let v32 : BitVec 32 := Scalar.xori v7 c4_i32_14
  let c3_i32_15 : BitVec 32 := 3#32
  let v33 : BitVec 32 := Scalar.andi v32 c3_i32_15
  let c1_i32_16 : BitVec 32 := 1#32
  let v34 : BitVec 32 := Scalar.shrsi v33 c1_i32_16
  let v35 : BitVec 32 := Scalar.xori v33 v34
  let c4_i32_17 : BitVec 32 := 4#32
  let v36 : BitVec 32 := Scalar.andi v32 c4_i32_17
  let v37 : BitVec 32 := Scalar.ori v35 v36
  let c1_i32_626 : BitVec 32 := 1#32
  let v737 : BitVec 32 := Scalar.muli v37 c1_i32_626
  let v738 : BitVec 32 := Scalar.addi c0_i32_627 v737
  v738.toNat
def k0_dev34 (d0 : Dev nD) : Nat :=
  let c0_i32_637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32 : BitVec 32 := 2#32
  let v38 : BitVec 32 := Scalar.xori v7 c2_i32
  let c3_i32_18 : BitVec 32 := 3#32
  let v39 : BitVec 32 := Scalar.andi v38 c3_i32_18
  let c1_i32_19 : BitVec 32 := 1#32
  let v40 : BitVec 32 := Scalar.shrsi v39 c1_i32_19
  let v41 : BitVec 32 := Scalar.xori v39 v40
  let c4_i32_20 : BitVec 32 := 4#32
  let v42 : BitVec 32 := Scalar.andi v38 c4_i32_20
  let v43 : BitVec 32 := Scalar.ori v41 v42
  let c1_i32_636 : BitVec 32 := 1#32
  let v746 : BitVec 32 := Scalar.muli v43 c1_i32_636
  let v747 : BitVec 32 := Scalar.addi c0_i32_637 v746
  v747.toNat
def k0_dev35 (d0 : Dev nD) : Nat :=
  let c0_i32_647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_21 : BitVec 32 := 1#32
  let v44 : BitVec 32 := Scalar.xori v7 c1_i32_21
  let c3_i32_22 : BitVec 32 := 3#32
  let v45 : BitVec 32 := Scalar.andi v44 c3_i32_22
  let c1_i32_23 : BitVec 32 := 1#32
  let v46 : BitVec 32 := Scalar.shrsi v45 c1_i32_23
  let v47 : BitVec 32 := Scalar.xori v45 v46
  let c4_i32_24 : BitVec 32 := 4#32
  let v48 : BitVec 32 := Scalar.andi v44 c4_i32_24
  let v49 : BitVec 32 := Scalar.ori v47 v48
  let c1_i32_646 : BitVec 32 := 1#32
  let v755 : BitVec 32 := Scalar.muli v49 c1_i32_646
  let v756 : BitVec 32 := Scalar.addi c0_i32_647 v755
  v756.toNat
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_652 : BitVec 32 := 128#32
  let v764 : BitVec 32 := Scalar.muli v2 c128_i32_652
  let v765 : Index := Scalar.indexCast v764
  let c512_653 : Index := 512#32
  ![v765.toNat, 512]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x4096 : Shape := ⟨2, ![1024, 4096]⟩
abbrev S4096x1024 : Shape := ⟨2, ![4096, 1024]⟩
abbrev S1024x8x512 : Shape := ⟨3, ![1024, 8, 512]⟩
abbrev S8x512x1024 : Shape := ⟨3, ![8, 512, 1024]⟩
abbrev S8x1024x1024 : Shape := ⟨3, ![8, 1024, 1024]⟩
abbrev S8x8x128x1024 : Shape := ⟨4, ![8, 8, 128, 1024]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x8x1x1 : Shape := ⟨4, ![8, 8, 1, 1]⟩
abbrev S_ : Shape := ⟨0, ![]⟩
abbrev S8x128x1024 : Shape := ⟨3, ![8, 128, 1024]⟩
abbrev S1x8x128x1024 : Shape := ⟨4, ![1, 8, 128, 1024]⟩
abbrev S8192x1024 : Shape := ⟨2, ![8192, 1024]⟩

abbrev nBuf : Space → Nat
  | .hbm => 51
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S1024x4096, .f32⟩
  | .hbm, ⟨3, _⟩ => ⟨S1024x8x512, .f32⟩
  | .hbm, ⟨4, _⟩ => ⟨S4096x1024, .f32⟩
  | .hbm, ⟨5, _⟩ => ⟨S8x512x1024, .f32⟩
  | .hbm, ⟨6, _⟩ => ⟨S8x1024x1024, .f32⟩
  | .hbm, ⟨7, _⟩ => ⟨S8x8x128x1024, .f32⟩
  | .hbm, ⟨8, _⟩ => ⟨S8, .i32⟩
  | .hbm, ⟨9, _⟩ => ⟨S8x1, .i32⟩
  | .hbm, ⟨10, _⟩ => ⟨S8, .i32⟩
  | .hbm, ⟨11, _⟩ => ⟨S1x8, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8x1x1, .i1⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x8x128x1024, .f32⟩
  | .hbm, ⟨20, _⟩ => ⟨S8x8x128x1024, .f32⟩
  | .hbm, ⟨21, _⟩ => ⟨S_, .f32⟩
  | .hbm, ⟨22, _⟩ => ⟨S8x8x128x1024, .f32⟩
  | .hbm, ⟨23, _⟩ => ⟨S8x8x128x1024, .f32⟩
  | .hbm, ⟨24, _⟩ => ⟨S8x8x128x1024, .f32⟩
  | .hbm, ⟨25, _⟩ => ⟨S8x8x128x1024, .i1⟩
  | .hbm, ⟨26, _⟩ => ⟨S8x8x128x1024, .f32⟩
  | .hbm, ⟨27, _⟩ => ⟨S_, .f32⟩
  | .hbm, ⟨28, _⟩ => ⟨S8x128x1024, .f32⟩
  | .hbm, ⟨29, _⟩ => ⟨S_, .f32⟩
  | .hbm, ⟨30, _⟩ => ⟨S8x128x1024, .f32⟩
  | .hbm, ⟨31, _⟩ => ⟨S8x128x1024, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8x128x1024, .f32⟩
  | .hbm, ⟨36, _⟩ => ⟨S8x128x1024, .f32⟩
  | .hbm, ⟨37, _⟩ => ⟨S_, .f32⟩
  | .hbm, ⟨38, _⟩ => ⟨S8x128x1024, .f32⟩
  | .hbm, ⟨39, _⟩ => ⟨S8x128x1024, .f32⟩
  | .hbm, ⟨40, _⟩ => ⟨S8x128x1024, .f32⟩
  | .hbm, ⟨41, _⟩ => ⟨S_, .f32⟩
  | .hbm, ⟨42, _⟩ => ⟨S8x128x1024, .f32⟩
  | .hbm, ⟨43, _⟩ => ⟨S8x128x1024, .f32⟩
  | .hbm, ⟨44, _⟩ => ⟨S1x8x128x1024, .f32⟩
  | .hbm, ⟨45, _⟩ => ⟨S1x8x128x1024, .f32⟩
  | .hbm, ⟨46, _⟩ => ⟨S8x8x128x1024, .i1⟩
  | .hbm, ⟨47, _⟩ => ⟨S8x8x128x1024, .f32⟩
  | .hbm, ⟨48, _⟩ => ⟨S8x8x128x1024, .f32⟩
  | .hbm, ⟨49, _⟩ => ⟨S8x8x128x1024, .f32⟩
  | .hbm, ⟨50, _⟩ => ⟨S8192x1024, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v14 : Ref sig .tc := ⟨.hbm, 23, rfl⟩
abbrev main_v15 : Ref sig .tc := ⟨.hbm, 24, rfl⟩
abbrev main_call2_v0 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_cst_4 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call5_v0 : Ref sig .tc := ⟨.hbm, 46, rfl⟩
abbrev main_call5_v1 : Ref sig .tc := ⟨.hbm, 47, rfl⟩
abbrev main_call5_v2 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== Proof.Proto.lean ====
/-
The exchange as a protocol: who names whom, which semaphore carries what, and what every landing holds.

Each device keeps one tile per peer to send (a quantised partial product), and later one tile to share (its quantised
sum). A transfer is numbered `i` in `0 … 27`: `i / 7` says which of the four rounds of seven it belongs to (columns 0–511
and 512–1023 of the partial products, then the same two halves of the sums), `i % 7` which of the seven peers it goes to.
Peers are mutual: if `q` is peer `k` of `c` then `c` is peer `k` of `q`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Peers -/

/-- A device's place on the cube; the map is its own inverse. -/
def cubeN (r : ℕ) : ℕ := ((r &&& 3) ^^^ ((r &&& 3) >>> 1)) ||| (r &&& 4)

/-- Which cube edges the seven transfers of a round cross. -/
def maskN (k : ℕ) : ℕ := match k % 7 with
  | 0 => 7 | 1 => 6 | 2 => 5 | 3 => 3 | 4 => 4 | 5 => 2 | _ => 1
/-- The same as the word the program computes with. -/
def maskW (k : ℕ) : BitVec 32 := match k % 7 with
  | 0 => 7#32 | 1 => 6#32 | 2 => 5#32 | 3 => 3#32 | 4 => 4#32 | 5 => 2#32 | _ => 1#32

set_option backward.proofsInPublic true in
/-- Peer `k` of device `c` (`k` taken modulo seven). -/
def pr (c : Dev nD) (k : ℕ) : Dev nD := ⟨cubeN (cubeN c.val ^^^ maskN k) % 8, Nat.mod_lt _ (by decide)⟩

theorem maskN_mod (k : ℕ) : maskN (k % 7) = maskN k := by unfold maskN; rw [Nat.mod_mod]
theorem pr_mod (c : Dev nD) (k : ℕ) : pr c (k % 7) = pr c k :=
  Fin.ext (congrArg (fun n => cubeN (cubeN c.val ^^^ n) % 8) (maskN_mod k))

theorem of_lt7 {P : ℕ → Prop} (h : ∀ k : Fin 7, P k.val) (k : ℕ) (hk : k < 7) : P k := h ⟨k, hk⟩

theorem pr_pr (c : Dev nD) (k : ℕ) : pr (pr c k) k = c := by
  rw [← pr_mod, ← pr_mod c]
  exact of_lt7 (P := fun k => pr (pr c k) k = c) (by revert c; decide +kernel) _ (Nat.mod_lt _ (by decide))

theorem pr_ne (c : Dev nD) (k : ℕ) : pr c k ≠ c := by
  rw [← pr_mod]
  exact of_lt7 (P := fun k => pr c k ≠ c) (by revert c; decide +kernel) _ (Nat.mod_lt _ (by decide))

theorem pr_inj7 (c : Dev nD) : Set.InjOn (pr c) (Finset.Ico 0 7 : Finset ℕ) := by
  have h : ∀ c : Dev nD, ∀ a b : Fin 7, pr c a.val = pr c b.val → a = b := by decide +kernel
  intro a ha b hb hab
  have ha' : a < 7 := (Finset.mem_Ico.mp (Finset.mem_coe.mp ha)).2
  have hb' : b < 7 := (Finset.mem_Ico.mp (Finset.mem_coe.mp hb)).2
  exact congrArg Fin.val (h c ⟨a, ha'⟩ ⟨b, hb'⟩ hab)

theorem peers_univ (c : Dev nD) : (Finset.univ : Finset (Dev nD)) = insert c ((Finset.Ico 0 7).image (pr c)) := by
  revert c; decide +kernel

theorem pr_add (c : Dev nD) (g k : ℕ) : pr c (7 * g + k) = pr c k := by
  rw [← pr_mod, Nat.mul_add_mod, pr_mod]

/-- Exchanging a device with its peer `k`. -/
def swap (k : ℕ) : Dev nD ≃ Dev nD := ⟨fun c => pr c k, fun c => pr c k, fun c => pr_pr c k, fun c => pr_pr c k⟩

/-! ## Buffers -/

abbrev stgA : Memref sig .tc .vmem S1024x512 .bf16 := Memref.whole cc0_stg0_0
abbrev stgB : Memref sig .tc .vmem S512x1024 .bf16 := Memref.whole cc0_stg1_0
abbrev outM : Memref sig .tc .vmem S1024x1024 .f32 := Memref.whole cc0_stg2_0
abbrev aM : Memref sig .tc .vmem S1024x512 .bf16 := Memref.whole cc0_scratch0
abbrev bM : Memref sig .tc .vmem S512x1024 .bf16 := Memref.whole cc0_scratch1
abbrev powM : Memref sig .tc .vmem S128x1024 .f32 := Memref.whole cc0_scratch2
abbrev wireM : Memref sig .tc .vmem S1024x1024 .i8 := Memref.whole cc0_scratch3
abbrev agM : Memref sig .tc .vmem S128x1024 .i8 := Memref.whole cc0_scratch4
abbrev rsM : Memref sig .tc .vmem S2x8x128x512 .i8 := Memref.whole cc0_scratch5
abbrev gaM : Memref sig .tc .vmem S2x8x128x512 .i8 := Memref.whole cc0_scratch6
theorem stgAw : stgA.IsWhole := Memref.isWhole_whole _
theorem stgBw : stgB.IsWhole := Memref.isWhole_whole _
theorem outMw : outM.IsWhole := Memref.isWhole_whole _
theorem aMw : aM.IsWhole := Memref.isWhole_whole _
theorem bMw : bM.IsWhole := Memref.isWhole_whole _
theorem powMw : powM.IsWhole := Memref.isWhole_whole _
theorem wireMw : wireM.IsWhole := Memref.isWhole_whole _
theorem agMw : agM.IsWhole := Memref.isWhole_whole _
theorem rsMw : rsM.IsWhole := Memref.isWhole_whole _
theorem gaMw : gaM.IsWhole := Memref.isWhole_whole _

/-! ### Tiles: rows of device `j`, column half `h` -/

theorem tile_inb (h : ℕ) (j : Dev nD) : ∀ a, (![128 * j.val, 512 * (h % 2)] : Fin 2 → ℕ) a + S128x512.size a ≤ S1024x1024.size a := by
  have hj : j.val < 8 := j.isLt
  have hh : h % 2 < 2 := Nat.mod_lt _ (by decide)
  intro a; fin_cases a
  · show 128 * j.val + 128 ≤ 1024; omega
  · show 512 * (h % 2) + 512 ≤ 1024; omega
abbrev tileR (h : ℕ) (j : Dev nD) : Rect S1024x1024 := Rect.unit (s := S1024x1024) ![128 * j.val, 512 * (h % 2)] S128x512.size (tile_inb h j)

theorem row_inb (j : Dev nD) : ∀ a, (![128 * j.val, 0] : Fin 2 → ℕ) a + S128x512.size a ≤ S1024x512.size a := by
  have hj : j.val < 8 := j.isLt
  intro a; fin_cases a
  · show 128 * j.val + 128 ≤ 1024; omega
  · show 0 + 512 ≤ 512; omega
abbrev rowR (j : Dev nD) : Rect S1024x512 := Rect.unit (s := S1024x512) ![128 * j.val, 0] S128x512.size (row_inb j)

theorem col_inb (h : ℕ) : ∀ a, (![0, 512 * (h % 2)] : Fin 2 → ℕ) a + S512x512.size a ≤ S512x1024.size a := by
  have hh : h % 2 < 2 := Nat.mod_lt _ (by decide)
  intro a; fin_cases a
  · show 0 + 512 ≤ 512; omega
  · show 512 * (h % 2) + 512 ≤ 1024; omega
abbrev colR (h : ℕ) : Rect S512x1024 := Rect.unit (s := S512x1024) ![0, 512 * (h % 2)] S512x512.size (col_inb h)

theorem half_inb (h : ℕ) : ∀ a, (![0, 512 * (h % 2)] : Fin 2 → ℕ) a + S128x512.size a ≤ S128x1024.size a := by
  have hh : h % 2 < 2 := Nat.mod_lt _ (by decide)
  intro a; fin_cases a
  · show 0 + 128 ≤ 128; omega
  · show 512 * (h % 2) + 512 ≤ 1024; omega
abbrev halfR (h : ℕ) : Rect S128x1024 := Rect.unit (s := S128x1024) ![0, 512 * (h % 2)] S128x512.size (half_inb h)

theorem slot_inb (h : ℕ) (j : Dev nD) : ∀ a, (![h % 2, j.val, 0, 0] : Fin 4 → ℕ) a + S1x1x128x512.size a ≤ S2x8x128x512.size a := by
  have hj : j.val < 8 := j.isLt
  have hh : h % 2 < 2 := Nat.mod_lt _ (by decide)
  intro a; fin_cases a
  · show h % 2 + 1 ≤ 2; omega
  · show j.val + 1 ≤ 8; omega
  · show 0 + 128 ≤ 128; omega
  · show 0 + 512 ≤ 512; omega
abbrev slotR (h : ℕ) (j : Dev nD) : Rect S2x8x128x512 := Rect.unit (s := S2x8x128x512) ![h % 2, j.val, 0, 0] S1x1x128x512.size (slot_inb h j)

abbrev wtM (h : ℕ) (j : Dev nD) : Memref sig .tc .vmem S128x512 .i8 := wireM.slice (tileR h j) (fun _ => rfl)
abbrev otM (h : ℕ) (j : Dev nD) : Memref sig .tc .vmem S128x512 .f32 := outM.slice (tileR h j) (fun _ => rfl)
abbrev phM (h : ℕ) : Memref sig .tc .vmem S128x512 .f32 := powM.slice (halfR h) (fun _ => rfl)
abbrev ahM (h : ℕ) : Memref sig .tc .vmem S128x512 .i8 := agM.slice (halfR h) (fun _ => rfl)

/-- The receive buffer of round `g`: partial products for `g < 2`, sums after. -/
def bufM (g : ℕ) : Memref sig .tc .vmem S2x8x128x512 .i8 := if g < 2 then rsM else gaM
/-- The landing slot of round `g` for data of device `j`. -/
def slotM (g : ℕ) (j : Dev nD) : Memref sig .tc .vmem S128x512 .i8 :=
  ((bufM g).slice (slotR g j) (fun _ => rfl)).squeeze S128x512 squeezes_S1x1x128x512_S128x512
/-- What transfer `i` of device `c` reads: a tile of the partial products, or a half of the sums. -/
def srcM (c : Dev nD) (i : ℕ) : Memref sig .tc .vmem S128x512 .i8 := if i < 14 then wtM (i / 7) (pr c i) else ahM (i / 7)

/-! ## Semaphores -/

abbrev barS : Sem sig := (SemArray.scalar (sig.barrier 0 rfl) : Sems sig S_).sem

set_option backward.proofsInPublic true in
/-- DMA semaphore number `n`. -/
def dsem (n : ℕ) : DmaSem sig := ⟨n % 63, Nat.mod_lt _ (by decide)⟩

abbrev barCell (c : Dev nD) : GSem nD τ sig := ((c : Thread nD τ), .reg barS)
/-- Number of the semaphore that tells the sender transfer `i` has left; -/
def sIx (i : ℕ) : ℕ := 3 + i + 16 * (i / 14)
/-- number of the semaphore that tells the receiver device `j`'s data of round `g` has landed. -/
def rIx (g : ℕ) (j : Dev nD) : ℕ := 17 + 8 * g + 14 * (g / 2) + j.val
abbrev sCell (c : Dev nD) (i : ℕ) : GSem nD τ sig := ((c : Thread nD τ), .dma (dsem (sIx i)))
abbrev rCell (c : Dev nD) (g : ℕ) (j : Dev nD) : GSem nD τ sig := ((c : Thread nD τ), .dma (dsem (rIx g j)))

/-- One landing's credit: that of a tile of 128 rows and 512 columns of bytes. -/
abbrev N : ℕ := (slotM 0 0).view.dmaCredit
theorem N_pos : 0 < N := View.dmaCredit_pos _ (by decide)
theorem N_slot (g : ℕ) (j : Dev nD) : (slotM g j).view.dmaCredit = N := by
  unfold N slotM bufM; split <;> rfl
theorem N_src (c : Dev nD) (i : ℕ) : (srcM c i).view.dmaCredit = N := by
  unfold srcM; split <;> rfl

/-! ## Contents -/

def astg (c : Dev nD) : (cc0_stg0_0 : Ref sig .tc).ty.Contents (Elt F) :=
  (win0_0.blk (0 : Fin 1)).view.read (Elt F) ((s₀ m ρ).mem ((c : Thread nD τ).loc main_arg0))
def bstg (c : Dev nD) : (cc0_stg1_0 : Ref sig .tc).ty.Contents (Elt F) :=
  (win0_1.blk (0 : Fin 1)).view.read (Elt F) ((s₀ m ρ).mem ((c : Thread nD τ).loc main_arg1))

def A16 (c : Dev nD) : Vec F S1024x512 .bf16 := k0_pay1 (astg m ρ c)
def B16 (c : Dev nD) : Vec F S512x1024 .bf16 := k0_pay2 (bstg m ρ c)
/-- Rows of device `j` of `c`'s left factor; a column half of its right factor. -/
def arow (c j : Dev nD) : Vec F S128x512 .bf16 := fun x => A16 m ρ c ((rowR j).emb x)
def bcol (c : Dev nD) (h : ℕ) : Vec F S512x512 .bf16 := fun x => B16 m ρ c ((colR h).emb x)

/-- What `c` sends `j`: `j`'s rows of `c`'s partial product, quantised; -/
def WQ (c j : Dev nD) (h : ℕ) : Vec F S128x512 .i8 := k0_pay3 (arow m ρ c j) (bcol m ρ c h)
/-- what it keeps of it: its own rows. -/
def PO (c : Dev nD) (h : ℕ) : Vec F S128x512 .f32 := k0_pay24 (k0_pay23 (arow m ρ c c) (bcol m ρ c h))

/-- A tile as the four-axis load of its slot reads it. -/
def lift4 {α : Type} (X : S128x512.Idx → α) : S1x1x128x512.Idx → α :=
  fun x => X ((Shape.reshapeEquiv (s := S1x1x128x512) (s' := S128x512) (Shape.Squeezes.numel_eq squeezes_S1x1x128x512_S128x512)).symm x)

/-- What peer `k` sent `c`, as loaded. -/
def RX (c : Dev nD) (h k : ℕ) : Vec F S1x1x128x512 .i8 := lift4 (WQ m ρ (pr c k) c h)
/-- The sixteen-bit sum of the first six; -/
def SUM6 (c : Dev nD) (h : ℕ) : IVec S128x512 16 :=
  k0_pay27 (k0_pay26 (k0_pay25 (RX m ρ c h 0) (RX m ρ c h 1)) (RX m ρ c h 2) (RX m ρ c h 3)) (RX m ρ c h 4) (RX m ρ c h 5)
/-- `c`'s rows of the result; -/
def RED (c : Dev nD) (h : ℕ) : Vec F S128x512 .f32 := k0_pay28 (SUM6 m ρ c h) (RX m ρ c h 6) (PO m ρ c h)
/-- and their quantised halves, which it shares. -/
def AG (c : Dev nD) (h : ℕ) : Vec F S128x512 .i8 := k0_pay29 (SUM6 m ρ c h) (RX m ρ c h 6) (PO m ρ c h)
/-- What `c` writes for the rows of device `j`. -/
def OT (c : Dev nD) (h : ℕ) (j : Dev nD) : Vec F S128x512 .f32 := if j = c then RED m ρ c h else k0_pay36 (lift4 (AG m ρ j h))

/-- What lands in `c`'s slot of round `g` from device `j`. -/
def slotV (c : Dev nD) (g : ℕ) (j : Dev nD) : Vec F S128x512 .i8 := if g < 2 then WQ m ρ j c g else AG m ρ j (g - 2)
/-- What transfer `i` of device `c` carries. -/
def srcV (c : Dev nD) (i : ℕ) : Vec F S128x512 .i8 := if i < 14 then WQ m ρ c (pr c i) (i / 7) else AG m ρ c (i / 7 - 2)

theorem slotV_src (c : Dev nD) (i : ℕ) (hi : i < 28) : slotV m ρ (pr c i) (i / 7) c = srcV m ρ c i := by
  unfold slotV srcV
  by_cases h : i < 14
  · rw [if_pos h, if_pos (by omega)]
  · rw [if_neg h, if_neg (by omega)]

/-- The share of its source transfer `i` is given: the tile outright, or one of seven shares of the half all seven read. -/
def srcSh (i : ℕ) : PosShare TreeShare := if i < 14 then fullShare else Transfers.shareTokN fullShare (i % 7)

/-! ## What is handed over -/

def slotRes (c : Dev nD) (g : ℕ) (j : Dev nD) : sProp 𝕄 := owns (c : Thread nD τ) (slotM g j) fullShare (slotV m ρ c g j)
def slotAny (c : Dev nD) (g : ℕ) (j : Dev nD) : sProp 𝕄 := iprop(∃ X, owns (c : Thread nD τ) (slotM g j) fullShare X)
def srcRes (c : Dev nD) (i : ℕ) : sProp 𝕄 := owns (c : Thread nD τ) (srcM c i) (srcSh i) (srcV m ρ c i)

/-- Consecutive entries `a ≤ i < b`. -/
abbrev seg {M : Type} [URA M] (a b : ℕ) (Φ : ℕ → sProp M) : sProp M := bigSep (Finset.Ico a b) Φ

/-- What peer `k` of `c` hands `c` with its signal: the four landing slots it keeps for `c`. -/
def barPay (c : Dev nD) (k : ℕ) : sProp 𝕄 := seg 0 4 fun g => slotAny (pr c k) g c

instance slotRes_storable (c : Dev nD) (g : ℕ) (j : Dev nD) : BI.Storable (upEmb : UEmb _ 𝕄) (slotRes m ρ c g j) := by unfold slotRes; infer_instance
omit [FloatOps F] in
instance slotAny_storable (c : Dev nD) (g : ℕ) (j : Dev nD) : BI.Storable (upEmb : UEmb _ 𝕄) (slotAny (F := F) c g j) := by unfold slotAny; infer_instance
instance srcRes_storable (c : Dev nD) (i : ℕ) : BI.Storable (upEmb : UEmb _ 𝕄) (srcRes m ρ c i) := by unfold srcRes; infer_instance
omit [FloatOps F] in
instance barPay_storable (c : Dev nD) (k : ℕ) : BI.Storable (upEmb : UEmb _ 𝕄) (barPay (F := F) c k) := by unfold barPay; infer_instance

/-- What the DMA semaphore numbered `n` of device `c` hands over when its credit is in. -/
def dmaPay (c : Dev nD) (n : ℕ) : sProp 𝕄 :=
  if n < 17 then srcRes m ρ c (n - 3)
  else if n < 33 then slotRes m ρ c ((n - 17) / 8) (Fin.ofNat 8 ((n - 17) % 8))
  else if n < 47 then srcRes m ρ c (n - 19)
  else slotRes m ρ c ((n - 47) / 8 + 2) (Fin.ofNat 8 ((n - 47) % 8))

/-- Whether the DMA semaphore numbered `n` of device `c` is used: all but the windows' three and the four slots a
    device would keep for itself. -/
def used (c : Dev nD) (n : ℕ) : Bool :=
  (3 ≤ n && n < 17) || (17 ≤ n && n < 33 && (n - 17) % 8 != c.val) || (33 ≤ n && n < 47) || (47 ≤ n && (n - 47) % 8 != c.val)

/-- The duties of the one round of a semaphore of device `c`. -/
def dutiesOf (c : Dev nD) (sm : SemLoc sig) : Finset ℕ := match sm with
  | .reg _ => Finset.Ico 0 7
  | .dma q => if used c q.val then {0} else ∅

/-- One round: a barrier cell has seven duties of a unit, one per peer; a used DMA cell one duty of a landing's credit. -/
def sched : Rounds.Schedule (GSem nD τ sig) ℕ 𝕄 where
  duties g r := if r = 0 ∧ g.1.2 = .tc then dutiesOf g.1.1 g.2 else ∅
  unitless _ := False
  amount g _ _ := match g.2 with | .reg _ => 1 | .dma _ => N
  payload g _ d := match g.2 with | .reg _ => barPay g.1.1 d | .dma q => dmaPay m ρ g.1.1 q.val
  amount_pos g _ _ _ := by
    rcases g with ⟨t, (s | q)⟩
    · exact Nat.one_pos
    · exact N_pos

instance sched_storable (g : GSem nD τ sig) (r d : ℕ) : BI.Storable (upEmb : UEmb _ 𝕄) ((sched (F := F) m ρ).payload g r d) := by
  rcases g with ⟨t, (s | q)⟩
  · exact barPay_storable _ _
  · show BI.Storable upEmb (dmaPay m ρ t.1 q.val)
    unfold dmaPay
    (repeat' split) <;> infer_instance

section Sched
variable (c : Dev nD)

theorem duties_later (g : GSem nD τ sig) : ∀ r, 1 ≤ r → (sched (F := F) m ρ).duties g r = ∅ :=
  fun r hr => if_neg fun h => by omega
theorem duties_tc (sm : SemLoc sig) : (sched (F := F) m ρ).duties ((c : Thread nD τ), sm) 0 = dutiesOf c sm := by
  dsimp only [sched]; exact if_pos ⟨rfl, rfl⟩
theorem duties_bar : (sched (F := F) m ρ).duties (barCell c) 0 = Finset.Ico 0 7 := duties_tc m ρ c _
theorem duties_dma (n : ℕ) (hn : n < 63) : (sched (F := F) m ρ).duties ((c : Thread nD τ), .dma (dsem n)) 0 = if used c n then {0} else ∅ := by
  rw [duties_tc]
  show (if used c (n % 63) then ({0} : Finset ℕ) else ∅) = _
  rw [Nat.mod_eq_of_lt hn]

theorem sIx_lt (i : ℕ) (hi : i < 28) : sIx i < 63 := by unfold sIx; omega
theorem rIx_lt (g : ℕ) (hg : g < 4) (j : Dev nD) : rIx g j < 63 := by have : j.val < 8 := j.isLt; unfold rIx; omega

theorem used_s (i : ℕ) (hi : i < 28) : used c (sIx i) = true :=
  (show ∀ c : Dev nD, ∀ i : Fin 28, used c (sIx i.val) = true by decide +kernel) c ⟨i, hi⟩
theorem used_r (g : ℕ) (hg : g < 4) (j : Dev nD) : used c (rIx g j) = decide (j ≠ c) :=
  (show ∀ c : Dev nD, ∀ g : Fin 4, ∀ j : Dev nD, used c (rIx g.val j) = decide (j ≠ c) by decide +kernel) c ⟨g, hg⟩ j

theorem duties_s (i : ℕ) (hi : i < 28) : (sched (F := F) m ρ).duties (sCell c i) 0 = {0} := by
  rw [duties_dma m ρ c _ (sIx_lt i hi), used_s c i hi, if_pos rfl]
theorem duties_r (g : ℕ) (hg : g < 4) (j : Dev nD) (hj : j ≠ c) : (sched (F := F) m ρ).duties (rCell c g j) 0 = {0} := by
  rw [duties_dma m ρ c _ (rIx_lt g hg j), used_r c g hg j, decide_eq_true hj, if_pos rfl]
theorem duties_self (g : ℕ) (hg : g < 4) : ∀ r, 0 ≤ r → (sched (F := F) m ρ).duties (rCell c g c) r = ∅ := by
  intro r _
  rcases Nat.eq_zero_or_pos r with rfl | hr
  · rw [duties_dma m ρ c _ (rIx_lt g hg c), used_r c g hg c]; simp
  · exact duties_later m ρ _ r hr

theorem amount_bar (d : ℕ) : (sched (F := F) m ρ).amount (barCell c) 0 d = 1 := rfl
theorem amount_dma (q : DmaSem sig) (d : ℕ) : (sched (F := F) m ρ).amount ((c : Thread nD τ), .dma q) 0 d = N := rfl
theorem payload_bar (k : ℕ) : (sched (F := F) m ρ).payload (barCell c) 0 k = barPay c k := rfl

theorem payload_s (i : ℕ) (hi : i < 28) : (sched (F := F) m ρ).payload (sCell c i) 0 0 = srcRes m ρ c i := by
  show dmaPay m ρ c (sIx i % 63) = _
  rw [Nat.mod_eq_of_lt (sIx_lt i hi)]
  unfold dmaPay sIx
  by_cases h : i < 14
  · rw [if_pos (by omega)]; congr 1; omega
  · rw [if_neg (by omega), if_neg (by omega), if_pos (by omega)]; congr 1; omega

theorem payload_r (g : ℕ) (hg : g < 4) (j : Dev nD) : (sched (F := F) m ρ).payload (rCell c g j) 0 0 = slotRes m ρ c g j := by
  show dmaPay m ρ c (rIx g j % 63) = _
  rw [Nat.mod_eq_of_lt (rIx_lt g hg j)]
  have hj : j.val < 8 := j.isLt
  unfold dmaPay rIx
  by_cases h : g < 2
  · rw [if_neg (by omega), if_pos (by omega)]
    congr 1
    · omega
    · refine Fin.ext ?_
      show (17 + 8 * g + 14 * (g / 2) + j.val - 17) % 8 % 8 = j.val
      obtain rfl | rfl : g = 0 ∨ g = 1 := by omega
      all_goals omega
  · rw [if_neg (by omega), if_neg (by omega), if_neg (by omega)]
    congr 1
    · omega
    · refine Fin.ext ?_
      show (17 + 8 * g + 14 * (g / 2) + j.val - 47) % 8 % 8 = j.val
      obtain rfl | rfl : g = 2 ∨ g = 3 := by omega
      all_goals omega

theorem expect_bar : (sched (F := F) m ρ).expect (barCell c) 0 = 7 := by
  unfold Schedule.expect Schedule.amountOf
  rw [duties_bar, Finset.sum_congr rfl fun d _ => amount_bar m ρ c d]; rfl
theorem expect_s (i : ℕ) (hi : i < 28) : (sched (F := F) m ρ).expect (sCell c i) 0 = N := by
  unfold Schedule.expect Schedule.amountOf; rw [duties_s m ρ c i hi, Finset.sum_singleton, amount_dma]
theorem expect_r (g : ℕ) (hg : g < 4) (j : Dev nD) (hj : j ≠ c) : (sched (F := F) m ρ).expect (rCell c g j) 0 = N := by
  unfold Schedule.expect Schedule.amountOf; rw [duties_r m ρ c g hg j hj, Finset.sum_singleton, amount_dma]

theorem rest_bar : bigSep ((sched (F := F) m ρ).duties (barCell c) 0 \ ∅) (fun d => (sched (F := F) m ρ).payload (barCell c) 0 d) = seg 0 7 (barPay c) := by
  rw [Finset.sdiff_empty, duties_bar]; rfl
theorem rest_s (i : ℕ) (hi : i < 28) : bigSep ((sched (F := F) m ρ).duties (sCell c i) 0 \ ∅) (fun d => (sched (F := F) m ρ).payload (sCell c i) 0 d) = srcRes m ρ c i := by
  rw [Finset.sdiff_empty, duties_s m ρ c i hi, bigSep_singleton, payload_s m ρ c i hi]
theorem rest_r (g : ℕ) (hg : g < 4) (j : Dev nD) (hj : j ≠ c) :
    bigSep ((sched (F := F) m ρ).duties (rCell c g j) 0 \ ∅) (fun d => (sched (F := F) m ρ).payload (rCell c g j) 0 d) = slotRes m ρ c g j := by
  rw [Finset.sdiff_empty, duties_r m ρ c g hg j hj, bigSep_singleton, payload_r m ρ c g hg j]

end Sched

/-! ## What is owed, and the order of the waits -/

/-- The signals still to come from number `s` on, and the landings from transfer `t` on. -/
def Obar (c : Dev nD) (s : ℕ) : CellTallies nD τ sig Unit := ∑ k ∈ Finset.Ico s 7, tallyAt (barCell (pr c k)) () 1
def Ocr (c : Dev nD) (t : ℕ) : CellTallies nD τ sig Unit := ∑ i ∈ Finset.Ico t 28, tallyAt (rCell (pr c i) (i / 7) c) () N
def O₀ (c : Dev nD) : CellTallies nD τ sig Unit := Obar c 0 + Ocr c 0

def L (g : GSem nD τ sig) : Finset Unit := if g.1.2 = .tc then {()} else ∅
/-- Barrier 1, landings of partial products 2, of sums 3, all else 0. -/
def lv (g : GSem nD τ sig) (_ : Unit) : ℕ := match g.2 with
  | .reg _ => 1
  | .dma q => if 17 ≤ q.val ∧ q.val < 33 then 2 else if 47 ≤ q.val then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_r (c : Dev nD) (g : ℕ) (hg : g < 4) (j : Dev nD) : lv (rCell c g j) () = if g < 2 then 2 else 3 := by
  have hj : j.val < 8 := j.isLt
  have h := rIx_lt g hg j
  show (if 17 ≤ rIx g j % 63 ∧ rIx g j % 63 < 33 then 2 else if 47 ≤ rIx g j % 63 then 3 else 0) = _
  rw [Nat.mod_eq_of_lt h]; unfold rIx
  by_cases hg2 : g < 2
  · rw [if_pos (by omega), if_pos hg2]
  · rw [if_neg (by omega), if_pos (by omega), if_neg hg2]

theorem Ico_pop {a b : ℕ} (h : a < b) : Finset.Ico a b = insert a (Finset.Ico (a + 1) b) := by
  ext x; simp only [Finset.mem_insert, Finset.mem_Ico]; omega
theorem Ico_pop_notMem (a b : ℕ) : a ∉ Finset.Ico (a + 1) b := by simp only [Finset.mem_Ico]; omega

theorem Obar_succ (c : Dev nD) (s : ℕ) (hs : s < 7) : Obar c s = Obar c (s + 1) + tallyAt (barCell (pr c s)) () 1 := by
  unfold Obar; rw [Ico_pop hs, Finset.sum_insert (Ico_pop_notMem _ _), add_comm]
theorem Ocr_succ (c : Dev nD) (t : ℕ) (ht : t < 28) : Ocr c t = Ocr c (t + 1) + tallyAt (rCell (pr c t) (t / 7) c) () N := by
  unfold Ocr; rw [Ico_pop ht, Finset.sum_insert (Ico_pop_notMem _ _), add_comm]
theorem Obar_seven (c : Dev nD) : Obar c 7 = 0 := by unfold Obar; rw [Finset.Ico_self, Finset.sum_empty]
theorem Ocr_last (c : Dev nD) : Ocr c 28 = 0 := by unfold Ocr; rw [Finset.Ico_self, Finset.sum_empty]

theorem sum_pos {I : Type} {S : Finset I} {f : I → GSem nD τ sig} {n : ℕ} {g : GSem nD τ sig} {u : Unit}
    (h : 0 < (∑ i ∈ S, (tallyAt (f i) () n : CellTallies nD τ sig Unit)) g u) : ∃ i ∈ S, g = f i := by
  classical
  rw [Finset.sum_apply, Finsupp.finsetSum_apply] at h
  obtain ⟨i, hi, hp⟩ := Finset.exists_ne_zero_of_sum_ne_zero (Nat.pos_iff_ne_zero.mp h)
  refine ⟨i, hi, ?_⟩
  by_contra hne
  exact hp (by rw [tallyAt_apply, if_neg (fun h' => hne h'.1)])

theorem Ocr_pos {c : Dev nD} {t : ℕ} {g : GSem nD τ sig} {u : Unit} (h : 0 < Ocr c t g u) :
    ∃ i, t ≤ i ∧ i < 28 ∧ g = rCell (pr c i) (i / 7) c := by
  obtain ⟨i, hi, rfl⟩ := sum_pos h
  exact ⟨i, (Finset.mem_Ico.mp hi).1, (Finset.mem_Ico.mp hi).2, rfl⟩
theorem Obar_pos {c : Dev nD} {s : ℕ} {g : GSem nD τ sig} {u : Unit} (h : 0 < Obar c s g u) : ∃ k, g = barCell (pr c k) := by
  obtain ⟨i, hi, rfl⟩ := sum_pos h
  exact ⟨i, rfl⟩

omit [FloatOps F] in
/-- A wait at level `n` is allowed while every landing still owed is above it. -/
theorem mayWait_cr (c : Dev nD) (sm : SemLoc sig) (n t : ℕ) (hn : lv ((c : Thread nD τ), sm) () ≤ n)
    (ht : ∀ i, t ≤ i → i < 28 → n < if i / 7 < 2 then 2 else 3) :
    (levAts L lv : sProp 𝕄) ⊢ MayWait (c : Thread nD τ) sm () (Ocr c t) :=
  MayOwe.of_cut (L := L) (lev := lv) n (fun p hp => by rw [Finset.mem_singleton.mp hp, L_tc]; exact Finset.mem_singleton_self _)
    (fun g u hg => by obtain ⟨i, _, _, rfl⟩ := Ocr_pos hg; exact Finset.mem_singleton_self _)
    (fun p hp => by rw [Finset.mem_singleton.mp hp]; exact hn)
    (fun g u hg => by obtain ⟨i, h1, h2, rfl⟩ := Ocr_pos hg; rw [lv_r _ _ (by omega)]; exact ht i h1 h2)

omit [FloatOps F] in
/-- The windows' own waits are below everything owed. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  have hsplit : ∀ g u, 0 < O₀ c g u → (∃ k, g = barCell (pr c k)) ∨ ∃ i, 0 ≤ i ∧ i < 28 ∧ g = rCell (pr c i) (i / 7) c := by
    intro g u h
    unfold O₀ at h
    rw [Pi.add_apply, Finsupp.add_apply] at h
    rcases Nat.eq_zero_or_pos (Obar c 0 g u) with h0 | h0
    · right; rw [h0, zero_add] at h; exact Ocr_pos h
    · left; exact Obar_pos h0
  rcases hO with rfl | rfl
  · refine MayOwe.of_cut (L := L) (lev := lv) 0 (fun p hp => by rw [Finset.mem_singleton.mp hp, L_tc]; exact Finset.mem_singleton_self _)
      (fun g u hg => by rcases hsplit g u hg with ⟨k, rfl⟩ | ⟨i, _, _, rfl⟩ <;> exact Finset.mem_singleton_self _)
      (fun p hp => by rw [Finset.mem_singleton.mp hp]; exact le_of_eq hq)
      (fun g u hg => by
        rcases hsplit g u hg with ⟨k, rfl⟩ | ⟨i, _, h2, rfl⟩
        · exact Nat.one_pos
        · rw [lv_r _ _ (by omega)]; split <;> decide)
  · rw [MayWait_zero]; iintro -; iempintro

end Cert.Ring

end
-- ==== Proof.State.lean ====
/-
What a device holds between two effects of the kernel's body, by how far it has got: eleven counters.
-/
module

public import proofs.«01_k».proof.Proof.Proto

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Runs -/

section Seg
variable {M : Type} [URA M]

theorem big_add {I : Type} [DecidableEq I] {i : I} {s : Finset I} (h : i ∉ s) (Φ : I → sProp M) :
    bigSep (insert i s) Φ = iprop(Φ i ∗ bigSep s Φ) := BI.bigSep_insert h
theorem big_out {I : Type} [DecidableEq I] {i : I} {s : Finset I} (h : i ∈ s) (Φ : I → sProp M) :
    bigSep s Φ = iprop(Φ i ∗ bigSep (s.erase i) Φ) := BI.bigSep_erase h
theorem big_two {I : Type} [DecidableEq I] {s t : Finset I} (h : Disjoint s t) (Φ : I → sProp M) :
    bigSep (s ∪ t) Φ = iprop(bigSep s Φ ∗ bigSep t Φ) := BI.bigSep_union h
theorem seg_pop {a b : ℕ} (h : a < b) (Φ : ℕ → sProp M) : seg a b Φ = iprop(Φ a ∗ seg (a + 1) b Φ) := by
  unfold seg; rw [Ico_pop h, big_add (Ico_pop_notMem a b)]
theorem seg_push {a b : ℕ} (h : a ≤ b) (Φ : ℕ → sProp M) : seg a (b + 1) Φ = iprop(Φ b ∗ seg a b Φ) := by
  unfold seg; rw [Nat.Ico_succ_right_eq_insert_Ico h, big_add Finset.right_notMem_Ico]
theorem seg_nil (a : ℕ) (Φ : ℕ → sProp M) : seg a a Φ = iprop(emp) := by
  show bigSep (Finset.Ico a a) Φ = _; rw [Finset.Ico_self]; exact bigSep_empty
theorem seg_void {a b : ℕ} (h : b ≤ a) (Φ : ℕ → sProp M) : seg a b Φ = iprop(emp) := by
  show bigSep (Finset.Ico a b) Φ = _; rw [Finset.Ico_eq_empty (by omega)]; exact bigSep_empty
theorem seg_cut {a b d : ℕ} (h₁ : a ≤ b) (h₂ : b ≤ d) (Φ : ℕ → sProp M) : seg a d Φ = iprop(seg a b Φ ∗ seg b d Φ) := by
  show bigSep _ Φ = iprop(bigSep _ Φ ∗ bigSep _ Φ)
  rw [← big_two (Finset.Ico_disjoint_Ico_consecutive a b d), Finset.Ico_union_Ico_eq_Ico h₁ h₂]
theorem seg_take {a b i : ℕ} (ha : a ≤ i) (hb : i < b) (Φ : ℕ → sProp M) :
    seg a b Φ = iprop(Φ i ∗ bigSep ((Finset.Ico a b).erase i) Φ) := big_out (Finset.mem_Ico.mpr ⟨ha, hb⟩) Φ
theorem seg_shift (a n : ℕ) (Φ : ℕ → sProp M) : seg a (a + n) Φ = seg 0 n fun k => Φ (a + k) := by
  induction n with
  | zero => rw [Nat.add_zero, seg_nil, seg_nil]
  | succ n ih => rw [← Nat.add_assoc, seg_push (by omega), seg_push (by omega), ih]
theorem seg_rows (r n : ℕ) (Φ : ℕ → sProp M) : seg 0 (r * n) Φ = seg 0 n fun g => seg 0 r fun k => Φ (r * g + k) := by
  induction n with
  | zero => rw [Nat.mul_zero, seg_nil, seg_nil]
  | succ n ih =>
    rw [seg_push (Nat.zero_le _), ← ih, Nat.mul_succ, seg_cut (Nat.zero_le _) (Nat.le_add_right (r * n) r), seg_shift]
    exact BI.equiv_iff.mp ⟨BI.sep_comm, BI.sep_comm⟩
theorem seg_congr {a b : ℕ} {Φ Ψ : ℕ → sProp M} (h : ∀ i, a ≤ i → i < b → Φ i = Ψ i) : seg a b Φ = seg a b Ψ :=
  bigSep_congr fun i hi => h i (Finset.mem_Ico.mp hi).1 (Finset.mem_Ico.mp hi).2
theorem seg_mono {a b : ℕ} {Φ Ψ : ℕ → sProp M} (h : ∀ i, a ≤ i → i < b → Φ i ⊢ Ψ i) : seg a b Φ ⊢ seg a b Ψ :=
  bigSep_mono fun i hi => h i (Finset.mem_Ico.mp hi).1 (Finset.mem_Ico.mp hi).2
/-- All devices: `c` and its seven peers. -/
theorem univ_peers (c : Dev nD) (Φ : Dev nD → sProp M) : bigSep Finset.univ Φ = iprop(Φ c ∗ seg 0 7 fun k => Φ (pr c k)) := by
  rw [peers_univ c, big_add (by
    intro h; obtain ⟨k, _, hk⟩ := Finset.mem_image.mp h; exact pr_ne c k hk), bigSep_image_of_injOn (pr_inj7 c)]
end Seg

/-! ## The rules for one effect, on owned tiles -/

section Rules
variable {α : Type} (c : Dev nD)

abbrev WPk (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wp_load_owns {cs : CoreSpace} {sh : Shape} {e : EltTy} {x : Memref sig .tc cs sh e} {r : Rect sh} (hr : ∀ a, r.stride a = 1)
    {hl : x.view.LoadsAt r} {Q : α → sProp (MT nD τ sig Unit (Elt F) ℕ UU ℕ)} {q : PosShare TreeShare} {X : r.shape.Idx → Elt F e} {k : (r.shape.Idx → Elt F e) → Prog (TpuEff nD τ sig (Elt F) Λ₀ .tc) α} :
    (owns (c : Thread nD τ) (x.slice r hr) q X : sProp 𝕄)
      ⊢ iprop((owns (c : Thread nD τ) (x.slice r hr) q X -∗ WPk c (k X) Q) -∗ WPk c (.op (.load x r.toLoadRect hl) k) Q) := by
  unfold owns
  iintro ⟨%f, %hf, H⟩ Hk
  iapply (wp_load_rect 𝒱₀ (c : Thread nD τ) none Set.univ (m := x) (r := r) (Finset.Subset.refl _)) $$ H
  iintro H
  have hx : (x.access r).read (Elt F) f = X := hf
  rw [hx]
  iapply Hk
  iexists f
  isplitr
  · ipureintro; exact hf
  · iexact H

theorem wp_store_owns {cs : CoreSpace} {sh : Shape} {e : EltTy} {x : Memref sig .tc cs sh e} {r : Rect sh} (hr : ∀ a, r.stride a = 1)
    {Q : α → sProp (MT nD τ sig Unit (Elt F) ℕ UU ℕ)} {w : r.shape.Idx → Elt F e} {hx : (x.access r).Stores Finset.univ} {hm : (Finset.univ : Finset r.shape.Idx) = Finset.univ ∨ ∀ a, r.stride a = 1}
    {X : r.shape.Idx → Elt F e} {k : PUnit → Prog (TpuEff nD τ sig (Elt F) Λ₀ .tc) α} :
    (owns (c : Thread nD τ) (x.slice r hr) fullShare X : sProp 𝕄)
      ⊢ iprop((owns (c : Thread nD τ) (x.slice r hr) fullShare w -∗ WPk c (k ⟨⟩) Q) -∗ WPk c (.op (.store x r w Finset.univ hx hm) k) Q) := by
  unfold owns
  iintro ⟨%f, %hf, H⟩ Hk
  iapply (wp_store 𝒱₀ (c : Thread nD τ) none Set.univ (m := x) (r := r) (Mk := Finset.univ) (S := (x.access r).set) (Finset.Subset.refl _)) $$ H
  iintro H
  iapply Hk
  iexists _
  isplitr
  rotate_left
  · iexact H
  · ipureintro; exact View.read_write_univ ..

end Rules

/-! ## The state -/

/-- All cells of the exchange, as one family: a device's barrier, then its sixty DMA semaphores. -/
def csem (k : Fin 61) : SemLoc sig := if k = 0 then .reg barS else .dma (dsem (k.val + 2))
abbrev kcell (ck : Dev nD × Fin 61) : GSem nD τ sig := ((ck.1 : Thread nD τ), csem ck.2)

def records (K : Dev nD × Fin 61 → ℕ) : sProp 𝕄 :=
  iprop((bigSep Finset.univ fun ck : Dev nD × Fin 61 => cellInv ER (sched m ρ) (K ck) (kcell ck))
    ∗ bigSep Finset.univ fun ck : Dev nD × Fin 61 => reached ER (kcell ck) 0)
instance records_persistent (K : Dev nD × Fin 61 → ℕ) : BI.Persistent (records m ρ K) := by unfold records; infer_instance

theorem cell_rec (K : Dev nD × Fin 61 → ℕ) (ck : Dev nD × Fin 61) (g : GSem nD τ sig) (hg : kcell ck = g) :
    records m ρ K ⊢ iprop(cellInv ER (sched m ρ) (K ck) g ∗ reached ER g 0) := by
  subst hg
  unfold records
  exact BI.sep_mono (bigSep_elim (Finset.mem_univ ck)) (bigSep_elim (Φ := fun ck : Dev nD × Fin 61 => reached ER (kcell ck) 0) (Finset.mem_univ ck))

def sK (i : ℕ) : Fin 61 := Fin.ofNat 61 (sIx i - 2)
def rK (g : ℕ) (j : Dev nD) : Fin 61 := Fin.ofNat 61 (rIx g j - 2)
theorem kcell_bar (c : Dev nD) : kcell (c, 0) = barCell c := rfl
theorem kcell_of (c : Dev nD) (n : ℕ) (h₁ : 3 ≤ n) (h₂ : n < 63) : kcell (c, Fin.ofNat 61 (n - 2)) = ((c : Thread nD τ), .dma (dsem n)) := by
  have hv : (Fin.ofNat 61 (n - 2)).val = n - 2 := Nat.mod_eq_of_lt (by omega)
  have h0 : Fin.ofNat 61 (n - 2) ≠ 0 := fun h => by
    have := congrArg Fin.val h; rw [hv] at this; change n - 2 = 0 at this; omega
  show (_, csem (Fin.ofNat 61 (n - 2))) = _
  unfold csem
  rw [if_neg h0, hv, Nat.sub_add_cancel (by omega)]
theorem kcell_s (c : Dev nD) (i : ℕ) (hi : i < 28) : kcell (c, sK i) = sCell c i :=
  kcell_of c _ (by unfold sIx; omega) (sIx_lt i hi)
theorem kcell_r (c : Dev nD) (g : ℕ) (hg : g < 4) (j : Dev nD) : kcell (c, rK g j) = rCell c g j :=
  kcell_of c _ (by unfold rIx; omega) (rIx_lt g hg j)

variable (K : Dev nD × Fin 61 → ℕ) (c : Dev nD)

/-- The facts everyone keeps: the cells' invariants, their start, the levels. -/
def known : sProp 𝕄 := iprop(records m ρ K ∗ levAts L lv)
instance known_persistent : BI.Persistent (known m ρ K) := by unfold known; infer_instance

/-- What is still owed after `s` signals and `t` transfers. -/
def stO (s t : ℕ) : sProp 𝕄 := iprop(∃ W, owes (c : Thread nD τ) (Obar c s + Ocr c t) W)
/-- For each signal to come: its duty, and the slots it gives away. -/
def stS (s : ℕ) : sProp 𝕄 := seg s 7 fun k => iprop(dutyTok ER (barCell (pr c k)) 0 k ∗ seg 0 4 fun g => slotAny c g (pr c k))
/-- The barrier, and once it is passed the peers' slots not yet filled. -/
def stB (b t : ℕ) : sProp 𝕄 := match b with
  | 0 => iprop(atPos ER (barCell c) 0 ∅ 0 ∗ cred (tallyAt (barCell c) () 7))
  | _ + 1 => iprop(atPos ER (barCell c) 1 ∅ 0 ∗ seg t 28 fun i => slotAny (pr c i) (i / 7) c)
/-- The two factors as staged, and their working copies once made. -/
def stC (q : ℕ) : sProp 𝕄 :=
  iprop((((c : Thread nD τ).loc cc0_stg0_0) ↦{fullShare} astg m ρ c) ∗ (((c : Thread nD τ).loc cc0_stg1_0) ↦{fullShare} bstg m ρ c)
    ∗ (∃ f : Buf (Elt F) ((c : Thread nD τ).loc cc0_scratch0), ⌜1 ≤ q → f = A16 m ρ c⌝ ∗ (((c : Thread nD τ).loc cc0_scratch0) ↦{fullShare} f))
    ∗ (∃ f : Buf (Elt F) ((c : Thread nD τ).loc cc0_scratch1), ⌜2 ≤ q → f = B16 m ρ c⌝ ∗ (((c : Thread nD τ).loc cc0_scratch1) ↦{fullShare} f)))
/-- The transfers: duties of those to come, the credit of those under way, the senders' cells. -/
def stT (t x : ℕ) : sProp 𝕄 :=
  iprop((seg t 28 fun i => iprop(dutyTok ER (sCell c i) 0 0 ∗ dutyTok ER (rCell (pr c i) (i / 7) c) 0 0))
    ∗ (seg x t fun i => cred (tallyAt (sCell c i) () N))
    ∗ (seg x 28 fun i => atPos ER (sCell c i) 0 ∅ 0) ∗ (seg 0 x fun i => atPos ER (sCell c i) 1 ∅ 0))
/-- The landings: those to come, and the tiles of those that came. -/
def stR (w : ℕ) : sProp 𝕄 :=
  iprop((seg w 28 fun i => iprop(atPos ER (rCell c (i / 7) (pr c i)) 0 ∅ 0 ∗ cred (tallyAt (rCell c (i / 7) (pr c i)) () N)))
    ∗ (seg 0 w fun i => iprop(atPos ER (rCell c (i / 7) (pr c i)) 1 ∅ 0 ∗ slotRes m ρ c (i / 7) (pr c i))))
/-- The tiles to send: not yet written, written and not yet sent, sent and back. -/
def stY (y t x k : ℕ) : sProp 𝕄 :=
  iprop((seg y 14 fun i => iprop(∃ X, owns (c : Thread nD τ) (wtM (i / 7) (pr c i)) fullShare X))
    ∗ (seg t y fun i => srcRes m ρ c i) ∗ (seg 0 x fun i => srcRes m ρ c i)
    ∗ (seg k 2 fun h => iprop(∃ X, owns (c : Thread nD τ) (ahM h) fullShare X))
    ∗ (seg 0 k fun h => owns (c : Thread nD τ) (ahM h) (Transfers.shareDrop fullShare 7) (AG m ρ c h)))
/-- The device's own rows of its partial product. -/
def stP (p : ℕ) : sProp 𝕄 :=
  iprop((seg p 2 fun h => iprop(∃ X, owns (c : Thread nD τ) (phM h) fullShare X))
    ∗ (seg 0 p fun h => owns (c : Thread nD τ) (phM h) fullShare (PO m ρ c h)))
/-- The result: own rows, then the peers'. -/
def stV (o v : ℕ) : sProp 𝕄 :=
  iprop((seg o 2 fun h => iprop(∃ X, owns (c : Thread nD τ) (otM h c) fullShare X))
    ∗ (seg 0 o fun h => owns (c : Thread nD τ) (otM h c) fullShare (OT m ρ c h c))
    ∗ (seg v 14 fun i => iprop(∃ X, owns (c : Thread nD τ) (otM (i / 7) (pr c i)) fullShare X))
    ∗ (seg 0 v fun i => owns (c : Thread nD τ) (otM (i / 7) (pr c i)) fullShare (OT m ρ c (i / 7) (pr c i))))

/-- `s` signals, barrier passed (`b`), `q` copies made, `y` tiles ready, `t` transfers started, `w` landed, `x` left,
    `p` own halves, `k` shared halves, `o` own tiles and `v` peer tiles of the result. -/
def St (s b q y t w x p k o v : ℕ) : sProp 𝕄 :=
  iprop(known m ρ K ∗ stO c s t ∗ stS c s ∗ stB c b t ∗ stC m ρ c q ∗ stT c t x ∗ stR m ρ c w ∗ stY m ρ c y t x k ∗ stP m ρ c p ∗ stV m ρ c o v)

end Cert.Ring

end
-- ==== Proof.Scratch.lean ====
/-
Buffers taken apart into the tiles, halves and slots the body works on, and put together again.
-/
module

public import proofs.«01_k».proof.Proof.State

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {m : (ℓ : Loc nD τ sig) → Buf (Elt F) ℓ} {ρ : Dev nD → PrngReg}
variable {K : Dev nD × Fin 61 → ℕ} {c : Dev nD}
variable {α : Type} {Q : α → sProp (MT nD τ sig Unit (Elt F) ℕ UU ℕ)}

local notation "𝕄" => MT nD τ sig Unit (Elt F) ℕ UU ℕ

/-! ## Sums over numbers and devices -/

section Sums
variable {M : Type} [URA M]

theorem fin_seg (n : ℕ) (Φ : ℕ → sProp M) : (bigSep Finset.univ fun i : Fin n => Φ i.val) = seg 0 n Φ := by
  have h : (Finset.univ : Finset (Fin n)).map Fin.valEmbedding = Finset.Ico 0 n := by
    ext x
    simp only [Finset.mem_map, Finset.mem_univ, _root_.true_and, Fin.valEmbedding_apply, Finset.mem_Ico]
    exact ⟨fun ⟨i, hi⟩ => hi ▸ ⟨Nat.zero_le _, i.isLt⟩, fun hx => ⟨⟨x, hx.2⟩, rfl⟩⟩
  show _ = bigSep (Finset.Ico 0 n) Φ
  rw [← h, BI.bigSep_map]
  rfl

theorem seg_both (a b : ℕ) (Φ Ψ : ℕ → sProp M) : (seg a b fun i => iprop(Φ i ∗ Ψ i)) = iprop(seg a b Φ ∗ seg a b Ψ) := bigSep_sep' _ Φ Ψ

/-- Sums over devices and over numbers change places. -/
theorem dev_seg (n : ℕ) (Φ : Dev nD → ℕ → sProp M) :
    (bigSep Finset.univ fun c : Dev nD => seg 0 n (Φ c)) = seg 0 n fun k => bigSep Finset.univ fun c : Dev nD => Φ c k := by
  induction n with
  | zero =>
    rw [seg_nil, bigSep_congr (fun c _ => seg_nil 0 (Φ c))]
    exact BI.bigSep_emp_const _
  | succ n ih =>
    rw [seg_push (Nat.zero_le _), ← ih, bigSep_congr (fun c _ => seg_push (Nat.zero_le n) (Φ c)), bigSep_sep']

theorem seg_seg (a b n : ℕ) (Φ : ℕ → ℕ → sProp M) : (seg a b fun k => seg 0 n (Φ k)) = seg 0 n fun g => seg a b fun k => Φ k g := by
  induction n with
  | zero =>
    rw [seg_nil, seg_congr (fun k _ _ => seg_nil 0 (Φ k))]
    exact BI.bigSep_emp_const _
  | succ n ih =>
    rw [seg_push (Nat.zero_le _), ← ih, seg_congr (fun k _ _ => seg_push (Nat.zero_le n) (Φ k)), seg_both]

/-- `n` rounds over all devices: `c`'s own entries, and those of its peers in the order of the transfers. -/
theorem rounds_all (n : ℕ) (c : Dev nD) (Φ : ℕ → Dev nD → sProp M) :
    (seg 0 n fun g => bigSep Finset.univ (Φ g)) = iprop((seg 0 n fun g => Φ g c) ∗ seg 0 (7 * n) fun i => Φ (i / 7) (pr c i)) := by
  rw [seg_rows, seg_congr (fun g _ _ => univ_peers c (Φ g)), seg_both]
  congr 1
  refine seg_congr fun g _ _ => seg_congr fun k _ hk => ?_
  rw [pr_add, show (7 * g + k) / 7 = g by omega]

/-- The same, the peers' entries peer by peer. -/
theorem rounds_peers (n : ℕ) (c : Dev nD) (Φ : ℕ → Dev nD → sProp M) :
    (seg 0 n fun g => bigSep Finset.univ (Φ g)) = iprop((seg 0 n fun g => Φ g c) ∗ seg 0 7 fun k => seg 0 n fun g => Φ g (pr c k)) := by
  rw [seg_congr (fun g _ _ => univ_peers c (Φ g)), seg_both, seg_seg]

end Sums

/-! ## Pieces of a buffer -/

section Pieces
variable {T : Type} [Fintype T] [DecidableEq T] {sp : Space} {sh : Shape} {e : EltTy} (c : Dev nD) (x : Memref sig .tc sp sh e) (r : T → Rect sh)
  (hr : ∀ t a, (r t).stride a = 1) (hd : ∀ t t', t ≠ t' → Disjoint (r t).set (r t').set)
  (hcov : (Finset.univ : Finset T).biUnion (fun t => (r t).set) = Finset.univ)

omit [Fintype T] [DecidableEq T] in
theorem owns_some (y : Memref sig .tc sp sh e) (X : sh.Idx → Elt F e) :
    (owns (c : Thread nD τ) y fullShare X : sProp 𝕄) ⊢ iprop(∃ Y, owns (c : Thread nD τ) y fullShare Y) := by
  iintro H; iexists X; iexact H

omit [Fintype T] [DecidableEq T] in
/-- A piece held at whatever it reads is its elements held at some contents. -/
theorem some_pts (y : Memref sig .tc sp sh e) :
    (iprop(∃ Y, owns (c : Thread nD τ) y fullShare Y) : sProp 𝕄)
      ⊢ iprop(∃ f : y.view.ty.Contents (Elt F), y.view.loc (c : Thread nD τ) ↦[y.view.set]{fullShare} f) := by
  unfold owns
  iintro ⟨%Y, %f, %hf, H⟩
  iexists f
  iexact H

include hd hcov in
theorem tear (X : sh.Idx → Elt F e) :
    (owns (c : Thread nD τ) x fullShare X : sProp 𝕄) ⊢ bigSep Finset.univ fun t => iprop(∃ Y, owns (c : Thread nD τ) (x.slice (r t) (hr t)) fullShare Y) :=
  (owns_rects (c : Thread nD τ) x fullShare r hr hd hcov X).trans (bigSep_mono fun t _ => owns_some c _ _)

include hd hcov in
theorem mend :
    (bigSep Finset.univ fun t => iprop(∃ Y, owns (c : Thread nD τ) (x.slice (r t) (hr t)) fullShare Y))
      ⊢ (iprop(∃ f : x.view.ty.Contents (Elt F), x.view.loc (c : Thread nD τ) ↦[x.view.set]{fullShare} f) : sProp 𝕄) := by
  refine (bigSep_mono (Ψ := fun t => iprop(∃ f : x.view.ty.Contents (Elt F), x.view.loc (c : Thread nD τ) ↦[(x.view.slice (r t)).set]{fullShare} f)) fun t _ => some_pts c _).trans ?_
  refine (BI.bigSep_exists_pi Finset.univ (fun (t : T) (f : x.view.ty.Contents (Elt F)) => (x.view.loc (c : Thread nD τ) ↦[(x.view.slice (r t)).set]{fullShare} f : sProp 𝕄))).trans ?_
  have hset : (Finset.univ : Finset T).biUnion (fun t => (x.view.slice (r t)).set) = x.view.set := by
    ext i
    constructor
    · intro hi
      obtain ⟨t, _, ht⟩ := Finset.mem_biUnion.mp hi
      exact View.set_slice_subset _ _ ht
    · intro hi
      obtain ⟨j, _, hj⟩ := Finset.mem_map.mp hi
      obtain ⟨t, _, ht⟩ := Finset.mem_biUnion.mp (hcov.symm ▸ Finset.mem_univ j)
      refine Finset.mem_biUnion.mpr ⟨t, Finset.mem_univ _, ?_⟩
      rw [View.set_slice]
      exact Finset.mem_map.mpr ⟨j, ht, hj⟩
  iintro ⟨%fs, H⟩
  ihave H' := (pointsTo_biUnion_join (ℓ := x.view.loc (c : Thread nD τ)) (q := fullShare) (Val := Elt F) Finset.univ (fun t => (x.view.slice (r t)).set) fs (fun _ => Classical.arbitrary _)
    (fun t _ t' _ htt => by
      show Disjoint (x.view.slice (r t)).set (x.view.slice (r t')).set
      rw [View.set_slice, View.set_slice]; exact (Finset.disjoint_map _).mpr (hd t t' htt))) $$ H
  icases H' with ⟨%f, %hf, H⟩
  iexists f
  rw [hset]
  iexact H

end Pieces

/-! ## The three families of pieces -/

abbrev P2 : Type := Fin 2 × Dev nD

theorem tile_disj (t t' : P2) (h : t ≠ t') : Disjoint (tileR t.1.val t.2).set (tileR t'.1.val t'.2).set := by
  obtain ⟨a, j⟩ := t; obtain ⟨a', j'⟩ := t'
  have ha := a.isLt; have ha' := a'.isLt
  by_cases hj : j = j'
  · have hne : a.val ≠ a'.val := fun hv => h (Prod.ext (Fin.ext hv) hj)
    refine Rect.unit_disjoint (1 : Fin 2) ?_
    show 512 * (a.val % 2) + 512 ≤ 512 * (a'.val % 2) ∨ 512 * (a'.val % 2) + 512 ≤ 512 * (a.val % 2)
    omega
  · have hne : j.val ≠ j'.val := fun hv => hj (Fin.ext hv)
    refine Rect.unit_disjoint (0 : Fin 2) ?_
    show 128 * j.val + 128 ≤ 128 * j'.val ∨ 128 * j'.val + 128 ≤ 128 * j.val
    omega

theorem tile_cov : (Finset.univ : Finset P2).biUnion (fun t => (tileR t.1.val t.2).set) = Finset.univ := by
  ext i
  simp only [Finset.mem_biUnion, Finset.mem_univ, _root_.true_and, iff_true]
  have h0 : (i 0).val < 1024 := (i 0).isLt
  have h1 : (i 1).val < 1024 := (i 1).isLt
  refine ⟨(⟨(i 1).val / 512, by omega⟩, ⟨(i 0).val / 128, by show (i 0).val / 128 < 8; omega⟩), Rect.mem_set_unit.mpr fun a => ?_⟩
  fin_cases a
  · show 128 * ((i 0).val / 128) ≤ (i 0).val ∧ (i 0).val < 128 * ((i 0).val / 128) + 128; omega
  · show 512 * ((i 1).val / 512 % 2) ≤ (i 1).val ∧ (i 1).val < 512 * ((i 1).val / 512 % 2) + 512; omega

theorem half_disj (t t' : Fin 2) (h : t ≠ t') : Disjoint (halfR t.val).set (halfR t'.val).set := by
  have ha := t.isLt; have ha' := t'.isLt
  have hne : t.val ≠ t'.val := fun hv => h (Fin.ext hv)
  refine Rect.unit_disjoint (1 : Fin 2) ?_
  show 512 * (t.val % 2) + 512 ≤ 512 * (t'.val % 2) ∨ 512 * (t'.val % 2) + 512 ≤ 512 * (t.val % 2)
  omega

theorem half_cov : (Finset.univ : Finset (Fin 2)).biUnion (fun t => (halfR t.val).set) = Finset.univ := by
  ext i
  simp only [Finset.mem_biUnion, Finset.mem_univ, _root_.true_and, iff_true]
  have h0 : (i 0).val < 128 := (i 0).isLt
  have h1 : (i 1).val < 1024 := (i 1).isLt
  refine ⟨⟨(i 1).val / 512, by omega⟩, Rect.mem_set_unit.mpr fun a => ?_⟩
  fin_cases a
  · show 0 ≤ (i 0).val ∧ (i 0).val < 0 + 128; omega
  · show 512 * ((i 1).val / 512 % 2) ≤ (i 1).val ∧ (i 1).val < 512 * ((i 1).val / 512 % 2) + 512; omega

theorem slot_disj (t t' : P2) (h : t ≠ t') : Disjoint (slotR t.1.val t.2).set (slotR t'.1.val t'.2).set := by
  obtain ⟨a, j⟩ := t; obtain ⟨a', j'⟩ := t'
  have ha := a.isLt; have ha' := a'.isLt
  by_cases hj : j = j'
  · have hne : a.val ≠ a'.val := fun hv => h (Prod.ext (Fin.ext hv) hj)
    refine Rect.unit_disjoint (0 : Fin 4) ?_
    show a.val % 2 + 1 ≤ a'.val % 2 ∨ a'.val % 2 + 1 ≤ a.val % 2
    omega
  · have hne : j.val ≠ j'.val := fun hv => hj (Fin.ext hv)
    refine Rect.unit_disjoint (1 : Fin 4) ?_
    show j.val + 1 ≤ j'.val ∨ j'.val + 1 ≤ j.val
    omega

theorem slot_cov : (Finset.univ : Finset P2).biUnion (fun t => (slotR t.1.val t.2).set) = Finset.univ := by
  ext i
  simp only [Finset.mem_biUnion, Finset.mem_univ, _root_.true_and, iff_true]
  have h0 : (i 0).val < 2 := (i 0).isLt
  have h2 : (i 2).val < 128 := (i 2).isLt
  have h3 : (i 3).val < 512 := (i 3).isLt
  refine ⟨(⟨(i 0).val, h0⟩, ⟨(i 1).val, (i 1).isLt⟩), Rect.mem_set_unit.mpr fun a => ?_⟩
  fin_cases a
  · show (i 0).val % 2 ≤ (i 0).val ∧ (i 0).val < (i 0).val % 2 + 1; omega
  · show (i 1).val ≤ (i 1).val ∧ (i 1).val < (i 1).val + 1; omega
  · show 0 ≤ (i 2).val ∧ (i 2).val < 0 + 128; omega
  · show 0 ≤ (i 3).val ∧ (i 3).val < 0 + 512; omega

/-! ## Each buffer -/

omit [FloatOps F] in
theorem slice_slot (c : Dev nD) (g : ℕ) (j : Dev nD) :
    (iprop(∃ Y, owns (c : Thread nD τ) ((bufM g).slice (slotR g j) (fun _ => rfl)) fullShare Y) : sProp 𝕄) = slotAny c g j := by
  have hs : (slotM g j).view.set = ((bufM g).slice (slotR g j) (fun _ => rfl)).view.set := View.set_reshape ..
  have h₁ : (iprop(∃ Y, owns (c : Thread nD τ) ((bufM g).slice (slotR g j) (fun _ => rfl)) fullShare Y) : sProp 𝕄) ⊢ slotAny c g j := by
    unfold slotAny owns
    rw [hs]
    iintro ⟨%Y, %f, %hf, H⟩
    iexists _
    iexists f
    isplitr
    · ipureintro; rfl
    iexact H
  have h₂ : (slotAny c g j : sProp 𝕄) ⊢ iprop(∃ Y, owns (c : Thread nD τ) ((bufM g).slice (slotR g j) (fun _ => rfl)) fullShare Y) := by
    unfold slotAny owns
    rw [hs]
    iintro ⟨%Y, %f, %hf, H⟩
    iexists _
    iexists f
    isplitr
    · ipureintro; rfl
    iexact H
  exact BI.equiv_iff.mp ⟨h₁, h₂⟩

omit [FloatOps F] in
theorem slotR_two (g : ℕ) (j : Dev nD) : slotR (2 + g) j = slotR g j := by
  unfold slotR
  congr 1
  rw [show (2 + g) % 2 = g % 2 by omega]

omit [FloatOps F] in
/-- A device's two receive buffers are its landing slots: its own, and one for each transfer it awaits. -/
theorem slots_eq (c : Dev nD) :
    (iprop((bigSep Finset.univ fun t : P2 => iprop(∃ Y, owns (c : Thread nD τ) (rsM.slice (slotR t.1.val t.2) (fun _ => rfl)) fullShare Y))
        ∗ (bigSep Finset.univ fun t : P2 => iprop(∃ Y, owns (c : Thread nD τ) (gaM.slice (slotR t.1.val t.2) (fun _ => rfl)) fullShare Y))) : sProp 𝕄)
      = seg 0 4 fun g => bigSep Finset.univ fun j : Dev nD => slotAny c g j := by
  rw [seg_cut (a := 0) (b := 2) (d := 4) (by decide) (by decide), show seg 2 4 _ = _ from seg_shift 2 2 _,
    BI.bigSep_univ_prod, BI.bigSep_univ_prod,
    ← fin_seg 2 (fun g => bigSep Finset.univ fun j : Dev nD => slotAny c g j), ← fin_seg 2 (fun g => bigSep Finset.univ fun j : Dev nD => slotAny c (2 + g) j)]
  congr 1
  · refine bigSep_congr fun g _ => bigSep_congr fun j _ => ?_
    rw [← slice_slot, show bufM g.val = rsM from if_pos g.isLt]
  · refine bigSep_congr fun g _ => bigSep_congr fun j _ => ?_
    rw [← slice_slot, show bufM (2 + g.val) = gaM from if_neg (by omega)]
    have h : ∀ r r' : Rect S2x8x128x512, r = r' → ∀ hr hr', (iprop(∃ Y, owns (c : Thread nD τ) (gaM.slice r hr) fullShare Y) : sProp 𝕄)
        = iprop(∃ Y, owns (c : Thread nD τ) (gaM.slice r' hr') fullShare Y) := by rintro r _ rfl _ _; rfl
    exact h _ _ (slotR_two g.val j).symm _ _

end Cert.Ring

end
-- ==== Proof.Deal.lean ====
/-
What the launch deals: the cells of all devices, the tokens of their duties handed to whoever pays them, and the credit.
-/
module

public import proofs.«01_k».proof.Proof.Scratch

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {m : (ℓ : Loc nD τ sig) → Buf (Elt F) ℓ} {ρ : Dev nD → PrngReg}
variable {K : Dev nD × Fin 61 → ℕ} {c : Dev nD}
variable {α : Type} {Q : α → sProp (MT nD τ sig Unit (Elt F) ℕ UU ℕ)}

local notation "𝕄" => MT nD τ sig Unit (Elt F) ℕ UU ℕ

/-! ## The sixty-one cells of a device -/

theorem cells_univ (c : Dev nD) : (Finset.univ : Finset (Fin 61)) = insert 0 (((Finset.Ico 0 28).image sK ∪ (Finset.Ico 0 28).image fun i => rK (i / 7) (pr c i)) ∪ (Finset.Ico 0 4).image fun g => rK g c) := by
  revert c; decide +kernel
theorem cells_bar (c : Dev nD) : (0 : Fin 61) ∉ (((Finset.Ico 0 28).image sK ∪ (Finset.Ico 0 28).image fun i => rK (i / 7) (pr c i)) ∪ (Finset.Ico 0 4).image fun g => rK g c) := by
  revert c; decide +kernel
theorem cells_self (c : Dev nD) : Disjoint ((Finset.Ico 0 28).image sK ∪ (Finset.Ico 0 28).image fun i => rK (i / 7) (pr c i)) ((Finset.Ico 0 4).image fun g => rK g c) := by
  revert c; decide +kernel
theorem cells_two (c : Dev nD) : Disjoint ((Finset.Ico 0 28).image sK) ((Finset.Ico 0 28).image fun i => rK (i / 7) (pr c i)) := by
  revert c; decide +kernel
theorem sK_inj : Set.InjOn sK (Finset.Ico 0 28 : Finset ℕ) := by
  have h : ∀ a ∈ Finset.Ico 0 28, ∀ b ∈ Finset.Ico 0 28, sK a = sK b → a = b := by decide +kernel
  exact fun a ha b hb => h a ha b hb
theorem rK_inj (c : Dev nD) : Set.InjOn (fun i => rK (i / 7) (pr c i)) (Finset.Ico 0 28 : Finset ℕ) := by
  have h : ∀ c : Dev nD, ∀ a ∈ Finset.Ico 0 28, ∀ b ∈ Finset.Ico 0 28, rK (a / 7) (pr c a) = rK (b / 7) (pr c b) → a = b := by decide +kernel
  exact fun a ha b hb => h c a ha b hb
theorem rK_self_inj (c : Dev nD) : Set.InjOn (fun g => rK g c) (Finset.Ico 0 4 : Finset ℕ) := by
  have h : ∀ c : Dev nD, ∀ a ∈ Finset.Ico 0 4, ∀ b ∈ Finset.Ico 0 4, rK a c = rK b c → a = b := by decide +kernel
  exact fun a ha b hb => h c a ha b hb

/-- All cells of `c`: the barrier, the senders', the receivers' of its peers, and four nobody uses. -/
theorem cells_split {M : Type} [URA M] (c : Dev nD) (Φ : Fin 61 → sProp M) :
    bigSep Finset.univ Φ = iprop(Φ 0 ∗ ((seg 0 28 fun i => Φ (sK i)) ∗ (seg 0 28 fun i => Φ (rK (i / 7) (pr c i)))) ∗ seg 0 4 fun g => Φ (rK g c)) := by
  rw [cells_univ c, big_add (cells_bar c), big_two (cells_self c), big_two (cells_two c), bigSep_image_of_injOn sK_inj,
    bigSep_image_of_injOn (rK_inj c), bigSep_image_of_injOn (rK_self_inj c)]

theorem csem_inj : Function.Injective csem := by
  have h : ∀ a b : Fin 61, csem a = csem b → a = b := by decide +kernel
  exact fun a b => h a b

theorem kcell_injective : Function.Injective (kcell : Dev nD × Fin 61 → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_inj h2]

/-- The kernel's own semaphores: all but the barrier. -/
abbrev osem : Fin 60 → SemLoc sig := fun k => csem k.succ
theorem ownSemFacts : Pipeline.OwnSemFacts cfg0.spec osem := by decide +kernel

theorem fin61 {M : Type} [URA M] (Φ : Fin 61 → sProp M) : bigSep Finset.univ Φ = iprop(Φ 0 ∗ bigSep Finset.univ fun k : Fin 60 => Φ k.succ) := by
  rw [bigSep_univ_at Φ 0, show (Finset.univ : Finset (Fin 61)).erase 0 = Finset.univ.map (Fin.succEmb 60) by decide +kernel, BI.bigSep_map]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

omit [FloatOps F] in
/-- All sixty-one counters of a device, as the launch hands them over. -/
theorem sems_eq (c : Dev nD) :
    (bigSep Finset.univ fun k : Fin 61 => semVal (kcell (c, k)) 0 : sProp 𝕄)
      = iprop(unscopedSems0 c ∗ Pipeline.ownSems0 (Ix := Unit) (Name := ℕ) (U := UU) (Lvl := ℕ) (Val := Elt F) (τ := τ) osem c) := by
  rw [fin61, unscopedSems0_eq]
  rfl

/-! ## Duties -/

def ringCells : Finset (GSem nD τ sig) := Finset.univ.map ⟨kcell, kcell_injective⟩
/-- Seven tokens to a cell; a DMA cell uses the first. -/
abbrev tokOf (x : (Dev nD × Fin 61) × Fin 7) : GSem nD τ sig × ℕ × ℕ := (kcell x.1, 0, x.2.val)
theorem tokOf_injective : Function.Injective tokOf := by
  rintro ⟨ck, j⟩ ⟨ck', j'⟩ h
  exact Prod.ext (kcell_injective (congrArg Prod.fst h)) (Fin.ext (congrArg (fun y : GSem nD τ sig × ℕ × ℕ => y.2.2) h))
def ringToks : Finset (GSem nD τ sig × ℕ × ℕ) := Finset.univ.map ⟨tokOf, tokOf_injective⟩

def u₀ : UU := (initOf (Pipeline.cells cfgs cellOf_inj) (Pipeline.launchToks cfgs cellOf_inj), initOf ringCells ringToks)

/-- The tokens of `c`'s own cells that are ever used; -/
def toks (c : Dev nD) : sProp 𝕄 :=
  iprop((seg 0 7 fun k => dutyTok ER (barCell c) 0 k) ∗ (seg 0 28 fun i => dutyTok ER (sCell c i) 0 0) ∗ (seg 0 28 fun i => dutyTok ER (rCell c (i / 7) (pr c i)) 0 0))
/-- the tokens of the duties `c` pays. -/
def payToks (c : Dev nD) : sProp 𝕄 :=
  iprop((seg 0 7 fun k => dutyTok ER (barCell (pr c k)) 0 k) ∗ (seg 0 28 fun i => dutyTok ER (sCell c i) 0 0) ∗ (seg 0 28 fun i => dutyTok ER (rCell (pr c i) (i / 7) c) 0 0))

omit [FloatOps F] in
theorem toks_of (c : Dev nD) : (bigSep Finset.univ fun k : Fin 61 => bigSep Finset.univ fun j : Fin 7 => dutyTok ER (kcell (c, k)) 0 j.val : sProp 𝕄) ⊢ toks c := by
  have hone : ∀ g : GSem nD τ sig, (bigSep Finset.univ fun j : Fin 7 => dutyTok ER g 0 j.val : sProp 𝕄) ⊢ dutyTok ER g 0 0 :=
    fun g => bigSep_elim (Φ := fun j : Fin 7 => (dutyTok ER g 0 j.val : sProp 𝕄)) (Finset.mem_univ 0)
  rw [cells_split c]
  unfold toks
  have h1 : (bigSep Finset.univ fun j : Fin 7 => dutyTok ER (kcell (c, 0)) 0 j.val : sProp 𝕄) ⊢ seg 0 7 fun k => dutyTok ER (barCell c) 0 k :=
    Entails.of_eq (fin_seg 7 fun k => dutyTok ER (barCell c) 0 k)
  have h2 : (seg 0 28 fun i => bigSep Finset.univ fun j : Fin 7 => dutyTok ER (kcell (c, sK i)) 0 j.val : sProp 𝕄) ⊢ seg 0 28 fun i => dutyTok ER (sCell c i) 0 0 :=
    seg_mono fun i _ hi => by rw [kcell_s c i hi]; exact hone _
  have h3 : (seg 0 28 fun i => bigSep Finset.univ fun j : Fin 7 => dutyTok ER (kcell (c, rK (i / 7) (pr c i))) 0 j.val : sProp 𝕄) ⊢ seg 0 28 fun i => dutyTok ER (rCell c (i / 7) (pr c i)) 0 0 :=
    seg_mono fun i _ hi => by rw [kcell_r c (i / 7) (by omega) (pr c i)]; exact hone _
  iintro ⟨H1, ⟨H2, H3⟩, -⟩
  isplitl [H1]; · iapply h1; iexact H1
  isplitl [H2]; · iapply h2; iexact H2
  iapply h3; iexact H3

omit [FloatOps F] in
/-- Each device gives every peer the tokens of the duties that peer pays. -/
theorem toks_around : (bigSep Finset.univ fun c : Dev nD => (toks c : sProp 𝕄)) ⊢ bigSep Finset.univ fun c : Dev nD => payToks c := by
  have hb : (bigSep Finset.univ fun c : Dev nD => seg 0 7 fun k => (dutyTok ER (barCell c) 0 k : sProp 𝕄))
      = bigSep Finset.univ fun c : Dev nD => seg 0 7 fun k => (dutyTok ER (barCell (pr c k)) 0 k : sProp 𝕄) := by
    rw [dev_seg, dev_seg]
    exact seg_congr fun k _ _ => BI.bigSep_univ_equiv (swap k) (fun c : Dev nD => (dutyTok ER (barCell c) 0 k : sProp 𝕄))
  have hr : (bigSep Finset.univ fun c : Dev nD => seg 0 28 fun i => (dutyTok ER (rCell c (i / 7) (pr c i)) 0 0 : sProp 𝕄))
      = bigSep Finset.univ fun c : Dev nD => seg 0 28 fun i => (dutyTok ER (rCell (pr c i) (i / 7) c) 0 0 : sProp 𝕄) := by
    rw [dev_seg, dev_seg]
    refine seg_congr fun i _ _ => (BI.bigSep_univ_equiv (swap i) (fun c : Dev nD => (dutyTok ER (rCell c (i / 7) (pr c i)) 0 0 : sProp 𝕄))).trans ?_
    refine bigSep_congr fun c _ => ?_
    show dutyTok ER (rCell (pr c i) (i / 7) (pr (pr c i) i)) 0 0 = _
    rw [pr_pr]
  unfold toks payToks
  rw [bigSep_sep', bigSep_sep', bigSep_sep', bigSep_sep', hb, hr]

/-! ## The launch credit -/

theorem tally_sum {I : Type} (S : Finset I) (f : I → GSem nD τ sig) (n : ℕ) (g : GSem nD τ sig) :
    (∑ i ∈ S, (tallyAt (f i) () n : CellTallies nD τ sig Unit)) g () = ∑ i ∈ S, if g = f i then n else 0 := by
  rw [Finset.sum_apply, Finsupp.finsetSum_apply]
  refine Finset.sum_congr rfl fun i _ => ?_
  rw [tallyAt_apply]
  by_cases h : g = f i
  · rw [if_pos ⟨h, rfl⟩, if_pos h]
  · rw [if_neg (fun h' => h h'.1), if_neg h]

theorem O₀_apply (d : Dev nD) (g : GSem nD τ sig) :
    O₀ d g () = (∑ k ∈ Finset.Ico 0 7, if g = barCell (pr d k) then 1 else 0) + ∑ i ∈ Finset.Ico 0 28, if g = rCell (pr d i) (i / 7) d then N else 0 := by
  unfold O₀ Obar Ocr
  rw [Pi.add_apply, Finsupp.add_apply, tally_sum, tally_sum]

theorem bar_eq_iff {a b : Dev nD} : Iff (barCell a = barCell b) (a = b) :=
  ⟨fun h => Fin.ext (congrArg (fun g : GSem nD τ sig => g.1.1.val) h), fun h => h ▸ rfl⟩

theorem bar_total (c : Dev nD) : ∑ d : Dev nD, O₀ d (barCell c) () = 7 := by
  have h : ∀ d : Dev nD, O₀ d (barCell c) () = ∑ k ∈ Finset.Ico 0 7, if d = pr c k then 1 else 0 := by
    intro d
    rw [O₀_apply, Finset.sum_eq_zero (s := Finset.Ico 0 28) (fun i _ => if_neg fun h => by cases congrArg Prod.snd h), Nat.add_zero]
    refine Finset.sum_congr rfl fun k _ => ?_
    by_cases hd : d = pr c k
    · rw [if_pos hd, if_pos (by rw [hd, pr_pr])]
    · rw [if_neg hd, if_neg fun h => hd (by rw [bar_eq_iff.mp h, pr_pr])]
  rw [Finset.sum_congr rfl fun d _ => h d, Finset.sum_comm,
    Finset.sum_congr rfl fun k _ => (Finset.sum_ite_eq' Finset.univ (pr c k) fun _ => 1).trans (if_pos (Finset.mem_univ _))]
  rfl

theorem rIx_inj {g g' : ℕ} (hg : g < 4) (hg' : g' < 4) {j j' : Dev nD} (h : dsem (rIx g j) = dsem (rIx g' j')) : g = g' ∧ j = j' := by
  have h' : ∀ g g' : Fin 4, ∀ j j' : Dev nD, dsem (rIx g.val j) = dsem (rIx g'.val j') → g = g' ∧ j = j' := by decide +kernel
  have := h' ⟨g, hg⟩ ⟨g', hg'⟩ j j' h
  exact ⟨congrArg Fin.val this.1, this.2⟩

theorem same_transfer (c d : Dev nD) {i i' : ℕ} (hi : i < 28) (hi' : i' < 28) (h : rCell c (i / 7) (pr c i) = rCell (pr d i') (i' / 7) d) : i' = i ∧ d = pr c i := by
  have h1 : c = pr d i' := Fin.ext (congrArg (fun g : GSem nD τ sig => g.1.1.val) h)
  have h2 : dsem (rIx (i / 7) (pr c i)) = dsem (rIx (i' / 7) d) := by
    have := congrArg Prod.snd h
    exact SemLoc.dma.inj this
  obtain ⟨hg, hd⟩ := rIx_inj (by omega) (by omega) h2
  have h3 : pr c (i % 7) = pr c (i' % 7) := by rw [pr_mod, pr_mod, hd, h1, pr_pr]
  have h4 := pr_inj7 c (Finset.mem_coe.mpr (Finset.mem_Ico.mpr ⟨Nat.zero_le _, Nat.mod_lt i (by decide)⟩))
    (Finset.mem_coe.mpr (Finset.mem_Ico.mpr ⟨Nat.zero_le _, Nat.mod_lt i' (by decide)⟩)) h3
  exact ⟨by omega, hd.symm⟩

theorem recv_total (c : Dev nD) (i : ℕ) (hi : i < 28) : ∑ d : Dev nD, O₀ d (rCell c (i / 7) (pr c i)) () = N := by
  have h : ∀ d : Dev nD, O₀ d (rCell c (i / 7) (pr c i)) () = if d = pr c i then N else 0 := by
    intro d
    rw [O₀_apply, Finset.sum_eq_zero (s := Finset.Ico 0 7) (fun k _ => if_neg fun h => by cases congrArg Prod.snd h), Nat.zero_add]
    rw [Finset.sum_eq_single_of_mem i (Finset.mem_Ico.mpr ⟨Nat.zero_le _, hi⟩) (fun i' hi' hne => if_neg fun h => hne (same_transfer c d hi (Finset.mem_Ico.mp hi').2 h).1)]
    by_cases hd : d = pr c i
    · rw [if_pos hd, if_pos (by rw [hd, pr_pr])]
    · rw [if_neg hd, if_neg fun h => hd (same_transfer c d hi hi h).2]
  rw [Finset.sum_congr rfl fun d _ => h d, Finset.sum_ite_eq' Finset.univ (pr c i) fun _ => N, if_pos (Finset.mem_univ _)]

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

omit [FloatOps F] in
theorem creds (c : Dev nD) :
    (Pipeline.launchCred O₀ c : sProp 𝕄) ⊢ iprop(cred (tallyAt (barCell c) () 7) ∗ seg 0 28 fun i => cred (tallyAt (rCell c (i / 7) (pr c i)) () N)) := by
  have hinj : Set.InjOn (fun i => (SemLoc.dma (dsem (rIx (i / 7) (pr c i))) : SemLoc sig)) (Finset.Ico 0 28 : Finset ℕ) := by
    intro a ha b hb hab
    have ha' := (Finset.mem_Ico.mp (Finset.mem_coe.mp ha)).2
    have hb' := (Finset.mem_Ico.mp (Finset.mem_coe.mp hb)).2
    obtain ⟨h1, h2⟩ := rIx_inj (by omega) (by omega) (SemLoc.dma.inj hab)
    refine ((same_transfer c (pr c b) ha' hb' ?_).1).symm
    rw [pr_pr, h1, h2]
  have hnot : (SemLoc.reg barS : SemLoc sig) ∉ (Finset.Ico 0 28).image fun i => (SemLoc.dma (dsem (rIx (i / 7) (pr c i))) : SemLoc sig) := by
    intro h
    obtain ⟨i, _, hi⟩ := Finset.mem_image.mp h
    cases hi
  unfold Pipeline.launchCred
  refine (BI.bigSep_subset (Finset.subset_univ (insert (SemLoc.reg barS) ((Finset.Ico 0 28).image fun i => (SemLoc.dma (dsem (rIx (i / 7) (pr c i))) : SemLoc sig))))).trans ?_
  rw [big_add hnot, bigSep_image_of_injOn hinj, launch_at (barCell c) 7 (bar_total c)]
  refine sep_mono_right (seg_mono fun i _ hi => ?_)
  rw [launch_at (rCell c (i / 7) (pr c i)) N (recv_total c i hi)]

end Cert.Ring

end
-- ==== Proof.Enter.lean ====
/-
The two ends of the body: from what a device is started with to the first state, and from the last state to what it
leaves behind.
-/
module

public import proofs.«01_k».proof.Proof.Deal

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

local notation "𝕄" => MT nD τ sig Unit (Elt F) ℕ UU ℕ

/-! ## Buffers at the start -/

/-- A whole buffer at some contents. -/
def any (c : Dev nD) (b : Ref sig .tc) : sProp 𝕄 := iprop(∃ f : Buf (Elt F) ((c : Thread nD τ).loc b), ((c : Thread nD τ).loc b) ↦{fullShare} f)

theorem any_owns (c : Dev nD) (b : Ref sig .tc) : (any c b : sProp 𝕄) = iprop(∃ f : b.ty.Contents (Elt F), owns (c : Thread nD τ) (Memref.whole b) fullShare f) := by
  unfold any
  congr 1
  funext f
  exact (owns_whole (c : Thread nD τ) b fullShare f).symm

theorem any_pts (c : Dev nD) (b : Ref sig .tc) :
    (iprop(∃ f : b.ty.Contents (Elt F), (Memref.whole b).view.loc (c : Thread nD τ) ↦[(Memref.whole b).view.set]{fullShare} f) : sProp 𝕄) ⊢ any c b := by
  unfold any
  simp only [Memref.view_whole, View.set_whole]
  iintro ⟨%f, H⟩
  iexists f
  iexact H

section Whole
variable {T : Type} [Fintype T] [DecidableEq T] (c : Dev nD) (b : Ref sig .tc) (r : T → Rect b.ty.shape)
  (hr : ∀ t a, (r t).stride a = 1) (hd : ∀ t t', t ≠ t' → Disjoint (r t).set (r t').set)
  (hcov : (Finset.univ : Finset T).biUnion (fun t => (r t).set) = Finset.univ)

include hd hcov in
/-- A buffer at some contents is its pieces at some contents. -/
theorem any_pieces : (any c b : sProp 𝕄)
    = bigSep Finset.univ fun t => iprop(∃ Y, owns (c : Thread nD τ) ((Memref.whole b).slice (r t) (hr t)) fullShare Y) := by
  have h₁ : (any c b : sProp 𝕄) ⊢ bigSep Finset.univ fun t => iprop(∃ Y, owns (c : Thread nD τ) ((Memref.whole b).slice (r t) (hr t)) fullShare Y) := by
    rw [any_owns]
    iintro ⟨%f, H⟩
    iapply (tear c (Memref.whole b) r hr hd hcov f)
    iexact H
  exact BI.equiv_iff.mp ⟨h₁, (mend c (Memref.whole b) r hr hd hcov).trans (any_pts c b)⟩
end Whole

theorem wire_eq (c : Dev nD) : (any c cc0_scratch3 : sProp 𝕄)
    = iprop((seg 0 2 fun h => iprop(∃ X, owns (c : Thread nD τ) (wtM h c) fullShare X)) ∗ seg 0 14 fun i => iprop(∃ X, owns (c : Thread nD τ) (wtM (i / 7) (pr c i)) fullShare X)) := by
  rw [any_pieces c cc0_scratch3 (fun t : P2 => tileR t.1.val t.2) (fun _ _ => rfl) tile_disj tile_cov, BI.bigSep_univ_prod]
  exact (fin_seg 2 fun h => bigSep Finset.univ fun j : Dev nD => iprop(∃ X, owns (c : Thread nD τ) (wtM h j) fullShare X)).trans
    (rounds_all 2 c fun h j => iprop(∃ X, owns (c : Thread nD τ) (wtM h j) fullShare X))

theorem out_eq (c : Dev nD) : (any c cc0_stg2_0 : sProp 𝕄)
    = iprop((seg 0 2 fun h => iprop(∃ X, owns (c : Thread nD τ) (otM h c) fullShare X)) ∗ seg 0 14 fun i => iprop(∃ X, owns (c : Thread nD τ) (otM (i / 7) (pr c i)) fullShare X)) := by
  rw [any_pieces c cc0_stg2_0 (fun t : P2 => tileR t.1.val t.2) (fun _ _ => rfl) tile_disj tile_cov, BI.bigSep_univ_prod]
  exact (fin_seg 2 fun h => bigSep Finset.univ fun j : Dev nD => iprop(∃ X, owns (c : Thread nD τ) (otM h j) fullShare X)).trans
    (rounds_all 2 c fun h j => iprop(∃ X, owns (c : Thread nD τ) (otM h j) fullShare X))

theorem pow_eq (c : Dev nD) : (any c cc0_scratch2 : sProp 𝕄) = seg 0 2 fun h => iprop(∃ X, owns (c : Thread nD τ) (phM h) fullShare X) := by
  rw [any_pieces c cc0_scratch2 (fun t : Fin 2 => halfR t.val) (fun _ _ => rfl) half_disj half_cov]
  exact fin_seg 2 fun h => iprop(∃ X, owns (c : Thread nD τ) (phM h) fullShare X)
theorem ag_eq (c : Dev nD) : (any c cc0_scratch4 : sProp 𝕄) = seg 0 2 fun h => iprop(∃ X, owns (c : Thread nD τ) (ahM h) fullShare X) := by
  rw [any_pieces c cc0_scratch4 (fun t : Fin 2 => halfR t.val) (fun _ _ => rfl) half_disj half_cov]
  exact fin_seg 2 fun h => iprop(∃ X, owns (c : Thread nD τ) (ahM h) fullShare X)

theorem bufs_eq (c : Dev nD) : (iprop(any c cc0_scratch5 ∗ any c cc0_scratch6) : sProp 𝕄) = seg 0 4 fun g => bigSep Finset.univ fun j : Dev nD => slotAny c g j := by
  rw [any_pieces c cc0_scratch5 (fun t : P2 => slotR t.1.val t.2) (fun _ _ => rfl) slot_disj slot_cov,
    any_pieces c cc0_scratch6 (fun t : P2 => slotR t.1.val t.2) (fun _ _ => rfl) slot_disj slot_cov]
  exact slots_eq c

/-- The body's scratch buffers. -/
def scr (c : Dev nD) : sProp 𝕄 :=
  iprop(any c cc0_scratch0 ∗ any c cc0_scratch1 ∗ any c cc0_scratch2 ∗ any c cc0_scratch3 ∗ any c cc0_scratch4 ∗ any c cc0_scratch5 ∗ any c cc0_scratch6)
theorem scr_eq (c : Dev nD) : (Pipeline.scopedRest cfg0.spec c : sProp 𝕄) = scr c := scopedRest0_eq c

/-! ## The start -/

/-- A device's positions at its cells and the tokens it pays with. -/
def linear (c : Dev nD) : sProp 𝕄 := iprop((bigSep Finset.univ fun k : Fin 61 => atPos ER (kcell (c, k)) 0 ∅ 0) ∗ payToks c)

/-- What a body starts from besides its buffers. -/
def start (c : Dev nD) : sProp 𝕄 :=
  iprop((∃ K, records m ρ K ∗ linear c) ∗ (cred (tallyAt (barCell c) () 7) ∗ seg 0 28 fun i => cred (tallyAt (rCell c (i / 7) (pr c i)) () N)) ∗ levAts L lv)

/-- What the body never touches: the cells, slots and tiles a device would use to send to itself. -/
def idle (c : Dev nD) : sProp 𝕄 :=
  iprop((seg 0 4 fun g => atPos ER (rCell c g c) 0 ∅ 0) ∗ (seg 0 4 fun g => slotAny c g c) ∗ seg 0 2 fun h => iprop(∃ X, owns (c : Thread nD τ) (wtM h c) fullShare X))

theorem cells_at (c : Dev nD) (R : ℕ) :
    (bigSep Finset.univ fun k : Fin 61 => atPos ER (kcell (c, k)) R ∅ 0 : sProp 𝕄)
      = iprop(atPos ER (barCell c) R ∅ 0 ∗ ((seg 0 28 fun i => atPos ER (sCell c i) R ∅ 0) ∗ (seg 0 28 fun i => atPos ER (rCell c (i / 7) (pr c i)) R ∅ 0)) ∗ seg 0 4 fun g => atPos ER (rCell c g c) R ∅ 0) := by
  rw [cells_split c, seg_congr (fun i _ hi => congrArg (fun g => (atPos ER g R ∅ 0 : sProp 𝕄)) (kcell_s c i hi)),
    seg_congr (fun i _ hi => congrArg (fun g => (atPos ER g R ∅ 0 : sProp 𝕄)) (kcell_r c (i / 7) (by omega) (pr c i))),
    seg_congr (fun g _ hg => congrArg (fun g => (atPos ER g R ∅ 0 : sProp 𝕄)) (kcell_r c g hg c))]
  rfl

theorem any_holds (c : Dev nD) (b : Ref sig .tc) (P : Buf (Elt F) ((c : Thread nD τ).loc b) → Prop) :
    (any c b : sProp 𝕄) ⊢ iprop(∃ f : Buf (Elt F) ((c : Thread nD τ).loc b), ⌜1 ≤ 0 → P f⌝ ∗ (((c : Thread nD τ).loc b) ↦{fullShare} f)) := by
  unfold any
  iintro ⟨%f, H⟩
  iexists f
  isplitr
  · ipureintro; intro h; omega
  iexact H

theorem enter (c : Dev nD) (W : Waits sig Unit) :
    iprop(start m ρ c ∗ scr c ∗ owes (c : Thread nD τ) (O₀ c) W
        ∗ (((c : Thread nD τ).loc cc0_stg0_0) ↦{fullShare} astg m ρ c) ∗ (((c : Thread nD τ).loc cc0_stg1_0) ↦{fullShare} bstg m ρ c) ∗ any c cc0_stg2_0)
      ⊢ iprop(∃ K, St m ρ K c 0 0 0 0 0 0 0 0 0 0 0 ∗ idle c) := by
  have h0 := any_holds (F := F) c cc0_scratch0 (fun f => f = A16 m ρ c)
  have h1 : (any c cc0_scratch1 : sProp 𝕄) ⊢ iprop(∃ f : Buf (Elt F) ((c : Thread nD τ).loc cc0_scratch1), ⌜2 ≤ 0 → f = B16 m ρ c⌝ ∗ (((c : Thread nD τ).loc cc0_scratch1) ↦{fullShare} f)) := by
    unfold any
    iintro ⟨%f, H⟩
    iexists f
    isplitr
    · ipureintro; intro h; omega
    iexact H
  have hslots : (iprop(any c cc0_scratch5 ∗ any c cc0_scratch6) : sProp 𝕄)
      ⊢ iprop((seg 0 4 fun g => slotAny c g c) ∗ seg 0 7 fun k => seg 0 4 fun g => slotAny c g (pr c k)) :=
    Entails.of_eq ((bufs_eq c).trans (rounds_peers 4 c fun g j => slotAny c g j))
  unfold start scr linear payToks St known stO stS stB stC stT stR stY stP stV idle
  rw [cells_at, out_eq, wire_eq, pow_eq, ag_eq, seg_both, seg_both, seg_both]
  simp only [seg_nil]
  iintro ⟨⟨⟨%K, #HR, ⟨HaB, ⟨HaS, HaV⟩, HaI⟩, HtB, HtS, HtV⟩, ⟨HcB, HcV⟩, #HL⟩, ⟨Hs0, Hs1, Hs2, ⟨Hw0, Hw⟩, Hs4, Hs5, Hs6⟩, HO, HA, HB, ⟨Hoc, Hop⟩⟩
  ihave Hsl := hslots $$ [Hs5 Hs6]
  · isplitl [Hs5] <;> iassumption
  icases Hsl with ⟨Hsl0, Hsl⟩
  iexists K
  isplitr [HaI Hsl0 Hw0]
  · isplitr
    · isplitr; · iexact HR
      iexact HL
    isplitl [HO]
    · iexists W; unfold O₀; iexact HO
    isplitl [HtB Hsl]
    · isplitl [HtB]; · iexact HtB
      iexact Hsl
    isplitl [HaB HcB]
    · isplitl [HaB]; · iexact HaB
      iexact HcB
    isplitl [HA HB Hs0 Hs1]
    · isplitl [HA]; · iexact HA
      isplitl [HB]; · iexact HB
      isplitl [Hs0]; · iapply h0; iexact Hs0
      iapply h1; iexact Hs1
    isplitl [HtS HtV HaS]
    · isplitl [HtS HtV]
      · isplitl [HtS]; · iexact HtS
        iexact HtV
      isplitr; · iempintro
      isplitl [HaS]; · iexact HaS
      iempintro
    isplitl [HaV HcV]
    · isplitl [HaV HcV]
      · isplitl [HaV]; · iexact HaV
        iexact HcV
      iempintro
    isplitl [Hw Hs4]
    · isplitl [Hw]; · iexact Hw
      isplitr; · iempintro
      isplitr; · iempintro
      isplitl [Hs4]; · iexact Hs4
      iempintro
    isplitl [Hs2]
    · isplitl [Hs2]; · iexact Hs2
      iempintro
    isplitl [Hoc]; · iexact Hoc
    isplitr; · iempintro
    isplitl [Hop]; · iexact Hop
    iempintro
  · isplitl [HaI]; · iexact HaI
    isplitl [Hsl0]; · iexact Hsl0
    iexact Hw0

end Cert.Ring

end
-- ==== Proof.Leave.lean ====
/-
The last state of the body, put back together: the counters at zero, the scratch buffers, and the result.
-/
module

public import proofs.«01_k».proof.Proof.Enter

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

local notation "𝕄" => MT nD τ sig Unit (Elt F) ℕ UU ℕ

/-! ## The result -/

/-- An index of the result within its tile. -/
def within (x : S1024x1024.Idx) : S128x512.Idx := fun a => ⟨(x a).val % S128x512.size a, Nat.mod_lt _ (by revert a; decide)⟩
/-- The device whose rows it lies in. -/
def rowDev (x : S1024x1024.Idx) : Dev nD := ⟨(x 0).val / 128, by have h : (x 0).val < 1024 := (x 0).isLt; show (x 0).val / 128 < 8; omega⟩

/-- What device `c` ends with: tile by tile. -/
def outAt (c : Dev nD) : (cc0_stg2_0 : Ref sig .tc).ty.Contents (Elt F) := fun x => OT m ρ c ((x 1).val / 512) (rowDev x) (within x)

theorem outAt_tile (c : Dev nD) (h : Fin 2) (j : Dev nD) (y : S128x512.Idx) : outAt m ρ c ((tileR h.val j).emb y) = OT m ρ c h.val j y := by
  have e0 : (((tileR h.val j).emb y) 0).val = 128 * j.val + 1 * (y 0).val := rfl
  have e1 : (((tileR h.val j).emb y) 1).val = 512 * (h.val % 2) + 1 * (y 1).val := rfl
  have y0 : (y 0).val < 128 := (y 0).isLt
  have y1 : (y 1).val < 512 := (y 1).isLt
  have hh := h.isLt
  have hr : rowDev ((tileR h.val j).emb y) = j := Fin.ext (by show (((tileR h.val j).emb y) 0).val / 128 = j.val; rw [e0]; omega)
  have hw : within ((tileR h.val j).emb y) = y := funext fun a => Fin.ext (by
    fin_cases a
    · show (((tileR h.val j).emb y) 0).val % 128 = (y 0).val; rw [e0]; omega
    · show (((tileR h.val j).emb y) 1).val % 512 = (y 1).val; rw [e1]; omega)
  unfold outAt
  rw [hr, hw, e1, show (512 * (h.val % 2) + 1 * (y 1).val) / 512 = h.val by omega]

theorem out_done (c : Dev nD) :
    iprop((seg 0 2 fun h => owns (c : Thread nD τ) (otM h c) fullShare (OT m ρ c h c)) ∗ seg 0 14 fun i => owns (c : Thread nD τ) (otM (i / 7) (pr c i)) fullShare (OT m ρ c (i / 7) (pr c i)))
      ⊢ ((((c : Thread nD τ).loc cc0_stg2_0) ↦{fullShare} outAt m ρ c) : sProp 𝕄) := by
  refine (Entails.of_eq (rounds_all 2 c fun h j => (owns (c : Thread nD τ) (otM h j) fullShare (OT m ρ c h j) : sProp 𝕄)).symm).trans ?_
  refine (Entails.of_eq (fin_seg 2 fun h => bigSep Finset.univ fun j : Dev nD => (owns (c : Thread nD τ) (otM h j) fullShare (OT m ρ c h j) : sProp 𝕄)).symm).trans ?_
  refine (Entails.of_eq (BI.bigSep_univ_prod fun t : P2 => (owns (c : Thread nD τ) (otM t.1.val t.2) fullShare (OT m ρ c t.1.val t.2) : sProp 𝕄)).symm).trans ?_
  have hX : (fun t : P2 => (owns (c : Thread nD τ) (otM t.1.val t.2) fullShare (OT m ρ c t.1.val t.2) : sProp 𝕄))
      = fun t : P2 => owns (c : Thread nD τ) (outM.slice (tileR t.1.val t.2) (fun _ => rfl)) fullShare (fun y => outAt m ρ c ((tileR t.1.val t.2).emb y)) :=
    funext fun t => congrArg (owns (c : Thread nD τ) (otM t.1.val t.2) fullShare) (funext fun y => (outAt_tile m ρ c t.1 t.2 y).symm)
  rw [hX]
  exact (owns_of_rects (c : Thread nD τ) outM fullShare (fun t : P2 => tileR t.1.val t.2) (fun _ _ => rfl) tile_disj tile_cov (outAt m ρ c)).trans
    (Entails.of_eq (owns_whole (c : Thread nD τ) cc0_stg2_0 fullShare (outAt m ρ c)))

/-! ## The shared halves -/

theorem half_srcs (c : Dev nD) {k : ℕ} (hk : k < 2) : (seg (14 + 7 * k) (14 + 7 * k + 7) fun i => srcRes m ρ c i)
    = bigSep (Finset.range 7) fun i => owns (c : Thread nD τ) (ahM k) (Transfers.shareTokN fullShare i) (AG m ρ c k) := by
  rw [seg_shift, Finset.range_eq_Ico]
  refine seg_congr fun i _ hi => ?_
  have h2 : halfR ((14 + 7 * k + i) / 7) = halfR k := by
    unfold halfR; congr 1; rw [show (14 + 7 * k + i) / 7 % 2 = k % 2 by omega]
  have hm : ahM ((14 + 7 * k + i) / 7) = ahM k :=
    (show ∀ r r' : Rect S128x1024, r = r' → ∀ hr hr', HEq (agM.slice r hr) (agM.slice r' hr') by rintro r _ rfl _ _; rfl) _ _ h2 _ _ |> eq_of_heq
  unfold srcRes srcM srcSh srcV
  rw [if_neg (by omega), if_neg (by omega), if_neg (by omega), show (14 + 7 * k + i) % 7 = i by omega, show (14 + 7 * k + i) / 7 - 2 = k by omega, hm]

/-- A memref's points-to at any contents that read as what it is owned at. -/
theorem half_pts (c : Dev nD) (h : ℕ) (q : PosShare TreeShare) (f : (agM : Memref sig .tc .vmem S128x1024 .i8).view.ty.Contents (Elt F)) :
    (owns (c : Thread nD τ) (ahM h) q ((ahM h).view.read (Elt F) f) : sProp 𝕄) = ((ahM h).view.loc (c : Thread nD τ) ↦[(ahM h).view.set]{q} f) :=
  owns_slice_read (c : Thread nD τ) agM q (halfR h) (fun _ => rfl) f

theorem undeal (c : Dev nD) {k : ℕ} (hk : k < 2) :
    iprop(owns (c : Thread nD τ) (ahM k) (Transfers.shareDrop fullShare 7) (AG m ρ c k) ∗ seg (14 + 7 * k) (14 + 7 * k + 7) fun i => srcRes m ρ c i)
      ⊢ (iprop(∃ X, owns (c : Thread nD τ) (ahM k) fullShare X) : sProp 𝕄) := by
  rw [half_srcs m ρ c hk]
  have key : ∀ f : (agM : Memref sig .tc .vmem S128x1024 .i8).view.ty.Contents (Elt F), (ahM k).view.read (Elt F) f = AG m ρ c k →
      iprop(((ahM k).view.loc (c : Thread nD τ) ↦[(ahM k).view.set]{Transfers.shareDrop fullShare 7} f)
        ∗ bigSep (Finset.range 7) fun i => owns (c : Thread nD τ) (ahM k) (Transfers.shareTokN fullShare i) (AG m ρ c k))
      ⊢ (iprop(∃ X, owns (c : Thread nD τ) (ahM k) fullShare X) : sProp 𝕄) := by
    intro f hf
    rw [← hf, bigSep_congr (fun i _ => half_pts c k (Transfers.shareTokN fullShare i) f)]
    refine ((Transfers.pointsTo_toks_range fullShare 7).2).trans ?_
    refine (owns_intro (c : Thread nD τ) (ahM k) fullShare f).trans ?_
    exact owns_some c _ _
  unfold owns at key ⊢
  iintro ⟨⟨%f, %hf, H⟩, HT⟩
  iapply (key f hf)
  isplitl [H]; · iexact H
  iexact HT

/-- What was sent, back in its buffers. -/
theorem wire_done (c : Dev nD) :
    iprop((seg 0 2 fun h => iprop(∃ X, owns (c : Thread nD τ) (wtM h c) fullShare X)) ∗ (seg 0 28 fun i => srcRes m ρ c i)
        ∗ seg 0 2 fun h => owns (c : Thread nD τ) (ahM h) (Transfers.shareDrop fullShare 7) (AG m ρ c h))
      ⊢ iprop(any c cc0_scratch3 ∗ any c cc0_scratch4) := by
  have hw : (seg 0 14 fun i => srcRes m ρ c i) ⊢ seg 0 14 fun i => iprop(∃ X, owns (c : Thread nD τ) (wtM (i / 7) (pr c i)) fullShare X) := by
    refine seg_mono fun i _ hi => ?_
    unfold srcRes srcM srcSh
    rw [if_pos hi, if_pos hi]
    exact owns_some c _ _
  rw [wire_eq, ag_eq, seg_cut (a := 0) (b := 14) (d := 28) (by decide) (by decide), seg_cut (a := 14) (b := 21) (d := 28) (by decide) (by decide),
    seg_pop (a := 0) (b := 2) (by decide) (fun h => owns (c : Thread nD τ) (ahM h) (Transfers.shareDrop fullShare 7) (AG m ρ c h)),
    seg_pop (a := 0 + 1) (b := 2) (by decide) (fun h => owns (c : Thread nD τ) (ahM h) (Transfers.shareDrop fullShare 7) (AG m ρ c h)),
    seg_pop (a := 0) (b := 2) (by decide) (fun h => iprop(∃ X, owns (c : Thread nD τ) (ahM h) fullShare X)),
    seg_pop (a := 0 + 1) (b := 2) (by decide) (fun h => iprop(∃ X, owns (c : Thread nD τ) (ahM h) fullShare X)), seg_void (a := 0 + 1 + 1) (b := 2) (by decide), seg_void (a := 0 + 1 + 1) (b := 2) (by decide)]
  iintro ⟨H0, ⟨H1, H2, H3⟩, H4, H5, -⟩
  isplitl [H0 H1]
  · isplitl [H0]; · iexact H0
    iapply hw; iexact H1
  isplitl [H2 H4]
  · iapply (undeal m ρ c (k := 0) (by decide))
    isplitl [H4]; · iexact H4
    iexact H2
  isplitl [H3 H5]
  · iapply (undeal m ρ c (k := 1) (by decide))
    isplitl [H5]; · iexact H5
    iexact H3
  iempintro

/-! ## The slots -/

theorem slots_done (c : Dev nD) :
    iprop((seg 0 4 fun g => slotAny c g c) ∗ seg 0 28 fun i => slotRes m ρ c (i / 7) (pr c i)) ⊢ iprop(any c cc0_scratch5 ∗ any c cc0_scratch6) := by
  have hs : (seg 0 28 fun i => slotRes m ρ c (i / 7) (pr c i)) ⊢ seg 0 28 fun i => slotAny c (i / 7) (pr c i) :=
    seg_mono fun i _ _ => by unfold slotRes slotAny; exact owns_some c _ _
  rw [bufs_eq, rounds_all 4 c fun g j => slotAny c g j]
  exact sep_mono_right hs

/-! ## The counters -/

theorem close_one (K : Dev nD × Fin 61 → ℕ) (ck : Dev nD × Fin 61) (g : GSem nD τ sig) (hg : kcell ck = g) (R : ℕ)
    (hR : ∀ r, R ≤ r → (sched (F := F) m ρ).duties g r = ∅) :
    iprop(records m ρ K ∗ atPos ER g R ∅ 0) ⊢ (|={Set.univ}=> semVal g 0 : sProp 𝕄) := by
  iintro ⟨#HR, Ha⟩
  ihave H := (cell_rec m ρ K ck g hg) $$ HR
  icases H with ⟨#HI, -⟩
  iapply (Rounds.cell_close ER (sched m ρ) (Set.mem_univ (K ck)) (fun h => h) hR)
  isplitr; · iexact HI
  iexact Ha

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_run (K : Dev nD × Fin 61 → ℕ) (n : ℕ) (ck : ℕ → Dev nD × Fin 61) (g : ℕ → GSem nD τ sig) (hg : ∀ i, i < n → kcell (ck i) = g i) (R : ℕ)
    (hR : ∀ i, i < n → ∀ r, R ≤ r → (sched (F := F) m ρ).duties (g i) r = ∅) :
    iprop(records m ρ K ∗ seg 0 n fun i => atPos ER (g i) R ∅ 0) ⊢ (iprop(|={Set.univ}=> seg 0 n fun i => semVal (g i) 0) : sProp 𝕄) :=
  (with_known (R := records m ρ K) (Ψ := fun i => iprop(|={Set.univ}=> semVal (g i) 0)) fun i hi =>
    close_one m ρ K (ck i) (g i) (hg i (Finset.mem_Ico.mp hi).2) R (hR i (Finset.mem_Ico.mp hi).2)).trans (bigSep_fupd _ _)

theorem sems_at (c : Dev nD) :
    (bigSep Finset.univ fun k : Fin 61 => semVal (kcell (c, k)) 0 : sProp 𝕄)
      = iprop(semVal (barCell c) 0 ∗ ((seg 0 28 fun i => semVal (sCell c i) 0) ∗ (seg 0 28 fun i => semVal (rCell c (i / 7) (pr c i)) 0)) ∗ seg 0 4 fun g => semVal (rCell c g c) 0) := by
  rw [cells_split c, seg_congr (fun i _ hi => congrArg (fun g => (semVal g 0 : sProp 𝕄)) (kcell_s c i hi)),
    seg_congr (fun i _ hi => congrArg (fun g => (semVal g 0 : sProp 𝕄)) (kcell_r c (i / 7) (by omega) (pr c i))),
    seg_congr (fun g _ hg => congrArg (fun g => (semVal g 0 : sProp 𝕄)) (kcell_r c g hg c))]
  rfl

theorem sems_done (K : Dev nD × Fin 61 → ℕ) (c : Dev nD) :
    iprop(records m ρ K ∗ atPos ER (barCell c) 1 ∅ 0 ∗ (seg 0 28 fun i => atPos ER (sCell c i) 1 ∅ 0) ∗ (seg 0 28 fun i => atPos ER (rCell c (i / 7) (pr c i)) 1 ∅ 0) ∗ seg 0 4 fun g => atPos ER (rCell c g c) 0 ∅ 0)
      ⊢ (|={Set.univ}=> bigSep Finset.univ fun k : Fin 61 => semVal (kcell (c, k)) 0 : sProp 𝕄) := by
  rw [sems_at]
  iintro ⟨#HR, H0, H1, H2, H3⟩
  imod (close_one m ρ K (c, 0) (barCell c) (kcell_bar c) 1 (duties_later m ρ _)) $$ [H0] with H0
  · isplitr; · iexact HR
    iexact H0
  imod (close_run m ρ K 28 (fun i => (c, sK i)) (fun i => sCell c i) (fun i hi => kcell_s c i hi) 1 (fun i _ => duties_later m ρ _)) $$ [H1] with H1
  · isplitr; · iexact HR
    iexact H1
  imod (close_run m ρ K 28 (fun i => (c, rK (i / 7) (pr c i))) (fun i => rCell c (i / 7) (pr c i)) (fun i hi => kcell_r c (i / 7) (by omega) (pr c i)) 1 (fun i _ => duties_later m ρ _)) $$ [H2] with H2
  · isplitr; · iexact HR
    iexact H2
  imod (close_run m ρ K 4 (fun g => (c, rK g c)) (fun g => rCell c g c) (fun g hg => kcell_r c g hg c) 0 (fun g hg => duties_self m ρ c g hg)) $$ [H3] with H3
  · isplitr; · iexact HR
    iexact H3
  imodintro
  isplitl [H0]; · iexact H0
  isplitl [H1 H2]
  · isplitl [H1] <;> iassumption
  iexact H3

/-! ## All of it -/

theorem leave (K : Dev nD × Fin 61 → ℕ) (c : Dev nD) :
    iprop(St m ρ K c 7 1 2 28 28 28 28 2 2 2 14 ∗ idle c)
      ⊢ (|={Set.univ}=> iprop((∃ W, owes (c : Thread nD τ) 0 W) ∗ (bigSep Finset.univ fun k : Fin 61 => semVal (kcell (c, k)) 0) ∗ scr c
        ∗ (((c : Thread nD τ).loc cc0_stg0_0) ↦{fullShare} astg m ρ c) ∗ (((c : Thread nD τ).loc cc0_stg1_0) ↦{fullShare} bstg m ρ c)
        ∗ (((c : Thread nD τ).loc cc0_stg2_0) ↦{fullShare} outAt m ρ c)) : sProp 𝕄) := by
  have hp : (seg 0 2 fun h => owns (c : Thread nD τ) (phM h) fullShare (PO m ρ c h)) ⊢ (any c cc0_scratch2 : sProp 𝕄) := by
    rw [pow_eq]; exact seg_mono fun h _ _ => owns_some c _ _
  unfold St known stO stS stB stC stT stR stY stP stV idle scr
  simp only [Obar_seven, Ocr_last, add_zero, seg_both]
  iintro ⟨⟨⟨#HR, #HL⟩, HO, -, ⟨HaB, -⟩, ⟨HA, HB, ⟨%f0, -, Hs0⟩, ⟨%f1, -, Hs1⟩⟩, ⟨-, -, -, HaS⟩, ⟨-, HaV, Hsl⟩, ⟨-, -, Hsr, -, Hag⟩, ⟨-, Hp⟩, ⟨-, Ho, -, Hov⟩⟩, HaI, Hsl0, Hw0⟩
  imod (sems_done m ρ K c) $$ [HaB HaS HaV HaI] with Hz
  · isplitr; · iexact HR
    isplitl [HaB]; · iexact HaB
    isplitl [HaS]; · iexact HaS
    isplitl [HaV]; · iexact HaV
    iexact HaI
  ihave Hwd := (wire_done m ρ c) $$ [Hw0 Hsr Hag]
  · isplitl [Hw0]; · iexact Hw0
    isplitl [Hsr]; · iexact Hsr
    iexact Hag
  icases Hwd with ⟨Hs3, Hs4⟩
  ihave Hsd := (slots_done m ρ c) $$ [Hsl0 Hsl]
  · isplitl [Hsl0]; · iexact Hsl0
    iexact Hsl
  icases Hsd with ⟨Hs5, Hs6⟩
  imodintro
  isplitl [HO]; · iexact HO
  isplitl [Hz]; · iexact Hz
  isplitl [Hs0 Hs1 Hp Hs3 Hs4 Hs5 Hs6]
  · isplitl [Hs0]; · unfold any; iexists f0; iexact Hs0
    isplitl [Hs1]; · unfold any; iexists f1; iexact Hs1
    isplitl [Hp]; · iapply hp; iexact Hp
    isplitl [Hs3]; · iexact Hs3
    isplitl [Hs4]; · iexact Hs4
    isplitl [Hs5] <;> iassumption
  isplitl [HA]; · iexact HA
  isplitl [HB]; · iexact HB
  iapply (out_done m ρ c)
  isplitl [Ho] <;> iassumption

end Cert.Ring

end
-- ==== Proof.Steps.lean ====
/-
One rule per kind of effect of the body: what it does to the state.
-/
module

public import proofs.«01_k».proof.Proof.State

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg}
variable {K : Dev nD × Fin 61 → ℕ} {c : Dev nD}
variable {s b q y t w x p o v k : ℕ}
variable {α : Type} {Q : α → sProp (MT nD τ sig Unit (Elt F) ℕ UU ℕ)} {W W' : sProp (MT nD τ sig Unit (Elt F) ℕ UU ℕ)}

/-! ## Effects on one part of the state -/

theorem in_C {q' : ℕ} (e : stC m ρ c q ⊢ iprop((stC m ρ c q' -∗ W') -∗ W)) (h : St m ρ K c s b q' y t w x p k o v ⊢ W') :
    St m ρ K c s b q y t w x p k o v ⊢ W := by
  unfold St at h ⊢
  iintro ⟨HK, HO, HS, HB, H, HT, HR, HY, HP, HV⟩
  iapply e $$ H
  iintro H
  iapply h
  isplitl [HK]; · iexact HK
  isplitl [HO]; · iexact HO
  isplitl [HS]; · iexact HS
  isplitl [HB]; · iexact HB
  isplitl [H]; · iexact H
  isplitl [HT]; · iexact HT
  isplitl [HR]; · iexact HR
  isplitl [HY]; · iexact HY
  isplitl [HP]; · iexact HP
  iexact HV

theorem in_R (e : stR m ρ c w ⊢ iprop((stR m ρ c w -∗ W') -∗ W)) (h : St m ρ K c s b q y t w x p k o v ⊢ W') :
    St m ρ K c s b q y t w x p k o v ⊢ W := by
  unfold St at h ⊢
  iintro ⟨HK, HO, HS, HB, HC, HT, H, HY, HP, HV⟩
  iapply e $$ H
  iintro H
  iapply h
  isplitl [HK]; · iexact HK
  isplitl [HO]; · iexact HO
  isplitl [HS]; · iexact HS
  isplitl [HB]; · iexact HB
  isplitl [HC]; · iexact HC
  isplitl [HT]; · iexact HT
  isplitl [H]; · iexact H
  isplitl [HY]; · iexact HY
  isplitl [HP]; · iexact HP
  iexact HV

theorem in_Y {y' k' : ℕ} (e : stY m ρ c y t x k ⊢ iprop((stY m ρ c y' t x k' -∗ W') -∗ W)) (h : St m ρ K c s b q y' t w x p k' o v ⊢ W') :
    St m ρ K c s b q y t w x p k o v ⊢ W := by
  unfold St at h ⊢
  iintro ⟨HK, HO, HS, HB, HC, HT, HR, H, HP, HV⟩
  iapply e $$ H
  iintro H
  iapply h
  isplitl [HK]; · iexact HK
  isplitl [HO]; · iexact HO
  isplitl [HS]; · iexact HS
  isplitl [HB]; · iexact HB
  isplitl [HC]; · iexact HC
  isplitl [HT]; · iexact HT
  isplitl [HR]; · iexact HR
  isplitl [H]; · iexact H
  isplitl [HP]; · iexact HP
  iexact HV

theorem in_P {p' : ℕ} (e : stP m ρ c p ⊢ iprop((stP m ρ c p' -∗ W') -∗ W)) (h : St m ρ K c s b q y t w x p' k o v ⊢ W') :
    St m ρ K c s b q y t w x p k o v ⊢ W := by
  unfold St at h ⊢
  iintro ⟨HK, HO, HS, HB, HC, HT, HR, HY, H, HV⟩
  iapply e $$ H
  iintro H
  iapply h
  isplitl [HK]; · iexact HK
  isplitl [HO]; · iexact HO
  isplitl [HS]; · iexact HS
  isplitl [HB]; · iexact HB
  isplitl [HC]; · iexact HC
  isplitl [HT]; · iexact HT
  isplitl [HR]; · iexact HR
  isplitl [HY]; · iexact HY
  isplitl [H]; · iexact H
  iexact HV

theorem in_V {o' v' : ℕ} (e : stV m ρ c o v ⊢ iprop((stV m ρ c o' v' -∗ W') -∗ W)) (h : St m ρ K c s b q y t w x p k o' v' ⊢ W') :
    St m ρ K c s b q y t w x p k o v ⊢ W := by
  unfold St at h ⊢
  iintro ⟨HK, HO, HS, HB, HC, HT, HR, HY, HP, H⟩
  iapply e $$ H
  iintro H
  iapply h
  isplitl [HK]; · iexact HK
  isplitl [HO]; · iexact HO
  isplitl [HS]; · iexact HS
  isplitl [HB]; · iexact HB
  isplitl [HC]; · iexact HC
  isplitl [HT]; · iexact HT
  isplitl [HR]; · iexact HR
  isplitl [HY]; · iexact HY
  isplitl [HP]; · iexact HP
  iexact H

/-! ## The factors -/

section Factors

theorem zero2 : (![0, 0] : Fin 2 → ℕ) = fun _ => 0 := by funext a; fin_cases a <;> rfl

theorem s_stgA {h₁ : ∀ a, (![0, 0] : Fin 2 → ℕ) a + S1024x512.size a ≤ S1024x512.size a} {hl} {kk : Vec F S1024x512 .bf16 → Prog (TpuEff nD τ sig (Elt F) Λ₀ .tc) α}
    (h : St m ρ K c s b q y t w x p k o v ⊢ WPk c (kk (astg m ρ c)) Q) :
    St m ρ K c s b q y t w x p k o v ⊢ WPk c (.op (.load stgA (Rect.unit (s := S1024x512) ![0, 0] S1024x512.size h₁).toLoadRect hl) kk) Q := by
  refine in_C ?_ h
  have e : stgA.view.readAt (Elt F) (Rect.unit (s := S1024x512) ![0, 0] S1024x512.size h₁).toLoadRect (astg m ρ c) = astg m ρ c :=
    Memref.readAt_unit_zero (Elt F) cc0_stg0_0 zero2 _ _
  unfold stC
  iintro ⟨HA, HB, H⟩ Hk
  iapply (wp_load 𝒱₀ (c : Thread nD τ) none Set.univ (m := stgA) (r := (Rect.unit (s := S1024x512) ![0, 0] S1024x512.size h₁).toLoadRect) (Finset.subset_univ _)) $$ HA
  iintro HA
  rw [e]
  iapply Hk
  isplitl [HA]; · iexact HA
  isplitl [HB]; · iexact HB
  iexact H

theorem s_stgB {h₁ : ∀ a, (![0, 0] : Fin 2 → ℕ) a + S512x1024.size a ≤ S512x1024.size a} {hl} {kk : Vec F S512x1024 .bf16 → Prog (TpuEff nD τ sig (Elt F) Λ₀ .tc) α}
    (h : St m ρ K c s b q y t w x p k o v ⊢ WPk c (kk (bstg m ρ c)) Q) :
    St m ρ K c s b q y t w x p k o v ⊢ WPk c (.op (.load stgB (Rect.unit (s := S512x1024) ![0, 0] S512x1024.size h₁).toLoadRect hl) kk) Q := by
  refine in_C ?_ h
  have e : stgB.view.readAt (Elt F) (Rect.unit (s := S512x1024) ![0, 0] S512x1024.size h₁).toLoadRect (bstg m ρ c) = bstg m ρ c :=
    Memref.readAt_unit_zero (Elt F) cc0_stg1_0 zero2 _ _
  unfold stC
  iintro ⟨HA, HB, H⟩ Hk
  iapply (wp_load 𝒱₀ (c : Thread nD τ) none Set.univ (m := stgB) (r := (Rect.unit (s := S512x1024) ![0, 0] S512x1024.size h₁).toLoadRect) (Finset.subset_univ _)) $$ HB
  iintro HB
  rw [e]
  iapply Hk
  isplitl [HA]; · iexact HA
  isplitl [HB]; · iexact HB
  iexact H

/-- A load of the left copy, whatever the program then does with it: nothing is known before it is made. -/
theorem s_aDead {r : Rect S1024x512} {hl} {kk : (r.shape.Idx → Elt F .bf16) → Prog (TpuEff nD τ sig (Elt F) Λ₀ .tc) α}
    (h : ∀ X, St m ρ K c s b q y t w x p k o v ⊢ WPk c (kk X) Q) :
    St m ρ K c s b q y t w x p k o v ⊢ WPk c (.op (.load aM r.toLoadRect hl) kk) Q := by
  refine in_C (W' := iprop(∀ X, WPk c (kk X) Q)) ?_ (forall_intro h)
  unfold stC
  iintro ⟨HA, HB, ⟨%f, %hf, H⟩, HG⟩ Hk
  iapply (wp_load 𝒱₀ (c : Thread nD τ) none Set.univ (m := aM) (r := r.toLoadRect) (Finset.subset_univ _)) $$ H
  iintro H
  iapply (forall_elim (Φ := fun X => WPk c (kk X) Q) _)
  iapply Hk
  isplitl [HA]; · iexact HA
  isplitl [HB]; · iexact HB
  isplitl [H]
  · iexists f
    isplitr; · ipureintro; exact hf
    iexact H
  iexact HG

theorem s_bDead {r : Rect S512x1024} {hl} {kk : (r.shape.Idx → Elt F .bf16) → Prog (TpuEff nD τ sig (Elt F) Λ₀ .tc) α}
    (h : ∀ X, St m ρ K c s b q y t w x p k o v ⊢ WPk c (kk X) Q) :
    St m ρ K c s b q y t w x p k o v ⊢ WPk c (.op (.load bM r.toLoadRect hl) kk) Q := by
  refine in_C (W' := iprop(∀ X, WPk c (kk X) Q)) ?_ (forall_intro h)
  unfold stC
  iintro ⟨HA, HB, HG, ⟨%f, %hf, H⟩⟩ Hk
  iapply (wp_load 𝒱₀ (c : Thread nD τ) none Set.univ (m := bM) (r := r.toLoadRect) (Finset.subset_univ _)) $$ H
  iintro H
  iapply (forall_elim (Φ := fun X => WPk c (kk X) Q) _)
  iapply Hk
  isplitl [HA]; · iexact HA
  isplitl [HB]; · iexact HB
  isplitl [HG]; · iexact HG
  iexists f
  isplitr; · ipureintro; exact hf
  iexact H

theorem s_aStore {h₁ : ∀ a, (![0, 0] : Fin 2 → ℕ) a + S1024x512.size a ≤ S1024x512.size a} {hx hm} {kk : PUnit → Prog (TpuEff nD τ sig (Elt F) Λ₀ .tc) α}
    (h : St m ρ K c s b 1 y t w x p k o v ⊢ WPk c (kk ⟨⟩) Q) :
    St m ρ K c s b 0 y t w x p k o v
      ⊢ WPk c (.op (.store aM (Rect.unit (s := S1024x512) ![0, 0] S1024x512.size h₁) (k0_pay1 (astg m ρ c)) Finset.univ hx hm) kk) Q := by
  refine in_C ?_ h
  unfold stC
  iintro ⟨HA, HB, ⟨%f, %hf, H⟩, ⟨%g, %hg, HG⟩⟩ Hk
  have e : (aM.access (Rect.unit (s := S1024x512) ![0, 0] S1024x512.size h₁)).write (Elt F) f (k0_pay1 (astg m ρ c)) Finset.univ = k0_pay1 (astg m ρ c) :=
    Memref.write_access_unit_zero_univ (Elt F) cc0_scratch0 zero2 _ _ _
  iapply (wp_store 𝒱₀ (c : Thread nD τ) none Set.univ (m := aM) (r := Rect.unit (s := S1024x512) ![0, 0] S1024x512.size h₁) (Finset.subset_univ _)) $$ H
  iintro H
  rw [e]
  iapply Hk
  isplitl [HA]; · iexact HA
  isplitl [HB]; · iexact HB
  isplitl [H]
  · iexists _
    isplitr
    rotate_left
    · iexact H
    · ipureintro; exact fun _ => rfl
  iexists g
  isplitr; · ipureintro; exact fun h => absurd h (by decide)
  iexact HG

theorem s_bStore {h₁ : ∀ a, (![0, 0] : Fin 2 → ℕ) a + S512x1024.size a ≤ S512x1024.size a} {hx hm} {kk : PUnit → Prog (TpuEff nD τ sig (Elt F) Λ₀ .tc) α}
    (h : St m ρ K c s b 2 y t w x p k o v ⊢ WPk c (kk ⟨⟩) Q) :
    St m ρ K c s b 1 y t w x p k o v
      ⊢ WPk c (.op (.store bM (Rect.unit (s := S512x1024) ![0, 0] S512x1024.size h₁) (k0_pay2 (bstg m ρ c)) Finset.univ hx hm) kk) Q := by
  refine in_C ?_ h
  unfold stC
  iintro ⟨HA, HB, ⟨%g, %hg, HG⟩, ⟨%f, %hf, H⟩⟩ Hk
  have e : (bM.access (Rect.unit (s := S512x1024) ![0, 0] S512x1024.size h₁)).write (Elt F) f (k0_pay2 (bstg m ρ c)) Finset.univ = k0_pay2 (bstg m ρ c) :=
    Memref.write_access_unit_zero_univ (Elt F) cc0_scratch1 zero2 _ _ _
  iapply (wp_store 𝒱₀ (c : Thread nD τ) none Set.univ (m := bM) (r := Rect.unit (s := S512x1024) ![0, 0] S512x1024.size h₁) (Finset.subset_univ _)) $$ H
  iintro H
  rw [e]
  iapply Hk
  isplitl [HA]; · iexact HA
  isplitl [HB]; · iexact HB
  isplitl [HG]
  · iexists g
    isplitr; · ipureintro; exact fun _ => hg (by decide)
    iexact HG
  iexists _
  isplitr
  rotate_left
  · iexact H
  · ipureintro; exact fun _ => rfl

/-- Rows of device `j` of the left copy; -/
theorem s_row (j : Dev nD) {off : Fin 2 → ℕ} (hoff : off = ![128 * j.val, 0]) {hp : ∀ a, off a + S128x512.size a ≤ S1024x512.size a} {hl}
    {kk : Vec F S128x512 .bf16 → Prog (TpuEff nD τ sig (Elt F) Λ₀ .tc) α}
    (h : St m ρ K c s b 2 y t w x p k o v ⊢ WPk c (kk (arow m ρ c j)) Q) :
    St m ρ K c s b 2 y t w x p k o v ⊢ WPk c (.op (.load aM (Rect.unit (s := S1024x512) off S128x512.size hp).toLoadRect hl) kk) Q := by
  subst hoff
  refine in_C ?_ h
  unfold stC
  iintro ⟨HA, HB, ⟨%f, %hf, H⟩, HG⟩ Hk
  obtain rfl := hf (by decide)
  iapply (wp_load 𝒱₀ (c : Thread nD τ) none Set.univ (m := aM) (r := (rowR j).toLoadRect) (Finset.subset_univ _)) $$ H
  iintro H
  iapply Hk
  isplitl [HA]; · iexact HA
  isplitl [HB]; · iexact HB
  isplitl [H]
  · iexists _
    isplitr
    rotate_left
    · iexact H
    · ipureintro; exact hf
  iexact HG

/-- a column half of the right copy. -/
theorem s_col (hh : ℕ) {off : Fin 2 → ℕ} (hoff : off = ![0, 512 * (hh % 2)]) {hp : ∀ a, off a + S512x512.size a ≤ S512x1024.size a} {hl}
    {kk : Vec F S512x512 .bf16 → Prog (TpuEff nD τ sig (Elt F) Λ₀ .tc) α}
    (h : St m ρ K c s b 2 y t w x p k o v ⊢ WPk c (kk (bcol m ρ c hh)) Q) :
    St m ρ K c s b 2 y t w x p k o v ⊢ WPk c (.op (.load bM (Rect.unit (s := S512x1024) off S512x512.size hp).toLoadRect hl) kk) Q := by
  subst hoff
  refine in_C ?_ h
  unfold stC
  iintro ⟨HA, HB, HG, ⟨%f, %hf, H⟩⟩ Hk
  obtain rfl := hf (by decide)
  iapply (wp_load 𝒱₀ (c : Thread nD τ) none Set.univ (m := bM) (r := (colR hh).toLoadRect) (Finset.subset_univ _)) $$ H
  iintro H
  iapply Hk
  isplitl [HA]; · iexact HA
  isplitl [HB]; · iexact HB
  isplitl [HG]; · iexact HG
  iexists _
  isplitr
  rotate_left
  · iexact H
  · ipureintro; exact hf

end Factors

/-! ## Tiles -/

section Tiles

/-- A load of a tile that is owned at some contents; -/
theorem dead_load {cs : CoreSpace} {sh : Shape} {e : EltTy} {z : Memref sig .tc cs sh e} {r : Rect sh} (hr : ∀ a, r.stride a = 1)
    {hl : z.view.LoadsAt r} {A : sProp 𝕄} {kk : (r.shape.Idx → Elt F e) → Prog (TpuEff nD τ sig (Elt F) Λ₀ .tc) α} :
    iprop((∃ X, owns (c : Thread nD τ) (z.slice r hr) fullShare X) ∗ A)
      ⊢ iprop((((∃ X, owns (c : Thread nD τ) (z.slice r hr) fullShare X) ∗ A) -∗ ∀ X, WPk c (kk X) Q) -∗ WPk c (.op (.load z r.toLoadRect hl) kk) Q) := by
  iintro ⟨⟨%X, H⟩, HA⟩ Hk
  iapply (wp_load_owns c hr) $$ H
  iintro H
  iapply (forall_elim (Φ := fun X => WPk c (kk X) Q) _)
  iapply Hk
  isplitl [H]
  · iexists X; iexact H
  iexact HA

/-- a store to it. -/
theorem any_store {cs : CoreSpace} {sh : Shape} {e : EltTy} {z : Memref sig .tc cs sh e} {r : Rect sh} (hr : ∀ a, r.stride a = 1)
    {wv : r.shape.Idx → Elt F e} {hx : (z.access r).Stores Finset.univ} {hm : (Finset.univ : Finset r.shape.Idx) = Finset.univ ∨ ∀ a, r.stride a = 1}
    {A : sProp 𝕄} {kk : PUnit → Prog (TpuEff nD τ sig (Elt F) Λ₀ .tc) α} :
    iprop((∃ X, owns (c : Thread nD τ) (z.slice r hr) fullShare X) ∗ A)
      ⊢ iprop(((owns (c : Thread nD τ) (z.slice r hr) fullShare wv ∗ A) -∗ WPk c (kk ⟨⟩) Q) -∗ WPk c (.op (.store z r wv Finset.univ hx hm) kk) Q) := by
  iintro ⟨⟨%X, H⟩, HA⟩ Hk
  iapply (wp_store_owns c hr) $$ H
  iintro H
  iapply Hk
  isplitl [H]; · iexact H
  iexact HA

/-- The tile that is next to be written, read before; -/
theorem s_wDead (hy : y < 14) {off : Fin 2 → ℕ} (hoff : off = ![128 * (pr c (y % 7)).val, 512 * ((y / 7) % 2)])
    {hp : ∀ a, off a + S128x512.size a ≤ S1024x1024.size a} {hl} {kk : Vec F S128x512 .i8 → Prog (TpuEff nD τ sig (Elt F) Λ₀ .tc) α}
    (h : ∀ X, St m ρ K c s b q y t w x p k o v ⊢ WPk c (kk X) Q) :
    St m ρ K c s b q y t w x p k o v ⊢ WPk c (.op (.load wireM (Rect.unit (s := S1024x1024) off S128x512.size hp).toLoadRect hl) kk) Q := by
  rw [pr_mod] at hoff
  subst hoff
  refine in_Y (W' := iprop(∀ X, WPk c (kk X) Q)) ?_ (forall_intro h)
  unfold stY
  rw [seg_pop hy]
  iintro ⟨⟨H1, H2⟩, H⟩ Hk
  iapply (dead_load (fun _ => rfl)) $$ [H1 H2]
  · isplitl [H1]; · iexact H1
    iexact H2
  iintro H1
  iapply Hk
  isplitl [H1]; · iexact H1
  iexact H

/-- and written. -/
theorem s_wStore (hy : y < 14) (ht : t ≤ y) {off : Fin 2 → ℕ} (hoff : off = ![128 * (pr c (y % 7)).val, 512 * ((y / 7) % 2)])
    {hp : ∀ a, off a + S128x512.size a ≤ S1024x1024.size a} {wv : Vec F S128x512 .i8} (hw : wv = WQ m ρ c (pr c (y % 7)) (y / 7)) {hx hm}
    {kk : PUnit → Prog (TpuEff nD τ sig (Elt F) Λ₀ .tc) α}
    (h : St m ρ K c s b q (y + 1) t w x p k o v ⊢ WPk c (kk ⟨⟩) Q) :
    St m ρ K c s b q y t w x p k o v
      ⊢ WPk c (.op (.store wireM (Rect.unit (s := S1024x1024) off S128x512.size hp) wv Finset.univ hx hm) kk) Q := by
  rw [pr_mod] at hoff hw
  subst hoff hw
  refine in_Y ?_ h
  have e : srcRes m ρ c y = owns (c : Thread nD τ) (wtM (y / 7) (pr c y)) fullShare (WQ m ρ c (pr c y) (y / 7)) := by
    unfold srcRes srcM srcSh srcV; rw [if_pos hy, if_pos hy, if_pos hy]
  unfold stY
  rw [seg_pop hy, seg_push ht, e]
  iintro ⟨⟨H1, H2⟩, H3, H⟩ Hk
  iapply (any_store (fun _ => rfl)) $$ [H1 H2]
  · isplitl [H1]; · iexact H1
    iexact H2
  iintro ⟨H1, H2⟩
  iapply Hk
  isplitl [H2]; · iexact H2
  isplitl [H1 H3]
  · isplitl [H1]; · iexact H1
    iexact H3
  iexact H

theorem s_kDead (hk : k < 2) {off : Fin 2 → ℕ} (hoff : off = ![0, 512 * (k % 2)])
    {hp : ∀ a, off a + S128x512.size a ≤ S128x1024.size a} {hl} {kk : Vec F S128x512 .i8 → Prog (TpuEff nD τ sig (Elt F) Λ₀ .tc) α}
    (h : ∀ X, St m ρ K c s b q y t w x p k o v ⊢ WPk c (kk X) Q) :
    St m ρ K c s b q y t w x p k o v ⊢ WPk c (.op (.load agM (Rect.unit (s := S128x1024) off S128x512.size hp).toLoadRect hl) kk) Q := by
  subst hoff
  refine in_Y (W' := iprop(∀ X, WPk c (kk X) Q)) ?_ (forall_intro h)
  unfold stY
  rw [seg_pop hk]
  iintro ⟨Ha, Hb, Hc, ⟨H1, H2⟩, H⟩ Hk
  iapply (dead_load (fun _ => rfl)) $$ [H1 H2]
  · isplitl [H1]; · iexact H1
    iexact H2
  iintro H1
  iapply Hk
  isplitl [Ha]; · iexact Ha
  isplitl [Hb]; · iexact Hb
  isplitl [Hc]; · iexact Hc
  isplitl [H1]; · iexact H1
  iexact H

/-- A half held outright is the part kept and seven shares to read it by. -/
theorem deal (hk : k < 2) : (owns (c : Thread nD τ) (ahM k) fullShare (AG m ρ c k) : sProp 𝕄)
    ⊢ iprop(owns (c : Thread nD τ) (ahM k) (Transfers.shareDrop fullShare 7) (AG m ρ c k) ∗ seg (14 + 7 * k) (14 + 7 * k + 7) fun i => srcRes m ρ c i) := by
  have e : (seg (14 + 7 * k) (14 + 7 * k + 7) fun i => srcRes m ρ c i)
      = bigSep (Finset.range 7) fun i => owns (c : Thread nD τ) (ahM k) (Transfers.shareTokN fullShare i) (AG m ρ c k) := by
    rw [seg_shift, Finset.range_eq_Ico]
    refine seg_congr fun i _ hi => ?_
    unfold srcRes srcM srcSh srcV
    rw [if_neg (by omega), if_neg (by omega), if_neg (by omega), show (14 + 7 * k + i) % 7 = i by omega, show (14 + 7 * k + i) / 7 - 2 = k by omega]
    obtain rfl | rfl : k = 0 ∨ k = 1 := by omega
    · rw [show (14 + 7 * 0 + i) / 7 = 2 by omega]
    · rw [show (14 + 7 * 1 + i) / 7 = 3 by omega]
  rw [e]
  unfold owns
  iintro ⟨%f, %hf, H⟩
  ihave H' := (Transfers.pointsTo_toks_range fullShare 7).1 $$ H
  icases H' with ⟨H, HT⟩
  isplitl [H]
  · iexists f
    isplitr; · ipureintro; exact hf
    iexact H
  · have e' : ∀ i : ℕ, (((ahM k).view.loc (c : Thread nD τ)) ↦[(ahM k).view.set]{Transfers.shareTokN fullShare i} f : sProp 𝕄)
        ⊢ iprop(∃ f, ⌜(ahM k).view.read (Elt F) f = AG m ρ c k⌝ ∗ (((ahM k).view.loc (c : Thread nD τ)) ↦[(ahM k).view.set]{Transfers.shareTokN fullShare i} f)) := by
      intro i
      iintro H
      iexists f
      isplitr; · ipureintro; exact hf
      iexact H
    have e'' : bigSep (Finset.range 7) (fun i => (((ahM k).view.loc (c : Thread nD τ)) ↦[(ahM k).view.set]{Transfers.shareTokN fullShare i} f : sProp 𝕄))
        ⊢ bigSep (Finset.range 7) (fun i => iprop(∃ f, ⌜(ahM k).view.read (Elt F) f = AG m ρ c k⌝ ∗ (((ahM k).view.loc (c : Thread nD τ)) ↦[(ahM k).view.set]{Transfers.shareTokN fullShare i} f))) :=
      bigSep_mono fun i _ => e' i
    iapply e'' $$ HT

theorem s_kStore (hk : k < 2) (hy : y = 14 + 7 * k) (ht : t ≤ y) {off : Fin 2 → ℕ} (hoff : off = ![0, 512 * (k % 2)])
    {hp : ∀ a, off a + S128x512.size a ≤ S128x1024.size a} {wv : Vec F S128x512 .i8} (hw : wv = AG m ρ c k) {hx hm}
    {kk : PUnit → Prog (TpuEff nD τ sig (Elt F) Λ₀ .tc) α}
    (h : St m ρ K c s b q (y + 7) t w x p (k + 1) o v ⊢ WPk c (kk ⟨⟩) Q) :
    St m ρ K c s b q y t w x p k o v
      ⊢ WPk c (.op (.store agM (Rect.unit (s := S128x1024) off S128x512.size hp) wv Finset.univ hx hm) kk) Q := by
  subst hoff hw
  refine in_Y ?_ h
  unfold stY
  rw [seg_pop hk, seg_push (Nat.zero_le k), seg_void (a := y) (b := 14) (by omega), seg_void (a := y + 7) (b := 14) (by omega),
    seg_cut ht (Nat.le_add_right y 7)]
  iintro ⟨Ha, Hb, Hc, ⟨H1, H2⟩, H⟩ Hk
  iapply (any_store (fun _ => rfl)) $$ [H1 H2]
  · isplitl [H1]; · iexact H1
    iexact H2
  iintro ⟨H1, H2⟩
  subst hy
  ihave H1' := (deal hk) $$ H1
  icases H1' with ⟨H1, H3⟩
  iapply Hk
  isplitl [Ha]; · iexact Ha
  isplitl [Hb H3]
  · isplitl [Hb]; · iexact Hb
    iexact H3
  isplitl [Hc]; · iexact Hc
  isplitl [H2]; · iexact H2
  isplitl [H1]; · iexact H1
  iexact H

theorem s_pDead (hq : p < 2) {off : Fin 2 → ℕ} (hoff : off = ![0, 512 * (p % 2)])
    {hp : ∀ a, off a + S128x512.size a ≤ S128x1024.size a} {hl} {kk : Vec F S128x512 .f32 → Prog (TpuEff nD τ sig (Elt F) Λ₀ .tc) α}
    (h : ∀ X, St m ρ K c s b q y t w x p k o v ⊢ WPk c (kk X) Q) :
    St m ρ K c s b q y t w x p k o v ⊢ WPk c (.op (.load powM (Rect.unit (s := S128x1024) off S128x512.size hp).toLoadRect hl) kk) Q := by
  subst hoff
  refine in_P (W' := iprop(∀ X, WPk c (kk X) Q)) ?_ (forall_intro h)
  unfold stP
  rw [seg_pop hq]
  iintro ⟨⟨H1, H2⟩, H⟩ Hk
  iapply (dead_load (fun _ => rfl)) $$ [H1 H2]
  · isplitl [H1]; · iexact H1
    iexact H2
  iintro H1
  iapply Hk
  isplitl [H1]; · iexact H1
  iexact H

theorem s_pStore (hq : p < 2) {off : Fin 2 → ℕ} (hoff : off = ![0, 512 * (p % 2)])
    {hp : ∀ a, off a + S128x512.size a ≤ S128x1024.size a} {wv : Vec F S128x512 .f32} (hw : wv = PO m ρ c p) {hx hm}
    {kk : PUnit → Prog (TpuEff nD τ sig (Elt F) Λ₀ .tc) α}
    (h : St m ρ K c s b q y t w x (p + 1) k o v ⊢ WPk c (kk ⟨⟩) Q) :
    St m ρ K c s b q y t w x p k o v
      ⊢ WPk c (.op (.store powM (Rect.unit (s := S128x1024) off S128x512.size hp) wv Finset.univ hx hm) kk) Q := by
  subst hoff hw
  refine in_P ?_ h
  unfold stP
  rw [seg_pop hq, seg_push (Nat.zero_le p)]
  iintro ⟨⟨H1, H2⟩, H⟩ Hk
  iapply (any_store (fun _ => rfl)) $$ [H1 H2]
  · isplitl [H1]; · iexact H1
    iexact H2
  iintro ⟨H1, H2⟩
  iapply Hk
  isplitl [H2]; · iexact H2
  isplitl [H1]; · iexact H1
  iexact H

theorem s_pLoad (hh : ℕ) (hq : hh < p) {off : Fin 2 → ℕ} (hoff : off = ![0, 512 * (hh % 2)])
    {hp : ∀ a, off a + S128x512.size a ≤ S128x1024.size a} {hl} {kk : Vec F S128x512 .f32 → Prog (TpuEff nD τ sig (Elt F) Λ₀ .tc) α}
    (h : St m ρ K c s b q y t w x p k o v ⊢ WPk c (kk (PO m ρ c hh)) Q) :
    St m ρ K c s b q y t w x p k o v ⊢ WPk c (.op (.load powM (Rect.unit (s := S128x1024) off S128x512.size hp).toLoadRect hl) kk) Q := by
  subst hoff
  refine in_P ?_ h
  unfold stP
  rw [seg_take (Nat.zero_le hh) hq]
  iintro ⟨H2, ⟨H1, H⟩⟩ Hk
  iapply (wp_load_owns c (r := halfR hh) (fun _ => rfl)) $$ H1
  iintro H1
  iapply Hk
  isplitl [H2]; · iexact H2
  isplitl [H1]; · iexact H1
  iexact H

theorem s_oDead (ho : o < 2) {off : Fin 2 → ℕ} (hoff : off = ![128 * c.val, 512 * (o % 2)])
    {hp : ∀ a, off a + S128x512.size a ≤ S1024x1024.size a} {hl} {kk : Vec F S128x512 .f32 → Prog (TpuEff nD τ sig (Elt F) Λ₀ .tc) α}
    (h : ∀ X, St m ρ K c s b q y t w x p k o v ⊢ WPk c (kk X) Q) :
    St m ρ K c s b q y t w x p k o v ⊢ WPk c (.op (.load outM (Rect.unit (s := S1024x1024) off S128x512.size hp).toLoadRect hl) kk) Q := by
  subst hoff
  refine in_V (W' := iprop(∀ X, WPk c (kk X) Q)) ?_ (forall_intro h)
  unfold stV
  rw [seg_pop ho]
  iintro ⟨⟨H1, H2⟩, H⟩ Hk
  iapply (dead_load (fun _ => rfl)) $$ [H1 H2]
  · isplitl [H1]; · iexact H1
    iexact H2
  iintro H1
  iapply Hk
  isplitl [H1]; · iexact H1
  iexact H

theorem s_oStore (ho : o < 2) {off : Fin 2 → ℕ} (hoff : off = ![128 * c.val, 512 * (o % 2)])
    {hp : ∀ a, off a + S128x512.size a ≤ S1024x1024.size a} {wv : Vec F S128x512 .f32} (hw : wv = RED m ρ c o) {hx hm}
    {kk : PUnit → Prog (TpuEff nD τ sig (Elt F) Λ₀ .tc) α}
    (h : St m ρ K c s b q y t w x p k (o + 1) v ⊢ WPk c (kk ⟨⟩) Q) :
    St m ρ K c s b q y t w x p k o v
      ⊢ WPk c (.op (.store outM (Rect.unit (s := S1024x1024) off S128x512.size hp) wv Finset.univ hx hm) kk) Q := by
  have e : RED m ρ c o = OT m ρ c o c := by unfold OT; rw [if_pos rfl]
  rw [e] at hw
  subst hoff hw
  refine in_V ?_ h
  unfold stV
  rw [seg_pop ho, seg_push (Nat.zero_le o)]
  iintro ⟨⟨H1, H2⟩, H3, H⟩ Hk
  iapply (any_store (fun _ => rfl)) $$ [H1 H2]
  · isplitl [H1]; · iexact H1
    iexact H2
  iintro ⟨H1, H2⟩
  iapply Hk
  isplitl [H2]; · iexact H2
  isplitl [H1 H3]
  · isplitl [H1]; · iexact H1
    iexact H3
  iexact H

theorem s_vDead (hv : v < 14) {off : Fin 2 → ℕ} (hoff : off = ![128 * (pr c (v % 7)).val, 512 * ((v / 7) % 2)])
    {hp : ∀ a, off a + S128x512.size a ≤ S1024x1024.size a} {hl} {kk : Vec F S128x512 .f32 → Prog (TpuEff nD τ sig (Elt F) Λ₀ .tc) α}
    (h : ∀ X, St m ρ K c s b q y t w x p k o v ⊢ WPk c (kk X) Q) :
    St m ρ K c s b q y t w x p k o v ⊢ WPk c (.op (.load outM (Rect.unit (s := S1024x1024) off S128x512.size hp).toLoadRect hl) kk) Q := by
  rw [pr_mod] at hoff
  subst hoff
  refine in_V (W' := iprop(∀ X, WPk c (kk X) Q)) ?_ (forall_intro h)
  unfold stV
  rw [seg_pop hv]
  iintro ⟨Ha, Hb, ⟨H1, H2⟩, H⟩ Hk
  iapply (dead_load (fun _ => rfl)) $$ [H1 H2]
  · isplitl [H1]; · iexact H1
    iexact H2
  iintro H1
  iapply Hk
  isplitl [Ha]; · iexact Ha
  isplitl [Hb]; · iexact Hb
  isplitl [H1]; · iexact H1
  iexact H

theorem s_vStore (hv : v < 14) {off : Fin 2 → ℕ} (hoff : off = ![128 * (pr c (v % 7)).val, 512 * ((v / 7) % 2)])
    {hp : ∀ a, off a + S128x512.size a ≤ S1024x1024.size a} {wv : Vec F S128x512 .f32} (hw : wv = k0_pay36 (lift4 (AG m ρ (pr c (v % 7)) (v / 7)))) {hx hm}
    {kk : PUnit → Prog (TpuEff nD τ sig (Elt F) Λ₀ .tc) α}
    (h : St m ρ K c s b q y t w x p k o (v + 1) ⊢ WPk c (kk ⟨⟩) Q) :
    St m ρ K c s b q y t w x p k o v
      ⊢ WPk c (.op (.store outM (Rect.unit (s := S1024x1024) off S128x512.size hp) wv Finset.univ hx hm) kk) Q := by
  have e : k0_pay36 (lift4 (AG m ρ (pr c (v % 7)) (v / 7))) = OT m ρ c (v / 7) (pr c v) := by
    unfold OT; rw [if_neg (pr_ne c v), pr_mod]
  rw [e] at hw
  rw [pr_mod] at hoff
  subst hoff hw
  refine in_V ?_ h
  unfold stV
  rw [seg_pop hv, seg_push (Nat.zero_le v)]
  iintro ⟨Ha, Hb, ⟨H1, H2⟩, H⟩ Hk
  iapply (any_store (fun _ => rfl)) $$ [H1 H2]
  · isplitl [H1]; · iexact H1
    iexact H2
  iintro ⟨H1, H2⟩
  iapply Hk
  isplitl [Ha]; · iexact Ha
  isplitl [Hb]; · iexact Hb
  isplitl [H2]; · iexact H2
  isplitl [H1]; · iexact H1
  iexact H

/-! ## Landed tiles -/

theorem read_slot (g : ℕ) (j : Dev nD) (f : ((slotM g j).view.ref).ty.Contents (Elt F)) :
    (((bufM g).access (slotR g j)).read (Elt F) f : S1x1x128x512.Idx → Elt F .i8) = lift4 ((slotM g j).view.read (Elt F) f) := by
  funext i
  unfold lift4
  exact congrArg (((bufM g).access (slotR g j)).read (Elt F) f) (Equiv.apply_symm_apply (Shape.reshapeEquiv (s := S1x1x128x512) (s' := S128x512) _) i).symm

theorem wp_load_slot {g : ℕ} {j : Dev nD} {hl : (bufM g).view.LoadsAt (slotR g j).toLoadRect} {X : Vec F S128x512 .i8} {A : sProp 𝕄}
    {kk : Vec F S1x1x128x512 .i8 → Prog (TpuEff nD τ sig (Elt F) Λ₀ .tc) α} :
    iprop(owns (c : Thread nD τ) (slotM g j) fullShare X ∗ A)
      ⊢ iprop(((owns (c : Thread nD τ) (slotM g j) fullShare X ∗ A) -∗ WPk c (kk (lift4 X)) Q) -∗ WPk c (.op (.load (bufM g) (slotR g j).toLoadRect hl) kk) Q) := by
  have hset : ((bufM g).access (slotR g j)).set ⊆ (slotM g j).view.set := by
    rw [show (slotM g j).view.set = ((bufM g).access (slotR g j)).set from View.set_reshape ..]
  unfold owns
  iintro ⟨⟨%f, %hf, H⟩, HA⟩ Hk
  have eq : ((slotM g j).view.loc (c : Thread nD τ) ↦[(slotM g j).view.set]{fullShare} f : sProp 𝕄)
      = (((bufM g).access (slotR g j)).loc (c : Thread nD τ) ↦[(slotM g j).view.set]{fullShare} f) := rfl
  ihave H' := (Entails.of_eq eq) $$ H
  iapply (wp_load_rect 𝒱₀ (c : Thread nD τ) none Set.univ (m := bufM g) (r := slotR g j) (q := fullShare) (f := f) hset) $$ H'
  iintro H'
  ihave H := (Entails.of_eq eq.symm) $$ H'
  have e : (((bufM g).access (slotR g j)).read (Elt F) f : S1x1x128x512.Idx → Elt F .i8) = lift4 X := by rw [← hf]; exact read_slot g j f
  rw [e]
  iapply Hk
  isplitl [H]
  · iexists f
    isplitr; · ipureintro; exact hf
    iexact H
  iexact HA

theorem s_slot {i : ℕ} (hi : i < w) {z : Memref sig .tc .vmem S2x8x128x512 .i8} (hz : z = bufM (i / 7)) {off : Fin 4 → ℕ}
    (hoff : off = ![(i / 7) % 2, (pr c (i % 7)).val, 0, 0]) {hp : ∀ a, off a + S1x1x128x512.size a ≤ S2x8x128x512.size a} {hl}
    {kk : Vec F S1x1x128x512 .i8 → Prog (TpuEff nD τ sig (Elt F) Λ₀ .tc) α}
    (h : St m ρ K c s b q y t w x p k o v ⊢ WPk c (kk (lift4 (slotV m ρ c (i / 7) (pr c i)))) Q) :
    St m ρ K c s b q y t w x p k o v ⊢ WPk c (.op (.load z (Rect.unit (s := S2x8x128x512) off S1x1x128x512.size hp).toLoadRect hl) kk) Q := by
  rw [pr_mod] at hoff
  subst hoff hz
  refine in_R ?_ h
  unfold stR
  rw [seg_take (a := 0) (b := w) (Nat.zero_le i) hi]
  unfold slotRes
  iintro ⟨H1, ⟨⟨H2, H3⟩, H4⟩⟩ Hk
  iapply (wp_load_slot (g := i / 7) (j := pr c i) (A := iprop(emp))) $$ [H3]
  · isplitl [H3]; · iexact H3
    iempintro
  iintro ⟨H3, -⟩
  iapply Hk
  isplitl [H1]; · iexact H1
  isplitl [H2 H3]
  · isplitl [H2]; · iexact H2
    iexact H3
  iexact H4

/-- A partial product's tile, `k'`th of half `h'`; -/
theorem s_slotR (h' k' : ℕ) (hk' : k' < 7) (hh : h' < 2) (hi : 7 * h' + k' < w) {off : Fin 4 → ℕ}
    (hoff : off = ![h', (pr c k').val, 0, 0]) {hp : ∀ a, off a + S1x1x128x512.size a ≤ S2x8x128x512.size a} {hl}
    {kk : Vec F S1x1x128x512 .i8 → Prog (TpuEff nD τ sig (Elt F) Λ₀ .tc) α}
    (h : St m ρ K c s b q y t w x p k o v ⊢ WPk c (kk (RX m ρ c h' k')) Q) :
    St m ρ K c s b q y t w x p k o v ⊢ WPk c (.op (.load rsM (Rect.unit (s := S2x8x128x512) off S1x1x128x512.size hp).toLoadRect hl) kk) Q := by
  have e1 : (7 * h' + k') / 7 = h' := by omega
  refine s_slot hi (by rw [e1]; unfold bufM; rw [if_pos hh]) (by rw [e1, pr_mod, pr_add, Nat.mod_eq_of_lt hh]; exact hoff) ?_
  rw [e1, pr_add, show lift4 (slotV m ρ c h' (pr c k')) = RX m ρ c h' k' by unfold slotV RX; rw [if_pos hh]]
  exact h

/-- a sum's. -/
theorem s_slotG (h' k' : ℕ) (hk' : k' < 7) (hh : h' < 2) (hi : 14 + 7 * h' + k' < w) {off : Fin 4 → ℕ}
    (hoff : off = ![h', (pr c k').val, 0, 0]) {hp : ∀ a, off a + S1x1x128x512.size a ≤ S2x8x128x512.size a} {hl}
    {kk : Vec F S1x1x128x512 .i8 → Prog (TpuEff nD τ sig (Elt F) Λ₀ .tc) α}
    (h : St m ρ K c s b q y t w x p k o v ⊢ WPk c (kk (lift4 (AG m ρ (pr c k') h'))) Q) :
    St m ρ K c s b q y t w x p k o v ⊢ WPk c (.op (.load gaM (Rect.unit (s := S2x8x128x512) off S1x1x128x512.size hp).toLoadRect hl) kk) Q := by
  have e1 : (14 + 7 * h' + k') / 7 = 2 + h' := by omega
  have e2 : pr c (14 + 7 * h' + k') = pr c k' := by rw [show 14 + 7 * h' + k' = 7 * (2 + h') + k' by omega, pr_add]
  refine s_slot hi (by rw [e1]; unfold bufM; rw [if_neg (by omega)]) (by rw [e1, pr_mod, e2, show (2 + h') % 2 = h' by omega]; exact hoff) ?_
  rw [e1, e2, show lift4 (slotV m ρ c (2 + h') (pr c k')) = lift4 (AG m ρ (pr c k') h') by
    unfold slotV; rw [if_neg (by omega), show 2 + h' - 2 = h' by omega]]
  exact h

end Tiles

end Cert.Ring

end
-- ==== Proof.Comm.lean ====
/-
The rules for the effects between devices: signals, the barrier, the transfers and their waits.
-/
module

public import proofs.«01_k».proof.Proof.Steps

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg}
variable {K : Dev nD × Fin 61 → ℕ} {c : Dev nD}
variable {s b q y t w x p o v k : ℕ}
variable {α : Type} {Q : α → sProp (MT nD τ sig Unit (Elt F) ℕ UU ℕ)}

/-- A signal to the next peer: it takes the slots kept for that peer along. -/
theorem s_signal (hs : s < 7) {n : Dev nD} (hn : n = pr c s) {z : ℤ} (hz : z = 1) {kk : PUnit → Prog (TpuEff nD τ sig (Elt F) Λ₀ .tc) α}
    (h : St m ρ K c (s + 1) b q y t w x p k o v ⊢ WPk c (kk ⟨⟩) Q) :
    St m ρ K c s b q y t w x p k o v ⊢ WPk c (.op (.semSignal (n, Proc.tc) barS z) kk) Q := by
  subst hn hz
  unfold St at h ⊢
  unfold stO at h ⊢
  unfold known at h ⊢
  rw [show stS (F := F) c s = iprop((dutyTok ER (barCell (pr c s)) 0 s ∗ seg 0 4 fun g => slotAny c g (pr c s)) ∗ stS c (s + 1)) from seg_pop hs _]
  iintro ⟨⟨#HK, #HL⟩, ⟨%Wt, HO⟩, ⟨⟨Hd, Hp⟩, HS⟩, H⟩
  ihave #HI := (cell_rec m ρ K (pr c s, 0) (barCell (pr c s)) (kcell_bar _)) $$ HK
  icases HI with ⟨#HI1, #HI2⟩
  iapply (Rounds.wp_signal 𝒱₀ ER (sched m ρ) (c : Thread nD τ) none (dst := (pr c s : Thread nD τ)) (κ := K (pr c s, 0))
      (d := s) (by rw [duties_bar]; exact Finset.mem_Ico.mpr ⟨Nat.zero_le _, hs⟩) ((amount_bar m ρ (pr c s) s).trans (by decide)) () (Obar c (s + 1) + Ocr c t)
      (show Obar c s + Ocr c t = _ by rw [Obar_succ c s hs, add_right_comm]))
    $$ [HO Hd Hp]
  · isplitr; · iexact HI1
    isplitl [HO]; · iexact HO
    isplitl [Hd]; · iexact Hd
    isplitl [Hp]
    · rw [payload_bar]; unfold barPay; rw [pr_pr]; iexact Hp
    iexact HI2
  iintro HO
  iapply h
  isplitr
  · isplitr; · iexact HK
    iexact HL
  isplitl [HO]; · iexists Wt; iexact HO
  isplitl [HS]; · iexact HS
  iexact H

/-- The slots the peers hand over with the barrier, in the order of the transfers. -/
theorem slots_order (c : Dev nD) : seg 0 7 (barPay (F := F) c) = seg 0 28 fun i => slotAny (F := F) (pr c i) (i / 7) c := by
  have h1 : (seg 0 28 fun i => slotAny (F := F) (pr c i) (i / 7) c) = seg 0 4 fun g => seg 0 7 fun k => slotAny (F := F) (pr c k) g c := by
    rw [show (28 : ℕ) = 7 * 4 from rfl, seg_rows]
    exact seg_congr fun g _ hg => seg_congr fun k _ hk => by rw [pr_add, show (7 * g + k) / 7 = g by omega]
  rw [h1]
  unfold barPay
  generalize (4 : ℕ) = r
  induction r with
  | zero =>
    simp only [seg_nil]
    exact BI.bigSep_emp_const _
  | succ n ih =>
    simp only [seg_push (Nat.zero_le n)]
    rw [← ih]
    exact BI.bigSep_sep _ _ _

theorem s_bar {z : ℤ} (hz : z = 7) {kk : PUnit → Prog (TpuEff nD τ sig (Elt F) Λ₀ .tc) α}
    (h : St m ρ K c 7 1 q y 0 w x p k o v ⊢ WPk c (kk ⟨⟩) Q) :
    St m ρ K c 7 0 q y 0 w x p k o v ⊢ WPk c (.op (.semWait barS z) kk) Q := by
  subst hz
  unfold St at h ⊢
  unfold stO at h ⊢
  unfold known at h ⊢
  rw [Obar_seven, zero_add] at h ⊢
  unfold stB at h ⊢
  iintro ⟨⟨#HK, #HL⟩, ⟨%Wt, HO⟩, HS, ⟨Hat, Hc⟩, H⟩
  ihave #HI := (cell_rec m ρ K (c, 0) (barCell c) (kcell_bar _)) $$ HK
  icases HI with ⟨#HI1, #HI2⟩
  iapply (Rounds.wp_wait_rest_token 𝒱₀ ER (sched m ρ) (c : Thread nD τ) none (κ := K (c, 0))
      (wpE_semWait_eq 𝒱₀ (c : Thread nD τ) none Set.univ) (Set.mem_univ _) () (O := Ocr c 0) (W := Wt) (R := 0) (m := 0) (T := ∅)
      (by rw [expect_bar])) $$ [Hc HO Hat]
  · isplitr; · iexact HI1
    isplitl [Hc]; · iexact Hc
    isplitl [HO]; · iexact HO
    isplitr
    · iapply (mayWait_cr c (.reg barS) 1 0 (le_refl 1) (fun i _ _ => by split <;> decide)); iexact HL
    iexact Hat
  iintro ⟨HO, Hat, -, Hpay⟩
  ihave Hp := (Entails.of_eq ((rest_bar m ρ c).trans (slots_order c))) $$ Hpay
  iapply h
  isplitr
  · isplitr; · iexact HK
    iexact HL
  isplitl [HO]; · iexists _; iexact HO
  isplitl [HS]; · iexact HS
  isplitl [Hat Hp]
  · isplitl [Hat]; · iexact Hat
    iexact Hp
  iexact H

/-- The next transfer: its tile is lent, its slot at the peer goes with it. -/
theorem s_send (ht : t < y) (hy : y ≤ 28) {n : Dev nD} (hn : n = pr c (t % 7)) {src : Memref sig .tc .vmem S128x512 .i8} (hs : src = srcM c t)
    {dst : Memref sig (Dev.tc n : Thread nD τ).2.kind .vmem S128x512 .i8} (hd : dst = slotM (t / 7) c) {sS sR : DmaSem sig}
    (h₁ : sS = dsem (sIx t)) (h₂ : sR = dsem (rIx (t / 7) c)) {hsc : dst.view.ref.isScScratch = false} {ha : src.view.WordExact} {hb : dst.view.WordExact}
    {hsem : DmaTarget.Typed .vmem (.dma sR) (.remote (Dev.tc n : Thread nD τ) dst (.dma sS) hsc)} {kk : PUnit → Prog (TpuEff nD τ sig (Elt F) Λ₀ .tc) α}
    (hx : x ≤ t)
    (h : St m ρ K c 7 1 q y (t + 1) w x p k o v ⊢ WPk c (kk ⟨⟩) Q) :
    St m ρ K c 7 1 q y t w x p k o v
      ⊢ WPk c (.op (.enqueueDma src (.remote (Dev.tc n : Thread nD τ) dst (.dma sS) hsc) (.dma sR) ha hb hsem) kk) Q := by
  rw [pr_mod] at hn
  subst hn hs hd h₁ h₂
  have ht28 : t < 28 := lt_of_lt_of_le ht hy
  unfold St at h ⊢
  unfold stO at h ⊢
  unfold known at h ⊢
  unfold stB stT stY at h ⊢
  rw [Obar_seven, zero_add] at h ⊢
  rw [seg_pop ht28, seg_pop ht28, seg_pop ht]
  rw [seg_push hx] at h
  iintro ⟨⟨#HK, #HL⟩, ⟨%Wt, HO⟩, HS, ⟨Hat, ⟨Hslot, HB⟩⟩, HC, ⟨⟨⟨Hd1, Hd2⟩, HT1⟩, HT2, HT3⟩, HR, ⟨HY1, ⟨Hsrc, HY2⟩, HY3⟩, H⟩
  ihave #HI := (cell_rec m ρ K (c, sK t) (sCell c t) (kcell_s c t ht28)) $$ HK
  icases HI with ⟨#HI1, #HI2⟩
  ihave #HJ := (cell_rec m ρ K (pr c t, rK (t / 7) c) (rCell (pr c t) (t / 7) c) (kcell_r _ _ (by omega) _)) $$ HK
  icases HJ with ⟨#HJ1, #HJ2⟩
  unfold srcRes owns
  icases Hsrc with ⟨%fs, %hfs, Hsrc⟩
  unfold slotAny owns
  icases Hslot with ⟨%X, ⟨%fd, %hfd, Hslot⟩⟩
  iapply (Rounds.wp_send_pointsTo 𝒱₀ ER (sched m ρ) (c : Thread nD τ) none (κ₁ := K (c, sK t)) (κ₂ := K (pr c t, rK (t / 7) c))
    (r₁ := 0) (r₂ := 0) (d₁ := 0) (d₂ := 0) (fd := fd)
    (by rw [duties_s m ρ c t ht28]; exact Finset.mem_singleton_self _)
    (by rw [duties_r m ρ (pr c t) (t / 7) (by omega) c (fun e => pr_ne c t e.symm)]; exact Finset.mem_singleton_self _)
    () () N (show (slotM (t / 7) c).view.amount (.dma (dsem (rIx (t / 7) c))) = N from N_slot _ _) (amount_dma m ρ c _ 0) (amount_dma m ρ (pr c t) _ 0) (Ocr c (t + 1)) (Ocr_succ c t ht28) (W := Wt)
    (by
      rw [payload_s m ρ c t ht28]; unfold srcRes owns
      iintro H; iexists fs
      isplitr; · ipureintro; exact hfs
      iexact H)
    (by
      rw [payload_r m ρ (pr c t) (t / 7) (by omega) c]; unfold slotRes owns
      iintro H; iexists _
      isplitr
      rotate_left
      · iexact H
      · ipureintro
        rw [slotV_src m ρ c t ht28, ← hfs]; exact View.read_write_univ ..)) $$ [Hsrc Hslot HO Hd1 Hd2]
  · isplitr; · iexact HI1
    isplitr; · iexact HJ1
    isplitl [Hsrc]; · iexact Hsrc
    isplitl [Hslot]; · iexact Hslot
    isplitl [HO]; · iexact HO
    isplitl [Hd1]; · iexact Hd1
    isplitr; · iexact HI2
    isplitl [Hd2]; · iexact Hd2
    iexact HJ2
  iintro ⟨Hcr, HO⟩
  iapply h
  isplitr
  · isplitr; · iexact HK
    iexact HL
  isplitl [HO]; · iexists _; iexact HO
  isplitl [HS]; · iexact HS
  isplitl [Hat HB]
  · isplitl [Hat]; · iexact Hat
    iexact HB
  isplitl [HC]; · iexact HC
  isplitl [HT1 HT2 HT3 Hcr]
  · isplitl [HT1]; · iexact HT1
    isplitl [Hcr HT2]
    · isplitl [Hcr]; · iexact Hcr
      iexact HT2
    iexact HT3
  isplitl [HR]; · iexact HR
  isplitl [HY1 HY2 HY3]
  · isplitl [HY1]; · iexact HY1
    isplitl [HY2]; · iexact HY2
    iexact HY3
  iexact H

/-- The wait for the next landing. -/
theorem s_recv (hw : w < 28) (ht : t = 28 ∨ (w < 14 ∧ 14 ≤ t)) {sR : DmaSem sig} (h₂ : sR = dsem (rIx (w / 7) (pr c (w % 7))))
    {sp sp' : Space} {sh sh' : Shape} {e e' : EltTy} {κ' : Kind} {src : Memref sig .tc sp' sh' e'} {dst : Memref sig κ' sp sh e} (hN : dst.view.dmaCredit = N)
    {ha : src.view.WordExact} {hb : dst.view.WordExact} {kk : PUnit → Prog (TpuEff nD τ sig (Elt F) Λ₀ .tc) α}
    (h : St m ρ K c 7 b q y t (w + 1) x p k o v ⊢ WPk c (kk ⟨⟩) Q) :
    St m ρ K c 7 b q y t w x p k o v ⊢ WPk c (.op (.waitDma2 sR src dst ha hb) kk) Q := by
  rw [pr_mod] at h₂
  subst h₂
  unfold St at h ⊢
  unfold stO at h ⊢
  unfold known at h ⊢
  unfold stR at h ⊢
  rw [Obar_seven, zero_add] at h ⊢
  rw [seg_pop hw]
  rw [seg_push (Nat.zero_le w)] at h
  iintro ⟨⟨#HK, #HL⟩, ⟨%Wt, HO⟩, HS, HB, HC, HT, ⟨⟨⟨Hat, Hc⟩, HR1⟩, HR2⟩, H⟩
  ihave #HI := (cell_rec m ρ K (c, rK (w / 7) (pr c w)) (rCell c (w / 7) (pr c w)) (kcell_r _ _ (by omega) _)) $$ HK
  icases HI with ⟨#HI1, #HI2⟩
  iapply (Rounds.wp_wait_rest_token 𝒱₀ ER (sched m ρ) (c : Thread nD τ) none (κ := K (c, rK (w / 7) (pr c w)))
      (wpE_waitDma2_eq 𝒱₀ (c : Thread nD τ) none Set.univ) (Set.mem_univ _) () (O := Ocr c t) (W := Wt) (R := 0) (m := 0) (T := ∅)
      (by rw [Nat.zero_add, expect_r m ρ c (w / 7) (by omega) _ (pr_ne c w)]; exact hN)) $$ [Hc HO Hat]
  · isplitr; · iexact HI1
    isplitl [Hc]; · rw [hN]; iexact Hc
    isplitl [HO]; · iexact HO
    isplitr
    · iapply (mayWait_cr c (.dma (dsem (rIx (w / 7) (pr c w)))) (if w / 7 < 2 then 2 else 3) t (le_of_eq (lv_r c (w / 7) (by omega) (pr c w))) (fun i h1 h2 => by
        rw [if_pos (by omega), if_neg (by omega)]; decide)); iexact HL
    iexact Hat
  iintro ⟨HO, Hat, -, Hpay⟩
  ihave Hp := (Entails.of_eq (rest_r m ρ c (w / 7) (by omega) (pr c w) (pr_ne c w))) $$ Hpay
  iapply h
  isplitr
  · isplitr; · iexact HK
    iexact HL
  isplitl [HO]; · iexists _; iexact HO
  isplitl [HS]; · iexact HS
  isplitl [HB]; · iexact HB
  isplitl [HC]; · iexact HC
  isplitl [HT]; · iexact HT
  isplitl [Hat Hp HR1 HR2]
  · isplitl [HR1]; · iexact HR1
    isplitl [Hat Hp]
    · isplitl [Hat]; · iexact Hat
      iexact Hp
    iexact HR2
  iexact H

/-- The wait for the next transfer to have left. -/
theorem s_sent (hx : x < 28) {sS : DmaSem sig} (h₂ : sS = dsem (sIx x))
    {sp sp' : Space} {sh sh' : Shape} {e e' : EltTy} {κ' : Kind} {src : Memref sig .tc sp' sh' e'} {dst : Memref sig κ' sp sh e} (hN : dst.view.dmaCredit = N)
    {ha : src.view.WordExact} {hb : dst.view.WordExact} {kk : PUnit → Prog (TpuEff nD τ sig (Elt F) Λ₀ .tc) α}
    (h : St m ρ K c 7 b q y 28 w (x + 1) p k o v ⊢ WPk c (kk ⟨⟩) Q) :
    St m ρ K c 7 b q y 28 w x p k o v ⊢ WPk c (.op (.waitDma2 sS src dst ha hb) kk) Q := by
  subst h₂
  unfold St at h ⊢
  unfold stO at h ⊢
  unfold known at h ⊢
  unfold stT stY at h ⊢
  rw [Obar_seven, zero_add, Ocr_last] at h ⊢
  rw [seg_pop hx, seg_pop hx]
  rw [seg_push (Nat.zero_le x), seg_push (Nat.zero_le x)] at h
  iintro ⟨⟨#HK, #HL⟩, ⟨%Wt, HO⟩, HS, HB, HC, ⟨HT1, ⟨Hc, HT2⟩, ⟨Hat, HT3⟩, HT4⟩, HR, ⟨HY1, HY2, HY3, HY4⟩, H⟩
  ihave #HI := (cell_rec m ρ K (c, sK x) (sCell c x) (kcell_s _ _ (by omega))) $$ HK
  icases HI with ⟨#HI1, #HI2⟩
  iapply (Rounds.wp_wait_rest_token 𝒱₀ ER (sched m ρ) (c : Thread nD τ) none (κ := K (c, sK x))
      (wpE_waitDma2_eq 𝒱₀ (c : Thread nD τ) none Set.univ) (Set.mem_univ _) () (O := 0) (W := Wt) (R := 0) (m := 0) (T := ∅)
      (by rw [Nat.zero_add, expect_s m ρ c x hx]; exact hN)) $$ [Hc HO Hat]
  · isplitr; · iexact HI1
    isplitl [Hc]; · rw [hN]; iexact Hc
    isplitl [HO]; · iexact HO
    isplitr; · rw [MayWait_zero]; iempintro
    iexact Hat
  iintro ⟨HO, Hat, -, Hpay⟩
  ihave Hp := (Entails.of_eq (rest_s m ρ c x hx)) $$ Hpay
  iapply h
  isplitr
  · isplitr; · iexact HK
    iexact HL
  isplitl [HO]; · iexists _; iexact HO
  isplitl [HS]; · iexact HS
  isplitl [HB]; · iexact HB
  isplitl [HC]; · iexact HC
  isplitl [HT1 HT2 HT3 HT4 Hat]
  · isplitl [HT1]; · iexact HT1
    isplitl [HT2]; · iexact HT2
    isplitl [HT3]; · iexact HT3
    isplitl [Hat]; · iexact Hat
    iexact HT4
  isplitl [HR]; · iexact HR
  isplitl [HY1 HY2 HY3 HY4 Hp]
  · isplitl [HY1]; · iexact HY1
    isplitl [HY2]; · iexact HY2
    isplitl [Hp HY3]
    · isplitl [Hp]; · iexact Hp
      iexact HY3
    iexact HY4
  iexact H

end Cert.Ring

end
-- ==== Proof.Forms.lean ====
/-
The program's own words — offsets, device numbers, semaphores — as the protocol's.
-/
module

public import proofs.«01_k».proof.Proof.Comm

@[expose] public section

noncomputable section

namespace Cert.Ring

open Cert.KernelIdeal Cert.KernelIdeal.Gen
open Idealize.ShloMosaic
open Idealize.ShloMosaic.TcCoe

variable (c : Dev nD) (k : Fin 7)

theorem f1 : k0_off1 c (maskW k) = ![128 * (pr c k).val, 0] := by revert c k; decide +kernel
theorem f2 : k0_off2 c (maskW k) = ![128 * (pr c k).val, 0] := by revert c k; decide +kernel
theorem f5 : k0_off5 c (maskW k) = ![128 * (pr c k).val, 0] := by revert c k; decide +kernel
theorem f7 : k0_off7 c (maskW k) = ![128 * (pr c k).val, 512] := by revert c k; decide +kernel
theorem f10 : k0_off10 c (maskW k) = ![128 * (pr c k).val, 512] := by revert c k; decide +kernel
theorem f11 : k0_off11 c (maskW k) = ![0, (pr c k).val] := by revert c k; decide +kernel
theorem f13 : k0_off13 c (maskW k) = ![0, (pr c k).val, 0, 0] := by revert c k; decide +kernel
theorem f15 : k0_off15 c (maskW k) = ![1, (pr c k).val] := by revert c k; decide +kernel
theorem f17 : k0_off17 c (maskW k) = ![1, (pr c k).val, 0, 0] := by revert c k; decide +kernel

theorem d1 : (⟨k0_dev1 c, k0_dev1_lt c⟩ : Dev nD) = pr c 0 := by revert c; decide +kernel
theorem d2 : (⟨k0_dev2 c, k0_dev2_lt c⟩ : Dev nD) = pr c 1 := by revert c; decide +kernel
theorem d3 : (⟨k0_dev3 c, k0_dev3_lt c⟩ : Dev nD) = pr c 2 := by revert c; decide +kernel
theorem d4 : (⟨k0_dev4 c, k0_dev4_lt c⟩ : Dev nD) = pr c 3 := by revert c; decide +kernel
theorem d5 : (⟨k0_dev5 c, k0_dev5_lt c⟩ : Dev nD) = pr c 4 := by revert c; decide +kernel
theorem d6 : (⟨k0_dev6 c, k0_dev6_lt c⟩ : Dev nD) = pr c 5 := by revert c; decide +kernel
theorem d7 : (⟨k0_dev7 c, k0_dev7_lt c⟩ : Dev nD) = pr c 6 := by revert c; decide +kernel

/-- Semaphore `(h, i)` of an array of senders' or receivers'. -/
theorem q7 {off : Fin 2 → ℕ} (h : Fin 2) (hoff : off = ![h.val, k.val]) {hp : ∀ a, off a + S1x1.size a ≤ S2x7.size a} :
    ((cc0_scratch7.slice (Rect.unit (s := S2x7) off S1x1.size hp)).squeeze S_ squeezes_S1x1_S_).sem = dsem (sIx (7 * h + k)) := by
  subst hoff; revert hp; revert h k; decide +kernel
theorem q9 {off : Fin 2 → ℕ} (h : Fin 2) (hoff : off = ![h.val, k.val]) {hp : ∀ a, off a + S1x1.size a ≤ S2x7.size a} :
    ((cc0_scratch9.slice (Rect.unit (s := S2x7) off S1x1.size hp)).squeeze S_ squeezes_S1x1_S_).sem = dsem (sIx (14 + 7 * h + k)) := by
  subst hoff; revert hp; revert h k; decide +kernel
theorem q8 {off : Fin 2 → ℕ} (h : Fin 2) (j : Dev nD) (hoff : off = ![h.val, j.val]) {hp : ∀ a, off a + S1x1.size a ≤ S2x8.size a} :
    ((cc0_scratch8.slice (Rect.unit (s := S2x8) off S1x1.size hp)).squeeze S_ squeezes_S1x1_S_).sem = dsem (rIx h j) := by
  subst hoff; revert hp; revert h j; decide +kernel
theorem q10 {off : Fin 2 → ℕ} (h : Fin 2) (j : Dev nD) (hoff : off = ![h.val, j.val]) {hp : ∀ a, off a + S1x1.size a ≤ S2x8.size a} :
    ((cc0_scratch10.slice (Rect.unit (s := S2x8) off S1x1.size hp)).squeeze S_ squeezes_S1x1_S_).sem = dsem (rIx (2 + h) j) := by
  subst hoff; revert hp; revert h j; decide +kernel

/-- Tiles and slots at equal offsets. -/
theorem tw (i : ℕ) (hi : i < 14) {off : Fin 2 → ℕ} (hoff : off = ![128 * (pr c (i % 7)).val, 512 * ((i / 7) % 2)])
    {hp : ∀ a, off a + S128x512.size a ≤ S1024x1024.size a} {hs} : wireM.slice (Rect.unit (s := S1024x1024) off S128x512.size hp) hs = srcM c i := by
  rw [pr_mod] at hoff
  subst hoff; unfold srcM; rw [if_pos hi]
theorem ta (i : ℕ) (hi : 14 ≤ i) {off : Fin 2 → ℕ} (hoff : off = ![0, 512 * ((i / 7) % 2)])
    {hp : ∀ a, off a + S128x512.size a ≤ S128x1024.size a} {hs} : agM.slice (Rect.unit (s := S128x1024) off S128x512.size hp) hs = srcM c i := by
  subst hoff; unfold srcM; rw [if_neg (by omega)]
theorem tr (g : ℕ) (hg : g < 2) {off : Fin 4 → ℕ} (hoff : off = ![g, c.val, 0, 0]) {hp : ∀ a, off a + S1x1x128x512.size a ≤ S2x8x128x512.size a} {hs} {hq} :
    (rsM.slice (Rect.unit (s := S2x8x128x512) off S1x1x128x512.size hp) hs).squeeze S128x512 hq = slotM g c := by
  subst hoff; unfold slotM bufM
  obtain rfl | rfl : g = 0 ∨ g = 1 := by omega
  · rfl
  · rfl
theorem tg (g : ℕ) (hg : g < 2) {off : Fin 4 → ℕ} (hoff : off = ![g, c.val, 0, 0]) {hp : ∀ a, off a + S1x1x128x512.size a ≤ S2x8x128x512.size a} {hs} {hq} :
    (gaM.slice (Rect.unit (s := S2x8x128x512) off S1x1x128x512.size hp) hs).squeeze S128x512 hq = slotM (2 + g) c := by
  subst hoff; unfold slotM bufM
  obtain rfl | rfl : g = 0 ∨ g = 1 := by omega
  · rfl
  · rfl

end Cert.Ring

end
-- ==== Proof.PartsA.lean ====
/-
The body, part by part: the barrier and the first half of the partial products.
-/
module

public import proofs.«01_k».proof.Proof.Forms

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {m : (ℓ : Loc nD τ sig) → Buf (Elt F) ℓ} {ρ : Dev nD → PrngReg}
variable {K : Dev nD × Fin 61 → ℕ} {c : Dev nD}
variable {α : Type} {Q : α → sProp (MT nD τ sig Unit (Elt F) ℕ UU ℕ)}

theorem part1 {kk : _ → Prog (TpuEff nD τ sig (Elt F) Λ₀ .tc) α} {W : sProp (MT nD τ sig Unit (Elt F) ℕ UU ℕ)}
    (h : ∀ v2 v7 v13 v19 v25 v31 v32 v33 v34, W ⊢ WPk c (kk ⟨c, v2, v7, v13, v19, v25, v31, v32, v33, v34⟩) Q) :
    W ⊢ WPk c (k0_part1 stgA stgAw stgB stgBw outM outMw aM aMw bM bMw powM powMw wireM wireMw agM agMw rsM rsMw gaM gaMw cc0_scratch7 cc0_scratch8 cc0_scratch9 cc0_scratch10 >>= kk) Q := by
  rw [k0_part1_eq_skeleton]
  unfold k0_part1_skel
  simp only [Prog.lift, Prog.bind_op, Prog.bind_ret, Prog.pure_eq_ret, wp_deviceId]
  exact h _ _ _ _ _ _ _ _ _

theorem part2 {v7 v13 v19 v25 v31 v32 v33 v34} {kk : _ → Prog (TpuEff nD τ sig (Elt F) Λ₀ .tc) α}
    (h : ∀ v37 v43 v49, St m ρ K c 5 0 0 0 0 0 0 0 0 0 0 ⊢ WPk c (kk ⟨v37, v43, v49, SemArray.scalar (sig.barrier 0 rfl)⟩) Q) :
    St m ρ K c 0 0 0 0 0 0 0 0 0 0 0
      ⊢ WPk c (k0_part2 stgA stgAw stgB stgBw outM outMw aM aMw bM bMw powM powMw wireM wireMw agM agMw rsM rsMw gaM gaMw cc0_scratch7 cc0_scratch8 cc0_scratch9 cc0_scratch10 c v7 v13 v19 v25 v31 v32 v33 v34 >>= kk) Q := by
  rw [k0_part2_eq_skeleton]
  unfold k0_part2_skel
  simp only [semSignalWord, Prog.lift, Prog.bind_op, Prog.bind_ret, Prog.pure_eq_ret]
  refine s_signal (by decide) (d1 c) rfl ?_
  refine s_signal (by decide) (d2 c) rfl ?_
  refine s_signal (by decide) (d3 c) rfl ?_
  refine s_signal (by decide) (d4 c) rfl ?_
  refine s_signal (by decide) (d5 c) rfl ?_
  exact h _ _ _

theorem part3 {v13 v49} {kk : _ → Prog (TpuEff nD τ sig (Elt F) Λ₀ .tc) α}
    (h : ∀ v90, St m ρ K c 7 1 2 1 0 0 0 0 0 0 0 ⊢ WPk c (kk v90) Q) :
    St m ρ K c 5 0 0 0 0 0 0 0 0 0 0
      ⊢ WPk c (k0_part3 stgA stgAw stgB stgBw outM outMw aM aMw bM bMw powM powMw wireM wireMw agM agMw rsM rsMw gaM gaMw cc0_scratch7 cc0_scratch8 cc0_scratch9 cc0_scratch10 c v13 v49 (SemArray.scalar (sig.barrier 0 rfl)) >>= kk) Q := by
  rw [k0_part3_eq_skeleton]
  unfold k0_part3_skel
  simp only [semSignalWord, semWaitWord, Prog.lift, Prog.bind_op, Prog.bind_ret, Prog.pure_eq_ret]
  refine s_signal (by decide) (d6 c) rfl ?_
  refine s_signal (by decide) (d7 c) rfl ?_
  refine s_stgA ?_
  refine s_aDead fun _ => ?_
  refine s_aStore ?_
  refine s_stgB ?_
  refine s_bDead fun _ => ?_
  refine s_bStore ?_
  refine s_bar rfl ?_
  refine s_row _ (f1 c 0) ?_
  refine s_col 0 rfl ?_
  refine s_wDead (by decide) (f2 c 0) fun _ => ?_
  refine s_wStore (by decide) (by decide) (f2 c 0) rfl ?_
  exact h _

theorem part4 {v19 v25 v90} {kk : _ → Prog (TpuEff nD τ sig (Elt F) Λ₀ .tc) α}
    (h : ∀ v, St m ρ K c 7 1 2 2 2 0 0 0 0 0 0 ⊢ WPk c (kk v) Q) :
    St m ρ K c 7 1 2 1 0 0 0 0 0 0 0
      ⊢ WPk c (k0_part4 stgA stgAw stgB stgBw outM outMw aM aMw bM bMw powM powMw wireM wireMw agM agMw rsM rsMw gaM gaMw cc0_scratch7 cc0_scratch8 cc0_scratch9 cc0_scratch10 c v19 v25 v90 >>= kk) Q := by
  rw [k0_part4_eq_skeleton]
  unfold k0_part4_skel
  simp only [Prog.lift, Prog.bind_op, Prog.bind_ret, Prog.pure_eq_ret]
  refine s_send (by decide) (by decide) (d1 c) (tw c 0 (by decide) (f5 c 0)) (tr c 0 (by decide) (k0_off4_eq c)) (q7 0 0 rfl) (q8 0 c (k0_off3_eq c)) (by decide) ?_
  refine s_row _ (f1 c 1) ?_
  refine s_col 0 rfl ?_
  refine s_wDead (by decide) (f2 c 1) fun _ => ?_
  refine s_wStore (by decide) (by decide) (f2 c 1) rfl ?_
  refine s_send (by decide) (by decide) (d2 c) (tw c 1 (by decide) (f5 c 1)) (tr c 0 (by decide) (k0_off4_eq c)) (q7 1 0 rfl) (q8 0 c (k0_off3_eq c)) (by decide) ?_
  exact h _

theorem part5 {v25 v31 v123} {kk : _ → Prog (TpuEff nD τ sig (Elt F) Λ₀ .tc) α}
    (h : ∀ X, St m ρ K c 7 1 2 3 3 0 0 0 0 0 0 ⊢ WPk c (kk ⟨k0_pay6 (arow m ρ c (pr c 3)) (bcol m ρ c 0), X⟩) Q) :
    St m ρ K c 7 1 2 2 2 0 0 0 0 0 0
      ⊢ WPk c (k0_part5 stgA stgAw stgB stgBw outM outMw aM aMw bM bMw powM powMw wireM wireMw agM agMw rsM rsMw gaM gaMw cc0_scratch7 cc0_scratch8 cc0_scratch9 cc0_scratch10 c v25 v31 v123 >>= kk) Q := by
  rw [k0_part5_eq_skeleton]
  unfold k0_part5_skel
  simp only [Prog.lift, Prog.bind_op, Prog.bind_ret, Prog.pure_eq_ret]
  refine s_row _ (f1 c 2) ?_
  refine s_col 0 rfl ?_
  refine s_wDead (by decide) (f2 c 2) fun _ => ?_
  refine s_wStore (by decide) (by decide) (f2 c 2) rfl ?_
  refine s_send (by decide) (by decide) (d3 c) (tw c 2 (by decide) (f5 c 2)) (tr c 0 (by decide) (k0_off4_eq c)) (q7 2 0 rfl) (q8 0 c (k0_off3_eq c)) (by decide) ?_
  refine s_row _ (f1 c 3) ?_
  refine s_col 0 rfl ?_
  refine s_wDead (by decide) (f2 c 3) fun _ => ?_
  exact h _

theorem part6 {v31 v37 v159} {kk : _ → Prog (TpuEff nD τ sig (Elt F) Λ₀ .tc) α}
    (h : St m ρ K c 7 1 2 5 4 0 0 0 0 0 0 ⊢ WPk c (kk ⟨⟩) Q) :
    St m ρ K c 7 1 2 3 3 0 0 0 0 0 0
      ⊢ WPk c (k0_part6 stgA stgAw stgB stgBw outM outMw aM aMw bM bMw powM powMw wireM wireMw agM agMw rsM rsMw gaM gaMw cc0_scratch7 cc0_scratch8 cc0_scratch9 cc0_scratch10 c v31 v37 (k0_pay6 (arow m ρ c (pr c 3)) (bcol m ρ c 0)) v159 >>= kk) Q := by
  rw [k0_part6_eq_skeleton]
  unfold k0_part6_skel
  simp only [Prog.lift, Prog.bind_op, Prog.bind_ret, Prog.pure_eq_ret]
  refine s_wStore (by decide) (by decide) (f2 c 3) rfl ?_
  refine s_send (by decide) (by decide) (d4 c) (tw c 3 (by decide) (f5 c 3)) (tr c 0 (by decide) (k0_off4_eq c)) (q7 3 0 rfl) (q8 0 c (k0_off3_eq c)) (by decide) ?_
  refine s_row _ (f1 c 4) ?_
  refine s_col 0 rfl ?_
  refine s_wDead (by decide) (f2 c 4) fun _ => ?_
  refine s_wStore (by decide) (by decide) (f2 c 4) rfl ?_
  exact h

theorem part7 {v43 v49} {kk : _ → Prog (TpuEff nD τ sig (Elt F) Λ₀ .tc) α}
    (h : ∀ w, St m ρ K c 7 1 2 6 6 0 0 0 0 0 0 ⊢ WPk c (kk ⟨w, k0_pay10 (arow m ρ c (pr c 6)) (bcol m ρ c 0), Scalar.ofBits .f32 0xC2FE0000#32, Scalar.ofBits .f32 0x42FE0000#32⟩) Q) :
    St m ρ K c 7 1 2 5 4 0 0 0 0 0 0
      ⊢ WPk c (k0_part7 stgA stgAw stgB stgBw outM outMw aM aMw bM bMw powM powMw wireM wireMw agM agMw rsM rsMw gaM gaMw cc0_scratch7 cc0_scratch8 cc0_scratch9 cc0_scratch10 c v43 v49 >>= kk) Q := by
  rw [k0_part7_eq_skeleton]
  unfold k0_part7_skel
  simp only [Prog.lift, Prog.bind_op, Prog.bind_ret, Prog.pure_eq_ret]
  refine s_send (by decide) (by decide) (d5 c) (tw c 4 (by decide) (f5 c 4)) (tr c 0 (by decide) (k0_off4_eq c)) (q7 4 0 rfl) (q8 0 c (k0_off3_eq c)) (by decide) ?_
  refine s_row _ (f1 c 5) ?_
  refine s_col 0 rfl ?_
  refine s_wDead (by decide) (f2 c 5) fun _ => ?_
  refine s_wStore (by decide) (by decide) (f2 c 5) rfl ?_
  refine s_send (by decide) (by decide) (d6 c) (tw c 5 (by decide) (f5 c 5)) (tr c 0 (by decide) (k0_off4_eq c)) (q7 5 0 rfl) (q8 0 c (k0_off3_eq c)) (by decide) ?_
  refine s_row _ (f1 c 6) ?_
  refine s_col 0 rfl ?_
  exact h _

theorem part8 {v2 v13 v49 v219} {kk : _ → Prog (TpuEff nD τ sig (Elt F) Λ₀ .tc) α}
    (h : ∀ w, St m ρ K c 7 1 2 7 7 0 0 1 0 0 0 ⊢ WPk c (kk ⟨w, k0_pay13 (arow m ρ c (pr c 0)) (bcol m ρ c 1), Scalar.ofBits .f32 0x42FE0000#32, k0_pay14⟩) Q) :
    St m ρ K c 7 1 2 6 6 0 0 0 0 0 0
      ⊢ WPk c (k0_part8 stgA stgAw stgB stgBw outM outMw aM aMw bM bMw powM powMw wireM wireMw agM agMw rsM rsMw gaM gaMw cc0_scratch7 cc0_scratch8 cc0_scratch9 cc0_scratch10 c v2 v13 v49 v219 (k0_pay10 (arow m ρ c (pr c 6)) (bcol m ρ c 0)) (Scalar.ofBits .f32 0xC2FE0000#32) (Scalar.ofBits .f32 0x42FE0000#32) >>= kk) Q := by
  rw [k0_part8_eq_skeleton]
  unfold k0_part8_skel
  simp only [Prog.lift, Prog.bind_op, Prog.bind_ret, Prog.pure_eq_ret]
  refine s_wDead (by decide) (f2 c 6) fun _ => ?_
  refine s_wStore (by decide) (by decide) (f2 c 6) rfl ?_
  refine s_send (by decide) (by decide) (d7 c) (tw c 6 (by decide) (f5 c 6)) (tr c 0 (by decide) (k0_off4_eq c)) (q7 6 0 rfl) (q8 0 c (k0_off3_eq c)) (by decide) ?_
  refine s_row _ (k0_off6_eq c) ?_
  refine s_col 0 rfl ?_
  refine s_pDead (by decide) rfl fun _ => ?_
  refine s_pStore (by decide) rfl rfl ?_
  refine s_row _ (f1 c 0) ?_
  refine s_col 1 rfl ?_
  exact h _

end Cert.Ring

end
-- ==== Proof.PartsB.lean ====
/-
The body, part by part: the second half of the partial products, the first half's sums.
-/
module

public import proofs.«01_k».proof.Proof.PartsA

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {m : (ℓ : Loc nD τ sig) → Buf (Elt F) ℓ} {ρ : Dev nD → PrngReg}
variable {K : Dev nD × Fin 61 → ℕ} {c : Dev nD}
variable {α : Type} {Q : α → sProp (MT nD τ sig Unit (Elt F) ℕ UU ℕ)}

theorem part9 {v13 v19 v251} {kk : _ → Prog (TpuEff nD τ sig (Elt F) Λ₀ .tc) α}
    (h : ∀ w, St m ρ K c 7 1 2 9 8 0 0 1 0 0 0 ⊢ WPk c (kk w) Q) :
    St m ρ K c 7 1 2 7 7 0 0 1 0 0 0
      ⊢ WPk c (k0_part9 stgA stgAw stgB stgBw outM outMw aM aMw bM bMw powM powMw wireM wireMw agM agMw rsM rsMw gaM gaMw cc0_scratch7 cc0_scratch8 cc0_scratch9 cc0_scratch10 c v13 v19 v251 (k0_pay13 (arow m ρ c (pr c 0)) (bcol m ρ c 1)) (Scalar.ofBits .f32 0x42FE0000#32) k0_pay14 >>= kk) Q := by
  rw [k0_part9_eq_skeleton]
  unfold k0_part9_skel
  simp only [Prog.lift, Prog.bind_op, Prog.bind_ret, Prog.pure_eq_ret]
  refine s_wDead (by decide) (f7 c 0) fun _ => ?_
  refine s_wStore (by decide) (by decide) (f7 c 0) rfl ?_
  refine s_send (by decide) (by decide) (d1 c) (tw c 7 (by decide) (f10 c 0)) (tr c 1 (by decide) (k0_off9_eq c)) (q7 0 1 rfl) (q8 1 c (k0_off8_eq c)) (by decide) ?_
  refine s_row _ (f1 c 1) ?_
  refine s_col 1 rfl ?_
  refine s_wDead (by decide) (f7 c 1) fun _ => ?_
  refine s_wStore (by decide) (by decide) (f7 c 1) rfl ?_
  exact h _

theorem part10 {v25 v31 v290} {kk : _ → Prog (TpuEff nD τ sig (Elt F) Λ₀ .tc) α}
    (h : ∀ w, St m ρ K c 7 1 2 10 10 0 0 1 0 0 0 ⊢ WPk c (kk w) Q) :
    St m ρ K c 7 1 2 9 8 0 0 1 0 0 0
      ⊢ WPk c (k0_part10 stgA stgAw stgB stgBw outM outMw aM aMw bM bMw powM powMw wireM wireMw agM agMw rsM rsMw gaM gaMw cc0_scratch7 cc0_scratch8 cc0_scratch9 cc0_scratch10 c v25 v31 v290 >>= kk) Q := by
  rw [k0_part10_eq_skeleton]
  unfold k0_part10_skel
  simp only [Prog.lift, Prog.bind_op, Prog.bind_ret, Prog.pure_eq_ret]
  refine s_send (by decide) (by decide) (d2 c) (tw c 8 (by decide) (f10 c 1)) (tr c 1 (by decide) (k0_off9_eq c)) (q7 1 1 rfl) (q8 1 c (k0_off8_eq c)) (by decide) ?_
  refine s_row _ (f1 c 2) ?_
  refine s_col 1 rfl ?_
  refine s_wDead (by decide) (f7 c 2) fun _ => ?_
  refine s_wStore (by decide) (by decide) (f7 c 2) rfl ?_
  refine s_send (by decide) (by decide) (d3 c) (tw c 9 (by decide) (f10 c 2)) (tr c 1 (by decide) (k0_off9_eq c)) (q7 2 1 rfl) (q8 1 c (k0_off8_eq c)) (by decide) ?_
  exact h _

theorem part11 {v31 v37 v323} {kk : _ → Prog (TpuEff nD τ sig (Elt F) Λ₀ .tc) α}
    (h : ∀ X, St m ρ K c 7 1 2 11 11 0 0 1 0 0 0 ⊢ WPk c (kk ⟨k0_pay19 (arow m ρ c (pr c 4)) (bcol m ρ c 1), X⟩) Q) :
    St m ρ K c 7 1 2 10 10 0 0 1 0 0 0
      ⊢ WPk c (k0_part11 stgA stgAw stgB stgBw outM outMw aM aMw bM bMw powM powMw wireM wireMw agM agMw rsM rsMw gaM gaMw cc0_scratch7 cc0_scratch8 cc0_scratch9 cc0_scratch10 c v31 v37 v323 >>= kk) Q := by
  rw [k0_part11_eq_skeleton]
  unfold k0_part11_skel
  simp only [Prog.lift, Prog.bind_op, Prog.bind_ret, Prog.pure_eq_ret]
  refine s_row _ (f1 c 3) ?_
  refine s_col 1 rfl ?_
  refine s_wDead (by decide) (f7 c 3) fun _ => ?_
  refine s_wStore (by decide) (by decide) (f7 c 3) rfl ?_
  refine s_send (by decide) (by decide) (d4 c) (tw c 10 (by decide) (f10 c 3)) (tr c 1 (by decide) (k0_off9_eq c)) (q7 3 1 rfl) (q8 1 c (k0_off8_eq c)) (by decide) ?_
  refine s_row _ (f1 c 4) ?_
  refine s_col 1 rfl ?_
  refine s_wDead (by decide) (f7 c 4) fun _ => ?_
  exact h _

theorem part12 {v37 v43 v359} {kk : _ → Prog (TpuEff nD τ sig (Elt F) Λ₀ .tc) α}
    (h : St m ρ K c 7 1 2 13 12 0 0 1 0 0 0 ⊢ WPk c (kk ⟨⟩) Q) :
    St m ρ K c 7 1 2 11 11 0 0 1 0 0 0
      ⊢ WPk c (k0_part12 stgA stgAw stgB stgBw outM outMw aM aMw bM bMw powM powMw wireM wireMw agM agMw rsM rsMw gaM gaMw cc0_scratch7 cc0_scratch8 cc0_scratch9 cc0_scratch10 c v37 v43 (k0_pay19 (arow m ρ c (pr c 4)) (bcol m ρ c 1)) v359 >>= kk) Q := by
  rw [k0_part12_eq_skeleton]
  unfold k0_part12_skel
  simp only [Prog.lift, Prog.bind_op, Prog.bind_ret, Prog.pure_eq_ret]
  refine s_wStore (by decide) (by decide) (f7 c 4) rfl ?_
  refine s_send (by decide) (by decide) (d5 c) (tw c 11 (by decide) (f10 c 4)) (tr c 1 (by decide) (k0_off9_eq c)) (q7 4 1 rfl) (q8 1 c (k0_off8_eq c)) (by decide) ?_
  refine s_row _ (f1 c 5) ?_
  refine s_col 1 rfl ?_
  refine s_wDead (by decide) (f7 c 5) fun _ => ?_
  refine s_wStore (by decide) (by decide) (f7 c 5) rfl ?_
  exact h

theorem part13 {v2 v49} {kk : _ → Prog (TpuEff nD τ sig (Elt F) Λ₀ .tc) α}
    (h : St m ρ K c 7 1 2 14 14 0 0 1 0 0 0 ⊢ WPk c (kk (k0_pay23 (arow m ρ c c) (bcol m ρ c 1))) Q) :
    St m ρ K c 7 1 2 13 12 0 0 1 0 0 0
      ⊢ WPk c (k0_part13 stgA stgAw stgB stgBw outM outMw aM aMw bM bMw powM powMw wireM wireMw agM agMw rsM rsMw gaM gaMw cc0_scratch7 cc0_scratch8 cc0_scratch9 cc0_scratch10 c v2 v49 >>= kk) Q := by
  rw [k0_part13_eq_skeleton]
  unfold k0_part13_skel
  simp only [Prog.lift, Prog.bind_op, Prog.bind_ret, Prog.pure_eq_ret]
  refine s_send (by decide) (by decide) (d6 c) (tw c 12 (by decide) (f10 c 5)) (tr c 1 (by decide) (k0_off9_eq c)) (q7 5 1 rfl) (q8 1 c (k0_off8_eq c)) (by decide) ?_
  refine s_row _ (f1 c 6) ?_
  refine s_col 1 rfl ?_
  refine s_wDead (by decide) (f7 c 6) fun _ => ?_
  refine s_wStore (by decide) (by decide) (f7 c 6) rfl ?_
  refine s_send (by decide) (by decide) (d7 c) (tw c 13 (by decide) (f10 c 6)) (tr c 1 (by decide) (k0_off9_eq c)) (q7 6 1 rfl) (q8 1 c (k0_off8_eq c)) (by decide) ?_
  refine s_row _ (k0_off6_eq c) ?_
  refine s_col 1 rfl ?_
  exact h

theorem part14 {v2 v13 v19} {kk : _ → Prog (TpuEff nD τ sig (Elt F) Λ₀ .tc) α}
    (h : St m ρ K c 7 1 2 14 14 2 0 2 0 0 0 ⊢ WPk c (kk (k0_pay25 (RX m ρ c 0 0) (RX m ρ c 0 1))) Q) :
    St m ρ K c 7 1 2 14 14 0 0 1 0 0 0
      ⊢ WPk c (k0_part14 stgA stgAw stgB stgBw outM outMw aM aMw bM bMw powM powMw wireM wireMw agM agMw rsM rsMw gaM gaMw cc0_scratch7 cc0_scratch8 cc0_scratch9 cc0_scratch10 c v2 v13 v19 (k0_pay23 (arow m ρ c c) (bcol m ρ c 1)) >>= kk) Q := by
  rw [k0_part14_eq_skeleton]
  unfold k0_part14_skel
  simp only [Prog.lift, Prog.bind_op, Prog.bind_ret, Prog.pure_eq_ret]
  refine s_pDead (by decide) rfl fun _ => ?_
  refine s_pStore (by decide) rfl rfl ?_
  refine s_recv (by decide) (Or.inr ⟨by decide, by decide⟩) (q8 0 (pr c 0) (f11 c 0)) (by rfl) ?_
  refine s_slotR 0 0 (by decide) (by decide) (by decide) (f13 c 0) ?_
  refine s_recv (by decide) (Or.inr ⟨by decide, by decide⟩) (q8 0 (pr c 1) (f11 c 1)) (by rfl) ?_
  refine s_slotR 0 1 (by decide) (by decide) (by decide) (f13 c 1) ?_
  exact h

theorem part15 {v2 v25 v31} {kk : _ → Prog (TpuEff nD τ sig (Elt F) Λ₀ .tc) α}
    (h : St m ρ K c 7 1 2 14 14 4 0 2 0 0 0 ⊢ WPk c (kk (k0_pay26 (k0_pay25 (RX m ρ c 0 0) (RX m ρ c 0 1)) (RX m ρ c 0 2) (RX m ρ c 0 3))) Q) :
    St m ρ K c 7 1 2 14 14 2 0 2 0 0 0
      ⊢ WPk c (k0_part15 stgA stgAw stgB stgBw outM outMw aM aMw bM bMw powM powMw wireM wireMw agM agMw rsM rsMw gaM gaMw cc0_scratch7 cc0_scratch8 cc0_scratch9 cc0_scratch10 c v2 v25 v31 (k0_pay25 (RX m ρ c 0 0) (RX m ρ c 0 1)) >>= kk) Q := by
  rw [k0_part15_eq_skeleton]
  unfold k0_part15_skel
  simp only [Prog.lift, Prog.bind_op, Prog.bind_ret, Prog.pure_eq_ret]
  refine s_recv (by decide) (Or.inr ⟨by decide, by decide⟩) (q8 0 (pr c 2) (f11 c 2)) (by rfl) ?_
  refine s_slotR 0 2 (by decide) (by decide) (by decide) (f13 c 2) ?_
  refine s_recv (by decide) (Or.inr ⟨by decide, by decide⟩) (q8 0 (pr c 3) (f11 c 3)) (by rfl) ?_
  refine s_slotR 0 3 (by decide) (by decide) (by decide) (f13 c 3) ?_
  exact h

theorem part16 {v2 v37 v43} {kk : _ → Prog (TpuEff nD τ sig (Elt F) Λ₀ .tc) α}
    (h : St m ρ K c 7 1 2 14 14 6 0 2 0 0 0 ⊢ WPk c (kk (SUM6 m ρ c 0)) Q) :
    St m ρ K c 7 1 2 14 14 4 0 2 0 0 0
      ⊢ WPk c (k0_part16 stgA stgAw stgB stgBw outM outMw aM aMw bM bMw powM powMw wireM wireMw agM agMw rsM rsMw gaM gaMw cc0_scratch7 cc0_scratch8 cc0_scratch9 cc0_scratch10 c v2 v37 v43 (k0_pay26 (k0_pay25 (RX m ρ c 0 0) (RX m ρ c 0 1)) (RX m ρ c 0 2) (RX m ρ c 0 3)) >>= kk) Q := by
  rw [k0_part16_eq_skeleton]
  unfold k0_part16_skel
  simp only [Prog.lift, Prog.bind_op, Prog.bind_ret, Prog.pure_eq_ret]
  refine s_recv (by decide) (Or.inr ⟨by decide, by decide⟩) (q8 0 (pr c 4) (f11 c 4)) (by rfl) ?_
  refine s_slotR 0 4 (by decide) (by decide) (by decide) (f13 c 4) ?_
  refine s_recv (by decide) (Or.inr ⟨by decide, by decide⟩) (q8 0 (pr c 5) (f11 c 5)) (by rfl) ?_
  refine s_slotR 0 5 (by decide) (by decide) (by decide) (f13 c 5) ?_
  exact h

theorem part17 {v13 v49} {kk : _ → Prog (TpuEff nD τ sig (Elt F) Λ₀ .tc) α}
    (h : St m ρ K c 7 1 2 21 14 7 0 2 1 0 0 ⊢ WPk c (kk (RED m ρ c 0)) Q) :
    St m ρ K c 7 1 2 14 14 6 0 2 0 0 0
      ⊢ WPk c (k0_part17 stgA stgAw stgB stgBw outM outMw aM aMw bM bMw powM powMw wireM wireMw agM agMw rsM rsMw gaM gaMw cc0_scratch7 cc0_scratch8 cc0_scratch9 cc0_scratch10 c v13 v49 (SUM6 m ρ c 0) >>= kk) Q := by
  rw [k0_part17_eq_skeleton]
  unfold k0_part17_skel
  simp only [Prog.lift, Prog.bind_op, Prog.bind_ret, Prog.pure_eq_ret]
  refine s_recv (by decide) (Or.inr ⟨by decide, by decide⟩) (q8 0 (pr c 6) (f11 c 6)) (by rfl) ?_
  refine s_slotR 0 6 (by decide) (by decide) (by decide) (f13 c 6) ?_
  refine s_pLoad 0 (by decide) rfl ?_
  refine s_kDead (by decide) rfl fun _ => ?_
  refine s_kStore (by decide) (by rfl) (by decide) (by rfl) (by rfl) ?_
  exact h

end Cert.Ring

end
-- ==== Proof.PartsC.lean ====
/-
The body, part by part: sharing the first half's sums, the second half's sums.
-/
module

public import proofs.«01_k».proof.Proof.PartsB

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {m : (ℓ : Loc nD τ sig) → Buf (Elt F) ℓ} {ρ : Dev nD → PrngReg}
variable {K : Dev nD × Fin 61 → ℕ} {c : Dev nD}
variable {α : Type} {Q : α → sProp (MT nD τ sig Unit (Elt F) ℕ UU ℕ)}

theorem part18 {v19 v25 v31} {kk : _ → Prog (TpuEff nD τ sig (Elt F) Λ₀ .tc) α}
    (h : St m ρ K c 7 1 2 21 17 7 0 2 1 0 0 ⊢ WPk c (kk ⟨⟩) Q) :
    St m ρ K c 7 1 2 21 14 7 0 2 1 0 0
      ⊢ WPk c (k0_part18 stgA stgAw stgB stgBw outM outMw aM aMw bM bMw powM powMw wireM wireMw agM agMw rsM rsMw gaM gaMw cc0_scratch7 cc0_scratch8 cc0_scratch9 cc0_scratch10 c v19 v25 v31 >>= kk) Q := by
  rw [k0_part18_eq_skeleton]
  unfold k0_part18_skel
  simp only [Prog.lift, Prog.bind_op, Prog.bind_ret, Prog.pure_eq_ret]
  refine s_send (by decide) (by decide) (d1 c) (ta c 14 (by decide) rfl) (tg c 0 (by decide) (k0_off4_eq c)) (q9 0 0 rfl) (q10 0 c (k0_off3_eq c)) (by decide) ?_
  refine s_send (by decide) (by decide) (d2 c) (ta c 15 (by decide) rfl) (tg c 0 (by decide) (k0_off4_eq c)) (q9 1 0 rfl) (q10 0 c (k0_off3_eq c)) (by decide) ?_
  refine s_send (by decide) (by decide) (d3 c) (ta c 16 (by decide) rfl) (tg c 0 (by decide) (k0_off4_eq c)) (q9 2 0 rfl) (q10 0 c (k0_off3_eq c)) (by decide) ?_
  exact h

theorem part19 {v37 v43 v49} {kk : _ → Prog (TpuEff nD τ sig (Elt F) Λ₀ .tc) α}
    (h : St m ρ K c 7 1 2 21 20 7 0 2 1 0 0 ⊢ WPk c (kk ⟨⟩) Q) :
    St m ρ K c 7 1 2 21 17 7 0 2 1 0 0
      ⊢ WPk c (k0_part19 stgA stgAw stgB stgBw outM outMw aM aMw bM bMw powM powMw wireM wireMw agM agMw rsM rsMw gaM gaMw cc0_scratch7 cc0_scratch8 cc0_scratch9 cc0_scratch10 c v37 v43 v49 >>= kk) Q := by
  rw [k0_part19_eq_skeleton]
  unfold k0_part19_skel
  simp only [Prog.lift, Prog.bind_op, Prog.bind_ret, Prog.pure_eq_ret]
  refine s_send (by decide) (by decide) (d4 c) (ta c 17 (by decide) rfl) (tg c 0 (by decide) (k0_off4_eq c)) (q9 3 0 rfl) (q10 0 c (k0_off3_eq c)) (by decide) ?_
  refine s_send (by decide) (by decide) (d5 c) (ta c 18 (by decide) rfl) (tg c 0 (by decide) (k0_off4_eq c)) (q9 4 0 rfl) (q10 0 c (k0_off3_eq c)) (by decide) ?_
  refine s_send (by decide) (by decide) (d6 c) (ta c 19 (by decide) rfl) (tg c 0 (by decide) (k0_off4_eq c)) (q9 5 0 rfl) (q10 0 c (k0_off3_eq c)) (by decide) ?_
  exact h

theorem part20 {v2 v13 v19} {kk : _ → Prog (TpuEff nD τ sig (Elt F) Λ₀ .tc) α}
    (h : St m ρ K c 7 1 2 21 21 9 0 2 1 1 0 ⊢ WPk c (kk ⟨k0_pay30 (RX m ρ c 1 0), k0_pay31 (RX m ρ c 1 1)⟩) Q) :
    St m ρ K c 7 1 2 21 20 7 0 2 1 0 0
      ⊢ WPk c (k0_part20 stgA stgAw stgB stgBw outM outMw aM aMw bM bMw powM powMw wireM wireMw agM agMw rsM rsMw gaM gaMw cc0_scratch7 cc0_scratch8 cc0_scratch9 cc0_scratch10 c v2 v13 v19 (RED m ρ c 0) >>= kk) Q := by
  rw [k0_part20_eq_skeleton]
  unfold k0_part20_skel
  simp only [Prog.lift, Prog.bind_op, Prog.bind_ret, Prog.pure_eq_ret]
  refine s_send (by decide) (by decide) (d7 c) (ta c 20 (by decide) rfl) (tg c 0 (by decide) (k0_off4_eq c)) (q9 6 0 rfl) (q10 0 c (k0_off3_eq c)) (by decide) ?_
  refine s_oDead (by decide) (k0_off14_eq c) fun _ => ?_
  refine s_oStore (by decide) (k0_off14_eq c) rfl ?_
  refine s_recv (by decide) (Or.inr ⟨by decide, by decide⟩) (q8 1 (pr c 0) (f15 c 0)) (by rfl) ?_
  refine s_slotR 1 0 (by decide) (by decide) (by decide) (f17 c 0) ?_
  refine s_recv (by decide) (Or.inr ⟨by decide, by decide⟩) (q8 1 (pr c 1) (f15 c 1)) (by rfl) ?_
  refine s_slotR 1 1 (by decide) (by decide) (by decide) (f17 c 1) ?_
  exact h

theorem part21 {v2 v25 v31} {kk : _ → Prog (TpuEff nD τ sig (Elt F) Λ₀ .tc) α}
    (h : St m ρ K c 7 1 2 21 21 11 0 2 1 1 0 ⊢ WPk c (kk (k0_pay32 (k0_pay30 (RX m ρ c 1 0)) (k0_pay31 (RX m ρ c 1 1)) (RX m ρ c 1 2) (RX m ρ c 1 3))) Q) :
    St m ρ K c 7 1 2 21 21 9 0 2 1 1 0
      ⊢ WPk c (k0_part21 stgA stgAw stgB stgBw outM outMw aM aMw bM bMw powM powMw wireM wireMw agM agMw rsM rsMw gaM gaMw cc0_scratch7 cc0_scratch8 cc0_scratch9 cc0_scratch10 c v2 v25 v31 (k0_pay30 (RX m ρ c 1 0)) (k0_pay31 (RX m ρ c 1 1)) >>= kk) Q := by
  rw [k0_part21_eq_skeleton]
  unfold k0_part21_skel
  simp only [Prog.lift, Prog.bind_op, Prog.bind_ret, Prog.pure_eq_ret]
  refine s_recv (by decide) (Or.inr ⟨by decide, by decide⟩) (q8 1 (pr c 2) (f15 c 2)) (by rfl) ?_
  refine s_slotR 1 2 (by decide) (by decide) (by decide) (f17 c 2) ?_
  refine s_recv (by decide) (Or.inr ⟨by decide, by decide⟩) (q8 1 (pr c 3) (f15 c 3)) (by rfl) ?_
  refine s_slotR 1 3 (by decide) (by decide) (by decide) (f17 c 3) ?_
  exact h

theorem part22 {v2 v37 v43} {kk : _ → Prog (TpuEff nD τ sig (Elt F) Λ₀ .tc) α}
    (h : St m ρ K c 7 1 2 21 21 13 0 2 1 1 0 ⊢ WPk c (kk ⟨SUM6 m ρ c 1, 1#32⟩) Q) :
    St m ρ K c 7 1 2 21 21 11 0 2 1 1 0
      ⊢ WPk c (k0_part22 stgA stgAw stgB stgBw outM outMw aM aMw bM bMw powM powMw wireM wireMw agM agMw rsM rsMw gaM gaMw cc0_scratch7 cc0_scratch8 cc0_scratch9 cc0_scratch10 c v2 v37 v43 (k0_pay32 (k0_pay30 (RX m ρ c 1 0)) (k0_pay31 (RX m ρ c 1 1)) (RX m ρ c 1 2) (RX m ρ c 1 3)) >>= kk) Q := by
  rw [k0_part22_eq_skeleton]
  unfold k0_part22_skel
  simp only [Prog.lift, Prog.bind_op, Prog.bind_ret, Prog.pure_eq_ret]
  refine s_recv (by decide) (Or.inr ⟨by decide, by decide⟩) (q8 1 (pr c 4) (f15 c 4)) (by rfl) ?_
  refine s_slotR 1 4 (by decide) (by decide) (by decide) (f17 c 4) ?_
  refine s_recv (by decide) (Or.inr ⟨by decide, by decide⟩) (q8 1 (pr c 5) (f15 c 5)) (by rfl) ?_
  refine s_slotR 1 5 (by decide) (by decide) (by decide) (f17 c 5) ?_
  exact h

theorem part23 {v2 v13 v49 c1} {kk : _ → Prog (TpuEff nD τ sig (Elt F) Λ₀ .tc) α}
    (h : St m ρ K c 7 1 2 28 21 14 0 2 2 1 0 ⊢ WPk c (kk (RED m ρ c 1)) Q) :
    St m ρ K c 7 1 2 21 21 13 0 2 1 1 0
      ⊢ WPk c (k0_part23 stgA stgAw stgB stgBw outM outMw aM aMw bM bMw powM powMw wireM wireMw agM agMw rsM rsMw gaM gaMw cc0_scratch7 cc0_scratch8 cc0_scratch9 cc0_scratch10 c v2 v13 v49 (SUM6 m ρ c 1) c1 >>= kk) Q := by
  rw [k0_part23_eq_skeleton]
  unfold k0_part23_skel
  simp only [Prog.lift, Prog.bind_op, Prog.bind_ret, Prog.pure_eq_ret]
  refine s_recv (by decide) (Or.inr ⟨by decide, by decide⟩) (q8 1 (pr c 6) (f15 c 6)) (by rfl) ?_
  refine s_slotR 1 6 (by decide) (by decide) (by decide) (f17 c 6) ?_
  refine s_pLoad 1 (by decide) rfl ?_
  refine s_kDead (by decide) rfl fun _ => ?_
  refine s_kStore (by decide) (by rfl) (by decide) (by rfl) (by rfl) ?_
  exact h

theorem part24 {v19 v25 v31} {kk : _ → Prog (TpuEff nD τ sig (Elt F) Λ₀ .tc) α}
    (h : St m ρ K c 7 1 2 28 24 14 0 2 2 1 0 ⊢ WPk c (kk ⟨⟩) Q) :
    St m ρ K c 7 1 2 28 21 14 0 2 2 1 0
      ⊢ WPk c (k0_part24 stgA stgAw stgB stgBw outM outMw aM aMw bM bMw powM powMw wireM wireMw agM agMw rsM rsMw gaM gaMw cc0_scratch7 cc0_scratch8 cc0_scratch9 cc0_scratch10 c v19 v25 v31 >>= kk) Q := by
  rw [k0_part24_eq_skeleton]
  unfold k0_part24_skel
  simp only [Prog.lift, Prog.bind_op, Prog.bind_ret, Prog.pure_eq_ret]
  refine s_send (by decide) (by decide) (d1 c) (ta c 21 (by decide) rfl) (tg c 1 (by decide) (k0_off9_eq c)) (q9 0 1 rfl) (q10 1 c (k0_off8_eq c)) (by decide) ?_
  refine s_send (by decide) (by decide) (d2 c) (ta c 22 (by decide) rfl) (tg c 1 (by decide) (k0_off9_eq c)) (q9 1 1 rfl) (q10 1 c (k0_off8_eq c)) (by decide) ?_
  refine s_send (by decide) (by decide) (d3 c) (ta c 23 (by decide) rfl) (tg c 1 (by decide) (k0_off9_eq c)) (q9 2 1 rfl) (q10 1 c (k0_off8_eq c)) (by decide) ?_
  exact h

theorem part25 {v37 v43 v49} {kk : _ → Prog (TpuEff nD τ sig (Elt F) Λ₀ .tc) α}
    (h : St m ρ K c 7 1 2 28 27 14 0 2 2 1 0 ⊢ WPk c (kk ⟨⟩) Q) :
    St m ρ K c 7 1 2 28 24 14 0 2 2 1 0
      ⊢ WPk c (k0_part25 stgA stgAw stgB stgBw outM outMw aM aMw bM bMw powM powMw wireM wireMw agM agMw rsM rsMw gaM gaMw cc0_scratch7 cc0_scratch8 cc0_scratch9 cc0_scratch10 c v37 v43 v49 >>= kk) Q := by
  rw [k0_part25_eq_skeleton]
  unfold k0_part25_skel
  simp only [Prog.lift, Prog.bind_op, Prog.bind_ret, Prog.pure_eq_ret]
  refine s_send (by decide) (by decide) (d4 c) (ta c 24 (by decide) rfl) (tg c 1 (by decide) (k0_off9_eq c)) (q9 3 1 rfl) (q10 1 c (k0_off8_eq c)) (by decide) ?_
  refine s_send (by decide) (by decide) (d5 c) (ta c 25 (by decide) rfl) (tg c 1 (by decide) (k0_off9_eq c)) (q9 4 1 rfl) (q10 1 c (k0_off8_eq c)) (by decide) ?_
  refine s_send (by decide) (by decide) (d6 c) (ta c 26 (by decide) rfl) (tg c 1 (by decide) (k0_off9_eq c)) (q9 5 1 rfl) (q10 1 c (k0_off8_eq c)) (by decide) ?_
  exact h

theorem part26 {v2 v13} {kk : _ → Prog (TpuEff nD τ sig (Elt F) Λ₀ .tc) α}
    (h : St m ρ K c 7 1 2 28 28 15 0 2 2 2 1 ⊢ WPk c (kk ⟨⟩) Q) :
    St m ρ K c 7 1 2 28 27 14 0 2 2 1 0
      ⊢ WPk c (k0_part26 stgA stgAw stgB stgBw outM outMw aM aMw bM bMw powM powMw wireM wireMw agM agMw rsM rsMw gaM gaMw cc0_scratch7 cc0_scratch8 cc0_scratch9 cc0_scratch10 c v2 v13 (RED m ρ c 1) >>= kk) Q := by
  rw [k0_part26_eq_skeleton]
  unfold k0_part26_skel
  simp only [Prog.lift, Prog.bind_op, Prog.bind_ret, Prog.pure_eq_ret]
  refine s_send (by decide) (by decide) (d7 c) (ta c 27 (by decide) rfl) (tg c 1 (by decide) (k0_off9_eq c)) (q9 6 1 rfl) (q10 1 c (k0_off8_eq c)) (by decide) ?_
  refine s_oDead (by decide) (k0_off18_eq c) fun _ => ?_
  refine s_oStore (by decide) (k0_off18_eq c) rfl ?_
  refine s_recv (by decide) (Or.inl rfl) (q10 0 (pr c 0) (f11 c 0)) (by rfl) ?_
  refine s_slotG 0 0 (by decide) (by decide) (by decide) (f13 c 0) ?_
  refine s_vDead (by decide) (f2 c 0) fun _ => ?_
  refine s_vStore (by decide) (f2 c 0) rfl ?_
  exact h

end Cert.Ring

end
-- ==== Proof.PartsD.lean ====
/-
The body, part by part: the peers' sums, and the waits for what was sent.
-/
module

public import proofs.«01_k».proof.Proof.PartsC

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {m : (ℓ : Loc nD τ sig) → Buf (Elt F) ℓ} {ρ : Dev nD → PrngReg}
variable {K : Dev nD × Fin 61 → ℕ} {c : Dev nD}
variable {α : Type} {Q : α → sProp (MT nD τ sig Unit (Elt F) ℕ UU ℕ)}

theorem part27 {v2 v19 v25} {kk : _ → Prog (TpuEff nD τ sig (Elt F) Λ₀ .tc) α}
    (h : St m ρ K c 7 1 2 28 28 17 0 2 2 2 3 ⊢ WPk c (kk ⟨⟩) Q) :
    St m ρ K c 7 1 2 28 28 15 0 2 2 2 1
      ⊢ WPk c (k0_part27 stgA stgAw stgB stgBw outM outMw aM aMw bM bMw powM powMw wireM wireMw agM agMw rsM rsMw gaM gaMw cc0_scratch7 cc0_scratch8 cc0_scratch9 cc0_scratch10 c v2 v19 v25 >>= kk) Q := by
  rw [k0_part27_eq_skeleton]
  unfold k0_part27_skel
  simp only [Prog.lift, Prog.bind_op, Prog.bind_ret, Prog.pure_eq_ret]
  refine s_recv (by decide) (Or.inl rfl) (q10 0 (pr c 1) (f11 c 1)) (by rfl) ?_
  refine s_slotG 0 1 (by decide) (by decide) (by decide) (f13 c 1) ?_
  refine s_vDead (by decide) (f2 c 1) fun _ => ?_
  refine s_vStore (by decide) (f2 c 1) rfl ?_
  refine s_recv (by decide) (Or.inl rfl) (q10 0 (pr c 2) (f11 c 2)) (by rfl) ?_
  refine s_slotG 0 2 (by decide) (by decide) (by decide) (f13 c 2) ?_
  refine s_vDead (by decide) (f2 c 2) fun _ => ?_
  refine s_vStore (by decide) (f2 c 2) rfl ?_
  exact h

theorem part28 {v2 v31 v37} {kk : _ → Prog (TpuEff nD τ sig (Elt F) Λ₀ .tc) α}
    (h : St m ρ K c 7 1 2 28 28 19 0 2 2 2 4 ⊢ WPk c (kk (k0_pay40 (lift4 (AG m ρ (pr c 4) 0)))) Q) :
    St m ρ K c 7 1 2 28 28 17 0 2 2 2 3
      ⊢ WPk c (k0_part28 stgA stgAw stgB stgBw outM outMw aM aMw bM bMw powM powMw wireM wireMw agM agMw rsM rsMw gaM gaMw cc0_scratch7 cc0_scratch8 cc0_scratch9 cc0_scratch10 c v2 v31 v37 >>= kk) Q := by
  rw [k0_part28_eq_skeleton]
  unfold k0_part28_skel
  simp only [Prog.lift, Prog.bind_op, Prog.bind_ret, Prog.pure_eq_ret]
  refine s_recv (by decide) (Or.inl rfl) (q10 0 (pr c 3) (f11 c 3)) (by rfl) ?_
  refine s_slotG 0 3 (by decide) (by decide) (by decide) (f13 c 3) ?_
  refine s_vDead (by decide) (f2 c 3) fun _ => ?_
  refine s_vStore (by decide) (f2 c 3) rfl ?_
  refine s_recv (by decide) (Or.inl rfl) (q10 0 (pr c 4) (f11 c 4)) (by rfl) ?_
  refine s_slotG 0 4 (by decide) (by decide) (by decide) (f13 c 4) ?_
  exact h

theorem part29 {v2 v37 v43} {kk : _ → Prog (TpuEff nD τ sig (Elt F) Λ₀ .tc) α}
    (h : St m ρ K c 7 1 2 28 28 20 0 2 2 2 6 ⊢ WPk c (kk ⟨⟩) Q) :
    St m ρ K c 7 1 2 28 28 19 0 2 2 2 4
      ⊢ WPk c (k0_part29 stgA stgAw stgB stgBw outM outMw aM aMw bM bMw powM powMw wireM wireMw agM agMw rsM rsMw gaM gaMw cc0_scratch7 cc0_scratch8 cc0_scratch9 cc0_scratch10 c v2 v37 v43 (k0_pay40 (lift4 (AG m ρ (pr c 4) 0))) >>= kk) Q := by
  rw [k0_part29_eq_skeleton]
  unfold k0_part29_skel
  simp only [Prog.lift, Prog.bind_op, Prog.bind_ret, Prog.pure_eq_ret]
  refine s_vDead (by decide) (f2 c 4) fun _ => ?_
  refine s_vStore (by decide) (f2 c 4) rfl ?_
  refine s_recv (by decide) (Or.inl rfl) (q10 0 (pr c 5) (f11 c 5)) (by rfl) ?_
  refine s_slotG 0 5 (by decide) (by decide) (by decide) (f13 c 5) ?_
  refine s_vDead (by decide) (f2 c 5) fun _ => ?_
  refine s_vStore (by decide) (f2 c 5) rfl ?_
  exact h

theorem part30 {v2 v13 v49} {kk : _ → Prog (TpuEff nD τ sig (Elt F) Λ₀ .tc) α}
    (h : St m ρ K c 7 1 2 28 28 22 0 2 2 2 8 ⊢ WPk c (kk ⟨⟩) Q) :
    St m ρ K c 7 1 2 28 28 20 0 2 2 2 6
      ⊢ WPk c (k0_part30 stgA stgAw stgB stgBw outM outMw aM aMw bM bMw powM powMw wireM wireMw agM agMw rsM rsMw gaM gaMw cc0_scratch7 cc0_scratch8 cc0_scratch9 cc0_scratch10 c v2 v13 v49 >>= kk) Q := by
  rw [k0_part30_eq_skeleton]
  unfold k0_part30_skel
  simp only [Prog.lift, Prog.bind_op, Prog.bind_ret, Prog.pure_eq_ret]
  refine s_recv (by decide) (Or.inl rfl) (q10 0 (pr c 6) (f11 c 6)) (by rfl) ?_
  refine s_slotG 0 6 (by decide) (by decide) (by decide) (f13 c 6) ?_
  refine s_vDead (by decide) (f2 c 6) fun _ => ?_
  refine s_vStore (by decide) (f2 c 6) rfl ?_
  refine s_recv (by decide) (Or.inl rfl) (q10 1 (pr c 0) (f15 c 0)) (by rfl) ?_
  refine s_slotG 1 0 (by decide) (by decide) (by decide) (f17 c 0) ?_
  refine s_vDead (by decide) (f7 c 0) fun _ => ?_
  refine s_vStore (by decide) (f7 c 0) rfl ?_
  exact h

theorem part31 {v2 v19 v25} {kk : _ → Prog (TpuEff nD τ sig (Elt F) Λ₀ .tc) α}
    (h : St m ρ K c 7 1 2 28 28 24 0 2 2 2 9 ⊢ WPk c (kk (k0_pay46 (lift4 (AG m ρ (pr c 2) 1)))) Q) :
    St m ρ K c 7 1 2 28 28 22 0 2 2 2 8
      ⊢ WPk c (k0_part31 stgA stgAw stgB stgBw outM outMw aM aMw bM bMw powM powMw wireM wireMw agM agMw rsM rsMw gaM gaMw cc0_scratch7 cc0_scratch8 cc0_scratch9 cc0_scratch10 c v2 v19 v25 >>= kk) Q := by
  rw [k0_part31_eq_skeleton]
  unfold k0_part31_skel
  simp only [Prog.lift, Prog.bind_op, Prog.bind_ret, Prog.pure_eq_ret]
  refine s_recv (by decide) (Or.inl rfl) (q10 1 (pr c 1) (f15 c 1)) (by rfl) ?_
  refine s_slotG 1 1 (by decide) (by decide) (by decide) (f17 c 1) ?_
  refine s_vDead (by decide) (f7 c 1) fun _ => ?_
  refine s_vStore (by decide) (f7 c 1) rfl ?_
  refine s_recv (by decide) (Or.inl rfl) (q10 1 (pr c 2) (f15 c 2)) (by rfl) ?_
  refine s_slotG 1 2 (by decide) (by decide) (by decide) (f17 c 2) ?_
  exact h

theorem part32 {v2 v25 v31} {kk : _ → Prog (TpuEff nD τ sig (Elt F) Λ₀ .tc) α}
    (h : St m ρ K c 7 1 2 28 28 25 0 2 2 2 11 ⊢ WPk c (kk ⟨⟩) Q) :
    St m ρ K c 7 1 2 28 28 24 0 2 2 2 9
      ⊢ WPk c (k0_part32 stgA stgAw stgB stgBw outM outMw aM aMw bM bMw powM powMw wireM wireMw agM agMw rsM rsMw gaM gaMw cc0_scratch7 cc0_scratch8 cc0_scratch9 cc0_scratch10 c v2 v25 v31 (k0_pay46 (lift4 (AG m ρ (pr c 2) 1))) >>= kk) Q := by
  rw [k0_part32_eq_skeleton]
  unfold k0_part32_skel
  simp only [Prog.lift, Prog.bind_op, Prog.bind_ret, Prog.pure_eq_ret]
  refine s_vDead (by decide) (f7 c 2) fun _ => ?_
  refine s_vStore (by decide) (f7 c 2) rfl ?_
  refine s_recv (by decide) (Or.inl rfl) (q10 1 (pr c 3) (f15 c 3)) (by rfl) ?_
  refine s_slotG 1 3 (by decide) (by decide) (by decide) (f17 c 3) ?_
  refine s_vDead (by decide) (f7 c 3) fun _ => ?_
  refine s_vStore (by decide) (f7 c 3) rfl ?_
  exact h

theorem part33 {v2 v37 v43} {kk : _ → Prog (TpuEff nD τ sig (Elt F) Λ₀ .tc) α}
    (h : St m ρ K c 7 1 2 28 28 27 0 2 2 2 13 ⊢ WPk c (kk ⟨⟩) Q) :
    St m ρ K c 7 1 2 28 28 25 0 2 2 2 11
      ⊢ WPk c (k0_part33 stgA stgAw stgB stgBw outM outMw aM aMw bM bMw powM powMw wireM wireMw agM agMw rsM rsMw gaM gaMw cc0_scratch7 cc0_scratch8 cc0_scratch9 cc0_scratch10 c v2 v37 v43 >>= kk) Q := by
  rw [k0_part33_eq_skeleton]
  unfold k0_part33_skel
  simp only [Prog.lift, Prog.bind_op, Prog.bind_ret, Prog.pure_eq_ret]
  refine s_recv (by decide) (Or.inl rfl) (q10 1 (pr c 4) (f15 c 4)) (by rfl) ?_
  refine s_slotG 1 4 (by decide) (by decide) (by decide) (f17 c 4) ?_
  refine s_vDead (by decide) (f7 c 4) fun _ => ?_
  refine s_vStore (by decide) (f7 c 4) rfl ?_
  refine s_recv (by decide) (Or.inl rfl) (q10 1 (pr c 5) (f15 c 5)) (by rfl) ?_
  refine s_slotG 1 5 (by decide) (by decide) (by decide) (f17 c 5) ?_
  refine s_vDead (by decide) (f7 c 5) fun _ => ?_
  refine s_vStore (by decide) (f7 c 5) rfl ?_
  exact h

theorem part34 {v2 v49} {kk : _ → Prog (TpuEff nD τ sig (Elt F) Λ₀ .tc) α}
    (h : St m ρ K c 7 1 2 28 28 28 1 2 2 2 14 ⊢ WPk c (kk ⟨⟩) Q) :
    St m ρ K c 7 1 2 28 28 27 0 2 2 2 13
      ⊢ WPk c (k0_part34 stgA stgAw stgB stgBw outM outMw aM aMw bM bMw powM powMw wireM wireMw agM agMw rsM rsMw gaM gaMw cc0_scratch7 cc0_scratch8 cc0_scratch9 cc0_scratch10 c v2 v49 >>= kk) Q := by
  rw [k0_part34_eq_skeleton]
  unfold k0_part34_skel
  simp only [Prog.lift, Prog.bind_op, Prog.bind_ret, Prog.pure_eq_ret]
  refine s_recv (by decide) (Or.inl rfl) (q10 1 (pr c 6) (f15 c 6)) (by rfl) ?_
  refine s_slotG 1 6 (by decide) (by decide) (by decide) (f17 c 6) ?_
  refine s_vDead (by decide) (f7 c 6) fun _ => ?_
  refine s_vStore (by decide) (f7 c 6) rfl ?_
  refine s_sent (by decide) (q7 0 0 rfl) (by rfl) ?_
  exact h

theorem part35 {kk : _ → Prog (TpuEff nD τ sig (Elt F) Λ₀ .tc) α}
    (h : St m ρ K c 7 1 2 28 28 28 6 2 2 2 14 ⊢ WPk c (kk ⟨⟩) Q) :
    St m ρ K c 7 1 2 28 28 28 1 2 2 2 14
      ⊢ WPk c (k0_part35 stgA stgAw stgB stgBw outM outMw aM aMw bM bMw powM powMw wireM wireMw agM agMw rsM rsMw gaM gaMw cc0_scratch7 cc0_scratch8 cc0_scratch9 cc0_scratch10 c >>= kk) Q := by
  rw [k0_part35_eq_skeleton]
  unfold k0_part35_skel
  simp only [Prog.lift, Prog.bind_op, Prog.bind_ret, Prog.pure_eq_ret]
  refine s_sent (by decide) (q7 1 0 rfl) (by rfl) ?_
  refine s_sent (by decide) (q7 2 0 rfl) (by rfl) ?_
  refine s_sent (by decide) (q7 3 0 rfl) (by rfl) ?_
  refine s_sent (by decide) (q7 4 0 rfl) (by rfl) ?_
  refine s_sent (by decide) (q7 5 0 rfl) (by rfl) ?_
  exact h

theorem part36 {kk : _ → Prog (TpuEff nD τ sig (Elt F) Λ₀ .tc) α}
    (h : St m ρ K c 7 1 2 28 28 28 10 2 2 2 14 ⊢ WPk c (kk ⟨⟩) Q) :
    St m ρ K c 7 1 2 28 28 28 6 2 2 2 14
      ⊢ WPk c (k0_part36 stgA stgAw stgB stgBw outM outMw aM aMw bM bMw powM powMw wireM wireMw agM agMw rsM rsMw gaM gaMw cc0_scratch7 cc0_scratch8 cc0_scratch9 cc0_scratch10 c >>= kk) Q := by
  rw [k0_part36_eq_skeleton]
  unfold k0_part36_skel
  simp only [Prog.lift, Prog.bind_op, Prog.bind_ret, Prog.pure_eq_ret]
  refine s_sent (by decide) (q7 6 0 rfl) (by rfl) ?_
  refine s_sent (by decide) (q7 0 1 rfl) (by rfl) ?_
  refine s_sent (by decide) (q7 1 1 rfl) (by rfl) ?_
  refine s_sent (by decide) (q7 2 1 rfl) (by rfl) ?_
  exact h

theorem part37 {kk : _ → Prog (TpuEff nD τ sig (Elt F) Λ₀ .tc) α}
    (h : St m ρ K c 7 1 2 28 28 28 14 2 2 2 14 ⊢ WPk c (kk ⟨⟩) Q) :
    St m ρ K c 7 1 2 28 28 28 10 2 2 2 14
      ⊢ WPk c (k0_part37 stgA stgAw stgB stgBw outM outMw aM aMw bM bMw powM powMw wireM wireMw agM agMw rsM rsMw gaM gaMw cc0_scratch7 cc0_scratch8 cc0_scratch9 cc0_scratch10 c >>= kk) Q := by
  rw [k0_part37_eq_skeleton]
  unfold k0_part37_skel
  simp only [Prog.lift, Prog.bind_op, Prog.bind_ret, Prog.pure_eq_ret]
  refine s_sent (by decide) (q7 3 1 rfl) (by rfl) ?_
  refine s_sent (by decide) (q7 4 1 rfl) (by rfl) ?_
  refine s_sent (by decide) (q7 5 1 rfl) (by rfl) ?_
  refine s_sent (by decide) (q7 6 1 rfl) (by rfl) ?_
  exact h

theorem part38 {kk : _ → Prog (TpuEff nD τ sig (Elt F) Λ₀ .tc) α}
    (h : St m ρ K c 7 1 2 28 28 28 18 2 2 2 14 ⊢ WPk c (kk ⟨⟩) Q) :
    St m ρ K c 7 1 2 28 28 28 14 2 2 2 14
      ⊢ WPk c (k0_part38 stgA stgAw stgB stgBw outM outMw aM aMw bM bMw powM powMw wireM wireMw agM agMw rsM rsMw gaM gaMw cc0_scratch7 cc0_scratch8 cc0_scratch9 cc0_scratch10 c >>= kk) Q := by
  rw [k0_part38_eq_skeleton]
  unfold k0_part38_skel
  simp only [Prog.lift, Prog.bind_op, Prog.bind_ret, Prog.pure_eq_ret]
  refine s_sent (by decide) (q9 0 0 rfl) (by rfl) ?_
  refine s_sent (by decide) (q9 1 0 rfl) (by rfl) ?_
  refine s_sent (by decide) (q9 2 0 rfl) (by rfl) ?_
  refine s_sent (by decide) (q9 3 0 rfl) (by rfl) ?_
  exact h

theorem part39 {kk : _ → Prog (TpuEff nD τ sig (Elt F) Λ₀ .tc) α}
    (h : St m ρ K c 7 1 2 28 28 28 22 2 2 2 14 ⊢ WPk c (kk ⟨⟩) Q) :
    St m ρ K c 7 1 2 28 28 28 18 2 2 2 14
      ⊢ WPk c (k0_part39 stgA stgAw stgB stgBw outM outMw aM aMw bM bMw powM powMw wireM wireMw agM agMw rsM rsMw gaM gaMw cc0_scratch7 cc0_scratch8 cc0_scratch9 cc0_scratch10 c >>= kk) Q := by
  rw [k0_part39_eq_skeleton]
  unfold k0_part39_skel
  simp only [Prog.lift, Prog.bind_op, Prog.bind_ret, Prog.pure_eq_ret]
  refine s_sent (by decide) (q9 4 0 rfl) (by rfl) ?_
  refine s_sent (by decide) (q9 5 0 rfl) (by rfl) ?_
  refine s_sent (by decide) (q9 6 0 rfl) (by rfl) ?_
  refine s_sent (by decide) (q9 0 1 rfl) (by rfl) ?_
  exact h

theorem part40 {kk : _ → Prog (TpuEff nD τ sig (Elt F) Λ₀ .tc) α}
    (h : St m ρ K c 7 1 2 28 28 28 26 2 2 2 14 ⊢ WPk c (kk ⟨⟩) Q) :
    St m ρ K c 7 1 2 28 28 28 22 2 2 2 14
      ⊢ WPk c (k0_part40 stgA stgAw stgB stgBw outM outMw aM aMw bM bMw powM powMw wireM wireMw agM agMw rsM rsMw gaM gaMw cc0_scratch7 cc0_scratch8 cc0_scratch9 cc0_scratch10 c >>= kk) Q := by
  rw [k0_part40_eq_skeleton]
  unfold k0_part40_skel
  simp only [Prog.lift, Prog.bind_op, Prog.bind_ret, Prog.pure_eq_ret]
  refine s_sent (by decide) (q9 1 1 rfl) (by rfl) ?_
  refine s_sent (by decide) (q9 2 1 rfl) (by rfl) ?_
  refine s_sent (by decide) (q9 3 1 rfl) (by rfl) ?_
  refine s_sent (by decide) (q9 4 1 rfl) (by rfl) ?_
  exact h

end Cert.Ring

end
-- ==== Proof.Body.lean ====
/-
The body, from the state it is launched in to the one it leaves.
-/
module

public import proofs.«01_k».proof.Proof.PartsD

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {m : (ℓ : Loc nD τ sig) → Buf (Elt F) ℓ} {ρ : Dev nD → PrngReg}
variable {K : Dev nD × Fin 61 → ℕ} {c : Dev nD}
variable {α : Type} {Q : α → sProp (MT nD τ sig Unit (Elt F) ℕ UU ℕ)}

theorem part41 {Q : PUnit → sProp (MT nD τ sig Unit (Elt F) ℕ UU ℕ)} (h : St m ρ K c 7 1 2 28 28 28 28 2 2 2 14 ⊢ Q ⟨⟩) :
    St m ρ K c 0 0 0 0 0 0 0 0 0 0 0
      ⊢ WPk c (k0_part41 stgA stgAw stgB stgBw outM outMw aM aMw bM bMw powM powMw wireM wireMw agM agMw rsM rsMw gaM gaMw cc0_scratch7 cc0_scratch8 cc0_scratch9 cc0_scratch10) Q := by
  rw [k0_part41_eq_skeleton]
  unfold k0_part41_skel
  refine part1 fun v2 v7 v13 v19 v25 v31 v32 v33 v34 => ?_
  refine part2 fun v37 v43 v49 => ?_
  refine part3 fun v90 => ?_
  refine part4 fun v123 => ?_
  refine part5 fun X => ?_
  refine part6 ?_
  refine part7 fun v219 => ?_
  refine part8 fun v251 => ?_
  refine part9 fun v290 => ?_
  refine part10 fun v323 => ?_
  refine part11 fun X => ?_
  refine part12 ?_
  refine part13 ?_
  refine part14 ?_
  refine part15 ?_
  refine part16 ?_
  refine part17 ?_
  refine part18 ?_
  refine part19 ?_
  refine part20 ?_
  refine part21 ?_
  refine part22 ?_
  refine part23 ?_
  refine part24 ?_
  refine part25 ?_
  refine part26 ?_
  refine part27 ?_
  refine part28 ?_
  refine part29 ?_
  refine part30 ?_
  refine part31 ?_
  refine part32 ?_
  refine part33 ?_
  refine part34 ?_
  refine part35 ?_
  refine part36 ?_
  refine part37 ?_
  refine part38 ?_
  refine part39 ?_
  refine part40 ?_
  simp only [Prog.lift, Prog.bind_op, Prog.bind_ret, Prog.pure_eq_ret]
  refine s_sent (by decide) (q9 5 1 rfl) (by rfl) ?_
  refine s_sent (by decide) (q9 6 1 rfl) (by rfl) ?_
  exact h.trans fupd_intro

/-- The whole body. -/
theorem body_run {Q : PUnit → sProp (MT nD τ sig Unit (Elt F) ℕ UU ℕ)} (h : St m ρ K c 7 1 2 28 28 28 28 2 2 2 14 ⊢ Q ⟨⟩) :
    St m ρ K c 0 0 0 0 0 0 0 0 0 0 0
      ⊢ WPk c (cc0_body stgA stgAw stgB stgBw outM outMw aM aMw bM bMw powM powMw wireM wireMw agM agMw rsM rsMw gaM gaMw cc0_scratch7 cc0_scratch8 cc0_scratch9 cc0_scratch10) Q := by
  rw [cc0_body_eq_skeleton]
  unfold cc0_body_skel
  exact (part41 h).trans (Entails.of_eq (congrArg (WPk c · Q) (Prog.bind_pure _).symm))

end Cert.Ring

end
-- ==== Proof.Launch.lean ====
/-
The launch: what every device is dealt, the body's obligation, and the run of the whole program.
-/
module

public import proofs.«01_k».proof.Proof.Leave
public import proofs.«01_k».proof.Proof.Body
public import proofs.«01_k».proof.Proof.Gen.KernelIdeal.Points
public import Idealize.ShloMosaic.Lib.Pipeline.CollectiveSegs

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

variable (m : (ℓ : Loc nD τ sig) → Buf (Elt F) ℓ) (ρ : Dev nD → PrngReg)

local notation "𝕄" => MT nD τ sig Unit (Elt F) ℕ UU ℕ

/-! ## The data of the one launch -/

def Φ₀ (c : Dev nD) : sProp 𝕄 := iprop(start m ρ c ∗ scr c)
def Φ₁ (c : Dev nD) : sProp 𝕄 := iprop((bigSep Finset.univ fun k : Fin 61 => semVal (kcell (c, k)) 0) ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => astg m ρ c
    | ⟨1, _⟩ => bstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A staging buffer at its contents. -/
def stg (c : Dev nD) (b : Ref sig .tc) (X : b.ty.Contents (Elt F)) : sProp 𝕄 :=
  iprop(∃ f, ⌜f = X⌝ ∗ (((c : Thread nD τ).loc b) ↦{fullShare} f))

theorem before_a (c : Dev nD) (d) : (dats m ρ 0 c).before (0 : Fin 3) t0_0 d = astg m ρ c := by
  unfold Dat.before; rw [if_pos (fetch0_0 _)]; rfl
theorem before_b (c : Dev nD) (d) : (dats m ρ 0 c).before (1 : Fin 3) t0_0 d = bstg m ρ c := by
  unfold Dat.before; rw [if_pos (fetch0_1 _)]; rfl

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
set_option maxRecDepth 4000 in
def bodyPost (c : Dev nD) : sProp 𝕄 :=
  iprop(Φ₁ c ∗ (dats m ρ 0 c).owesAt () t0_0.succ
    ∗ stg c cc0_stg0_0 (astg m ρ c) ∗ stg c cc0_stg1_0 (bstg m ρ c) ∗ stg c cc0_stg2_0 (outAt m ρ c))

theorem pre_open (c : Dev nD) : bodyPre m ρ c ⊢ iprop(∃ K, St m ρ K c 0 0 0 0 0 0 0 0 0 0 0 ∗ idle c) := by
  unfold bodyPre Φ₀ Dat.owesAt Pipeline.owesWithin stg
  rw [show (dats m ρ 0 c).owed t0_0.castSucc = O₀ c from rfl]
  simp only [before_a, before_b]
  iintro ⟨⟨Hs, Hscr⟩, ⟨%W, -, HO⟩, ⟨%d0, %f0, %h0, HA⟩, ⟨%d1, %f1, %h1, HB⟩, ⟨%d2, %f2, -, HC⟩⟩
  subst h0 h1
  iapply (enter m ρ c W)
  isplitl [Hs]; · iexact Hs
  isplitl [Hscr]; · iexact Hscr
  isplitl [HO]; · iexact HO
  isplitl [HA]; · iexact HA
  isplitl [HB]; · iexact HB
  unfold any; iexists f2; iexact HC

theorem post_close (K : Dev nD × Fin 61 → ℕ) (c : Dev nD) :
    iprop(St m ρ K c 7 1 2 28 28 28 28 2 2 2 14 ∗ idle c) ⊢ (|={Set.univ}=> bodyPost m ρ c : sProp 𝕄) := by
  have h : iprop((∃ W, owes (c : Thread nD τ) 0 W) ∗ (bigSep Finset.univ fun k : Fin 61 => semVal (kcell (c, k)) 0) ∗ scr c
        ∗ (((c : Thread nD τ).loc cc0_stg0_0) ↦{fullShare} astg m ρ c) ∗ (((c : Thread nD τ).loc cc0_stg1_0) ↦{fullShare} bstg m ρ c)
        ∗ (((c : Thread nD τ).loc cc0_stg2_0) ↦{fullShare} outAt m ρ c)) ⊢ bodyPost m ρ c := by
    unfold bodyPost Φ₁ Dat.owesAt Pipeline.owesWithin stg
    rw [show (dats m ρ 0 c).owed t0_0.succ = 0 from rfl]
    iintro ⟨⟨%W, HO⟩, Hz, Hs, HA, HB, HC⟩
    isplitl [Hz Hs]
    · isplitl [Hz] <;> iassumption
    isplitl [HO]
    · iexists W
      isplitr; · ipureintro; exact fun _ _ => Or.inl trivial
      iexact HO
    isplitl [HA]
    · iexists _; isplitr; · (ipureintro; rfl)
      iexact HA
    isplitl [HB]
    · iexists _; isplitr; · (ipureintro; rfl)
      iexact HB
    iexists _; isplitr; · (ipureintro; rfl)
    iexact HC
  exact (leave m ρ K c).trans (BI.fupd_mono h)

theorem wrap (K : Dev nD × Fin 61 → ℕ) (c : Dev nD) (p : Prog (TpuEff nD τ sig (Elt F) Λ₀ .tc) PUnit) {P : sProp 𝕄}
    (h : P ⊢ WPk c p (fun _ => St m ρ K c 7 1 2 28 28 28 28 2 2 2 14)) :
    iprop(P ∗ idle c) ⊢ WPk c p (fun _ => bodyPost m ρ c) :=
  (sep_mono_left h).trans ((wp_frame_r frame (wpE (defs₀ (F := F)) 𝒱₀ (c : Thread nD τ) none) Set.univ).trans
    ((wp_mono frame (wpE (defs₀ (F := F)) 𝒱₀ (c : Thread nD τ) none) Set.univ (fun _ => post_close m ρ K c)).trans
      (wp_fupd frame (wpE (defs₀ (F := F)) 𝒱₀ (c : Thread nD τ) none) Set.univ p (fun _ => bodyPost m ρ c))))

theorem body_from (K : Dev nD × Fin 61 → ℕ) (c : Dev nD) :
    iprop(St m ρ K c 0 0 0 0 0 0 0 0 0 0 0 ∗ idle c)
      ⊢ WPk c (cc0_body stgA stgAw stgB stgBw outM outMw aM aMw bM bMw powM powMw wireM wireMw agM agMw rsM rsMw gaM gaMw cc0_scratch7 cc0_scratch8 cc0_scratch9 cc0_scratch10) (fun _ => bodyPost m ρ c) :=
  wrap m ρ K c _ (body_run (Entails.of_eq rfl))

theorem body_all (c : Dev nD) :
    bodyPre m ρ c ⊢ WPk c (cc0_body stgA stgAw stgB stgBw outM outMw aM aMw bM bMw powM powMw wireM wireMw agM agMw rsM rsMw gaM gaMw cc0_scratch7 cc0_scratch8 cc0_scratch9 cc0_scratch10) (fun _ => bodyPost m ρ c) := by
  refine (pre_open m ρ c).trans ?_
  iintro ⟨%K, H⟩
  iapply (body_from m ρ K c)
  iexact H

set_option maxRecDepth 40000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WPk c (cc0_body stgA stgAw stgB stgBw outM outMw aM aMw bM bMw powM powMw wireM wireMw agM agMw rsM rsMw gaM gaMw cc0_scratch7 cc0_scratch8 cc0_scratch9 cc0_scratch10) (fun _ => bodyPost m ρ c)
  exact body_all m ρ c

theorem share_eq (c : Dev nD) (w : Fin cfg0.W) : (dats m ρ 0 c).share w = fullShare := by unfold Dat.share; split <;> rfl

/-! ## Dealing the cells -/

/-- What the first state of the cells deals device `c`. -/
def G (c : Dev nD) : sProp 𝕄 :=
  iprop((bigSep Finset.univ fun k : Fin 61 => roundState ER (sched m ρ) (kcell (c, k)) 0)
    ∗ (bigSep Finset.univ fun k : Fin 61 => iprop(atPos ER (kcell (c, k)) 0 ∅ 0 ∗ reached ER (kcell (c, k)) 0)) ∗ toks c)
/-- And what becomes of it once the cells are shared. -/
def G' (c : Dev nD) : sProp 𝕄 := iprop(∃ K, records m ρ K ∗ linear c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 61 => Φ (kcell (c, k)) := by
    unfold ringCells; rw [BI.bigSep_map, BI.bigSep_univ_prod]; rfl
  have hT : bigSep ringToks (fun x => (dutyTok ER x.1 x.2.1 x.2.2 : sProp 𝕄)) ⊢ bigSep Finset.univ fun c : Dev nD => toks c := by
    unfold ringToks
    rw [BI.bigSep_map, BI.bigSep_univ_prod, BI.bigSep_univ_prod]
    exact bigSep_mono fun c _ => toks_of c
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  have halloc : iprop((bigSep Finset.univ fun k : Fin 61 => semVal (kcell (c, k)) 0) ∗ bigSep Finset.univ fun k : Fin 61 => roundState ER (sched m ρ) (kcell (c, k)) 0)
      ⊢ (|={Set.univ}=> bigSep Finset.univ fun k => iprop(∃ κ : ℕ, cellInv ER (sched m ρ) κ (kcell (c, k))) : sProp 𝕄) := by
    rw [← bigSep_sep']
    exact (bigSep_mono fun k _ => (Rounds.body_intro ER (sched m ρ) (kcell (c, k))).trans inv_alloc).trans (bigSep_fupd _ _)
  unfold G
  iintro ⟨Hos, Hus, Hst, Hat, Htok⟩
  ihave Hv := (Entails.of_eq (sems_eq (F := F) c).symm) $$ [Hos Hus]
  · isplitl [Hus] <;> iassumption
  imod halloc $$ [Hv Hst] with Hinv
  · isplitl [Hv] <;> iassumption
  imodintro
  isplitl [Hinv]; · iexact Hinv
  isplitl [Hat]; · iexact Hat
  iexact Htok

theorem deal_one (K : Dev nD × Fin 61 → ℕ) (c : Dev nD) : iprop(records m ρ K ∗ linear c) ⊢ G' m ρ c := by
  unfold G'
  iintro H
  iexists K
  iexact H

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  have hlin : iprop((bigSep Finset.univ fun c : Dev nD => bigSep Finset.univ fun k : Fin 61 => (atPos ER (kcell (c, k)) 0 ∅ 0 : sProp 𝕄)) ∗ bigSep Finset.univ fun c : Dev nD => payToks c)
      ⊢ bigSep Finset.univ fun c : Dev nD => linear c := by
    rw [← bigSep_sep']
    exact bigSep_mono fun c _ => show _ ⊢ linear c from Entails.of_eq (by unfold linear; rfl)
  rw [bigSep_sep', bigSep_sep', ← BI.bigSep_univ_prod (fun ck : Dev nD × Fin 61 => iprop(∃ κ : ℕ, cellInv ER (sched m ρ) κ (kcell ck))),
    bigSep_congr (s := Finset.univ) (fun (c : Dev nD) _ => bigSep_sep' Finset.univ (fun k : Fin 61 => (atPos ER (kcell (c, k)) 0 ∅ 0 : sProp 𝕄)) (fun k => reached ER (kcell (c, k)) 0)),
    bigSep_sep', ← BI.bigSep_univ_prod (fun ck : Dev nD × Fin 61 => (reached ER (kcell ck) 0 : sProp 𝕄))]
  iintro ⟨HI, ⟨Hat, #HR⟩, Htok⟩
  ihave HK := (BI.bigSep_exists_pi Finset.univ (fun (ck : Dev nD × Fin 61) (κ : ℕ) => (cellInv ER (sched m ρ) κ (kcell ck) : sProp 𝕄))) $$ HI
  icases HK with ⟨%K, #HI⟩
  ihave Htk := (toks_around (F := F)) $$ Htok
  iapply (with_known (R := records m ρ K) fun c _ => deal_one m ρ K c)
  isplitr
  · unfold records; isplitl; · iexact HI
    iexact HR
  iapply hlin
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scr_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq]
  unfold Φ₁
  rw [sems_eq]
  iintro ⟨⟨H0, H1⟩, H2⟩
  isplitl [H0]; · iexact H0
  isplitl [H1] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

/-- What a window's array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- From any memory with zero counters, at any float values, every fair execution ends, with every window's array as
    computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_a (c : Dev nD) : finalA m ρ c (0 : Fin 3) = (s₀ m ρ).mem (win0_0.arr.view.loc (c : Thread nD τ)) := (dats (F := F) m ρ 0 c).arrAt_in (0 : Fin 3) rfl _
theorem finalA_b (c : Dev nD) : finalA m ρ c (1 : Fin 3) = (s₀ m ρ).mem (win0_1.arr.view.loc (c : Thread nD τ)) := (dats (F := F) m ρ 0 c).arrAt_in (1 : Fin 3) rfl _

end Cert.Ring

end
-- ==== Proof.Same.lean ====
/-
The kernel as printed and the kernel read in exact arithmetic are one text: their body tables are equal.
-/
module

public import proofs.«01_k».proof.Proof.Gen.Kernel
public import proofs.«01_k».proof.Proof.Gen.KernelIdeal

@[expose] public section

noncomputable section

namespace Cert.Ring

open Idealize.ShloMosaic
open Idealize.ShloMosaic.TcCoe

variable {F : FTy → Type} [FloatOps F]

theorem body_same : @Cert.Kernel.cc0_body F _ Cert.Kernel.Gen.facts = @Cert.KernelIdeal.cc0_body F _ Cert.KernelIdeal.Gen.facts := by rfl

theorem bodies_same : (Cert.Kernel.defs₀ (F := F)) = Cert.KernelIdeal.defs₀ (F := F) := by
  unfold Cert.Kernel.defs₀ Cert.KernelIdeal.defs₀
  refine congrArg Defs.onTc ?_
  funext l a
  fin_cases l
  obtain ⟨t, s⟩ := a
  dsimp only
  rw [body_same]

theorem defs_same : (Cert.Kernel.defs (F := F)) = Cert.KernelIdeal.defs (F := F) := congrArg (Pipeline.defs _) bodies_same

end Cert.Ring

end
-- ==== Proof.Quant.lean ====
/-
The quantiser: clip to ±127, round to nearest (ties to even). Its values are the integers −127 … 127, so passing one
through a signed byte and summing seven of them in sixteen bits loses nothing; and it moves a number of size at most 127
by at most one half.
-/
module

public import Idealize.ShloMosaic.PureOps.Ideal

@[expose] public section

noncomputable section

namespace Cert.Quant

open Idealize.ShloMosaic

/-- The words of −127, 127, one half and two. -/
abbrev lo : EReal := Ideal.ofBits .f32 0xC2FE0000#32
abbrev hi : EReal := Ideal.ofBits .f32 0x42FE0000#32
abbrev half : EReal := Ideal.ofBits .f32 0x3F000000#32
abbrev two : EReal := Ideal.ofBits .f32 0x40000000#32

theorem lo_eq : lo = ((-127 : ℝ) : EReal) := by
  simp [lo, Ideal.ofBits, Ideal.ieee]; norm_num; rw [← EReal.coe_mul]; norm_num
theorem hi_eq : hi = ((127 : ℝ) : EReal) := by
  simp [hi, Ideal.ofBits, Ideal.ieee]; norm_num; rw [← EReal.coe_mul]; norm_num
theorem half_eq : half = ((1 / 2 : ℝ) : EReal) := by
  simp [half, Ideal.ofBits, Ideal.ieee]; norm_num; rw [← EReal.coe_mul]; norm_num
theorem two_eq : two = ((2 : ℝ) : EReal) := by
  simp [two, Ideal.ofBits, Ideal.ieee]; norm_num; rw [← EReal.coe_mul]; norm_num

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-- The quantiser. -/
def q (x : EReal) : EReal := Ideal.liftRound Ideal.roundHalfEven (min hi (max lo x))

/-- Rounding moves a real by at most one half. -/
theorem round_near (r : ℝ) : |(Ideal.roundHalfEven r : ℝ) - r| ≤ 1 / 2 := by
  have h0 := Int.floor_le r
  have h1 := Int.lt_floor_add_one r
  unfold Ideal.roundHalfEven
  dsimp only
  split_ifs <;> rw [abs_le] <;> push_cast <;> constructor <;> linarith

/-- Rounding a real of size at most 127 stays there. -/
theorem round_size (r : ℝ) (h : |r| ≤ 127) : |Ideal.roundHalfEven r| ≤ 127 := by
  have h2 := abs_le.mp (round_near r)
  have h3 := abs_le.mp h
  have a : (Ideal.roundHalfEven r : ℝ) < ((128 : ℤ) : ℝ) := by push_cast; linarith
  have b : (((-128 : ℤ)) : ℝ) < (Ideal.roundHalfEven r : ℝ) := by push_cast; linarith
  have a' := Int.cast_lt.mp a
  have b' := Int.cast_lt.mp b
  rw [abs_le]; omega

/-- Clipping gives a real of size at most 127. -/
theorem clip_real (x : EReal) : ∃ r : ℝ, |r| ≤ 127 ∧ min hi (max lo x) = (r : EReal) := by
  rw [hi_eq, lo_eq]
  induction x using EReal.rec with
  | bot => exact ⟨-127, by norm_num, by rw [max_eq_left bot_le, min_eq_right (by exact_mod_cast (by norm_num : (-127 : ℝ) ≤ 127))]⟩
  | top => exact ⟨127, by norm_num, by rw [max_eq_right le_top, min_eq_left le_top]⟩
  | coe r =>
    refine ⟨min 127 (max (-127) r), ?_, ?_⟩
    · rw [abs_le]; exact ⟨le_min (by norm_num) (le_max_left _ _), min_le_left _ _⟩
    · rw [← coe_max, ← coe_min]

/-- The integer a quantised value is. -/
theorem q_int (x : EReal) : ∃ z : ℤ, |z| ≤ 127 ∧ q x = ((z : ℝ) : EReal) := by
  obtain ⟨r, hr, h⟩ := clip_real x
  exact ⟨Ideal.roundHalfEven r, round_size r hr, by unfold q; rw [h]; rfl⟩

/-- A real of size at most 127 is moved by at most one half. -/
theorem q_near (r : ℝ) (h : |r| ≤ 127) : ∃ z : ℝ, |z - r| ≤ 1 / 2 ∧ q (r : EReal) = (z : EReal) := by
  refine ⟨Ideal.roundHalfEven r, round_near r, ?_⟩
  have h' := abs_le.mp h
  unfold q
  rw [hi_eq, lo_eq, ← coe_max, ← coe_min, max_eq_right h'.1, min_eq_right h'.2]
  rfl

/-- The signed byte a quantised value is stored as. -/
def byte (x : EReal) : BitVec 8 := Ideal.fptosi 8 (q x)

theorem byte_int (x : EReal) : |(byte x).toInt| ≤ 127 ∧ q x = (((byte x).toInt : ℝ) : EReal) := by
  obtain ⟨z, hz, h⟩ := q_int x
  have hz' := abs_le.mp hz
  have e : (byte x).toInt = z := by
    unfold byte Ideal.fptosi
    rw [h, Ideal.toIntClamped_coe, Int.floor_intCast, Int.ceil_intCast, ite_self, BitVec.toInt_ofInt,
      show max (-((2 ^ (8 - 1) : ℕ) : ℤ)) (min (((2 ^ (8 - 1) : ℕ) : ℤ) - 1) z) = z by norm_num; omega]
    exact Int.bmod_eq_of_le (by norm_num; omega) (by norm_num; omega)
  rw [e]; exact ⟨hz, h⟩

/-- Reading the byte back gives the quantised value. -/
theorem byte_back (x : EReal) : (((byte x).toInt : ℝ) : EReal) = q x := (byte_int x).2.symm

/-- Sums of few bytes fit sixteen bits. -/
theorem add16 (a b : BitVec 16) (n : ℕ) (ha : |a.toInt| ≤ 127 * n) (hb : |b.toInt| ≤ 127) (hn : n < 7) :
    (a + b).toInt = a.toInt + b.toInt ∧ |(a + b).toInt| ≤ 127 * (n + 1 : ℕ) := by
  have ha' := abs_le.mp ha
  have hb' := abs_le.mp hb
  have e : (a + b).toInt = a.toInt + b.toInt := by
    rw [BitVec.toInt_add, Int.bmod_eq_of_le (by norm_num; omega) (by norm_num; omega)]
  refine ⟨e, ?_⟩
  rw [e, abs_le]; push_cast; omega

theorem ext_int (x : EReal) : |((byte x).signExtend 16).toInt| ≤ 127 ∧ ((byte x).signExtend 16).toInt = (byte x).toInt := by
  have e : ((byte x).signExtend 16).toInt = (byte x).toInt := BitVec.toInt_signExtend_of_le (by decide)
  rw [e]; exact ⟨(byte_int x).1, rfl⟩

/-- The sixteen-bit sum of seven stored values, read back. -/
theorem sum7 (x : ℕ → EReal) :
    ((((((((((byte (x 0)).signExtend 16 + (byte (x 1)).signExtend 16) + (byte (x 2)).signExtend 16) + (byte (x 3)).signExtend 16)
      + (byte (x 4)).signExtend 16) + (byte (x 5)).signExtend 16) + (byte (x 6)).signExtend 16).toInt : ℤ) : ℝ) : EReal)
      = ∑ k ∈ Finset.range 7, q (x k) := by
  have e := fun k => ext_int (x k)
  have s1 := add16 _ _ 1 (by simpa using (e 0).1) (e 1).1 (by decide)
  have s2 := add16 _ _ 2 s1.2 (e 2).1 (by decide)
  have s3 := add16 _ _ 3 s2.2 (e 3).1 (by decide)
  have s4 := add16 _ _ 4 s3.2 (e 4).1 (by decide)
  have s5 := add16 _ _ 5 s4.2 (e 5).1 (by decide)
  have s6 := add16 _ _ 6 s5.2 (e 6).1 (by decide)
  rw [s6.1, s5.1, s4.1, s3.1, s2.1, s1.1]
  simp only [(e _).2]
  simp only [Finset.sum_range_succ, Finset.sum_range_zero, zero_add, ← byte_back]
  push_cast
  rfl

end Cert.Quant

end
-- ==== Proof.Spec.lean ====
/-
What both programs compute, entry by entry, of the whole factors: slice `j` of the product, the sum of the eight slices
with the other devices' quantised, and what a device holds of another's rows (half of the sum, quantised, and doubled).
-/
module

public import proofs.«01_k».proof.Proof.Quant
public import Idealize.ShloMosaic.Lib.ValueIdxCore
public import Idealize.ShloMosaic.Lib.Layout

@[expose] public section

noncomputable section

namespace Cert.Spec

open Idealize.ShloMosaic Idealize.ShloMosaic.ValueIdx Cert.Quant
open scoped BigOperators

abbrev Lhs : Type := (⟨2, ![1024, 4096]⟩ : Shape).Idx → EReal
abbrev Rhs : Type := (⟨2, ![4096, 1024]⟩ : Shape).Idx → EReal

/-- How the arrays are cut in eight. -/
theorem tilesA : Layout.Tiles ⟨2, ![1024, 512]⟩ ⟨2, ![1024, 4096]⟩ 1 8 := by decide
theorem tilesB : Layout.Tiles ⟨2, ![512, 1024]⟩ ⟨2, ![4096, 1024]⟩ 0 8 := by decide
theorem tilesO : Layout.Tiles ⟨2, ![1024, 1024]⟩ ⟨2, ![8192, 1024]⟩ 0 8 := by decide

/-- Position `k` of slice `j` along the contracted axis; row `r` of the rows of device `c`. -/
def sl (j : Fin 8) (k : Fin 512) : Fin 4096 := ⟨512 * j.val + k.val, by omega⟩
def rw128 (c : Fin 8) (r : Fin 128) : Fin 1024 := ⟨128 * c.val + r.val, by omega⟩

variable (A : Lhs) (B : Rhs)

/-- Slice `j` of the product at row `r` of device `c`'s rows and column `n`. -/
def part (j c : Fin 8) (r : Fin 128) (n : Fin 1024) : EReal :=
  ∑ k : Fin 512, A (ix2 (rw128 c r) (sl j k)) * B (ix2 (sl j k) n)

/-- The sum `c` forms: its own slice as it is, the other seven quantised. -/
def red (c : Fin 8) (r : Fin 128) (n : Fin 1024) : EReal :=
  ∑ j : Fin 8, if j = c then part A B j c r n else q (part A B j c r n)

/-- What the other devices receive of it. -/
def sent (c : Fin 8) (r : Fin 128) (n : Fin 1024) : EReal := q (red A B c r n * half) * two

/-- What device `d` holds at the end. -/
def val (d c : Fin 8) (r : Fin 128) (n : Fin 1024) : EReal := if d = c then red A B c r n else sent A B c r n

end Cert.Spec

end
-- ==== Proof.KernelValue.lean ====
/-
The kernel's result, entry by entry, from the whole factors.
-/
module

public import proofs.«01_k».proof.Proof.Launch
public import proofs.«01_k».proof.Proof.Spec
public import Idealize.ShloMosaic.Lib.MatmulPlain
public import Idealize.ShloMosaic.Lib.ValueIdxCoords

@[expose] public section

noncomputable section

namespace Cert.Ring

open Cert.KernelIdeal Cert.KernelIdeal.Gen

open Idealize.ShloMosaic
open Idealize.ShloMosaic.TcCoe
open Idealize.SL Idealize.SL.RA Idealize.SL.BI
open Idealize.SL.Sem
open Idealize.ShloMosaic.Pipeline
open Idealize.ShloMosaic.ValueIdx Cert.Quant
open scoped BigOperators

section Any
variable {F : FTy → Type} [FloatOps F]
variable (m : (ℓ : Loc nD τ sig) → Buf (Elt F) ℓ) (ρ : Dev nD → PrngReg)

/-- The result's one block, read back, is what the body left. -/
theorem finalA_blk (c : Dev nD) : (win0_2.blk (0 : Fin 1)).view.read (Elt F) (finalA m ρ c (2 : Fin 3)) = outAt m ρ c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-- That block is the whole array; -/
theorem finalA_o (c : Dev nD) : finalA m ρ c (2 : Fin 3) = outAt m ρ c := by
  have hz : (fun a => (win0_2.index (0 : Fin 1)) a * main_v1.ty.shape.size a) = fun _ => 0 :=
    funext fun a => by fin_cases a <;> decide
  have h := finalA_blk m ρ c
  have e := Memref.read_access_unit_zero (Elt F) main_v1 hz (fun a => by fin_cases a <;> decide) (finalA m ρ c (2 : Fin 3))
  exact e.symm.trans h

/-- so are the arguments'. -/
theorem astg_eq (c : Dev nD) : astg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) (m ((c : Thread nD τ).loc main_arg0))
theorem bstg_eq (c : Dev nD) : bstg m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) (m ((c : Thread nD τ).loc main_arg1))

theorem cast_self {s : Shape} {α : Type} (x : s.Idx → α) (h : s.ShapeCasts s) : shapeCast s x h = x :=
  funext fun j => congrArg x (Shape.reshapeEquiv_self h j)

theorem A16_eq (c : Dev nD) : A16 m ρ c = m ((c : Thread nD τ).loc main_arg0) := by
  unfold A16 k0_pay1
  dsimp only
  rw [cast_self, cast_self, astg_eq]
theorem B16_eq (c : Dev nD) : B16 m ρ c = m ((c : Thread nD τ).loc main_arg1) := by
  unfold B16 k0_pay2
  dsimp only
  rw [cast_self, cast_self, bstg_eq]

/-- A slot's four axes, dropped again. -/
theorem cast_lift {α : Type} (X : S128x512.Idx → α) (h : S1x1x128x512.ShapeCasts S128x512) : shapeCast S128x512 (lift4 X) h = X :=
  funext fun j => congrArg X (Equiv.symm_apply_apply _ j)

end Any

variable (m : (ℓ : Loc nD τ sig) → Buf (Elt Ideal) ℓ) (ρ : Dev nD → PrngReg)

/-- The product of a device's rows `j` and column half, as the sum it is. -/
def prod (c j : Dev nD) (h : ℕ) (x : S128x512.Idx) : EReal :=
  ∑ k : Fin 512, arow m ρ c j (ix2 (x 0) k) * bcol m ρ c h (ix2 k (x 1))

theorem mm_eq (u : FVec Ideal S128x512 .bf16) (v : FVec Ideal S512x512 .bf16) (x : S128x512.Idx) :
    matmul dot_S128x512_S512x512_S128x512_1_0_0_1_n_n none u v (constant S128x512 .f32 0x00000000#32) x
      = ∑ k : Fin 512, u (ix2 (x 0) k) * v (ix2 k (x 1)) := by
  have e := Ideal.matmul_plain_apply (M := 128) (K := 512) (N := 512) none u v (constant S128x512 .f32 0x00000000#32) (x 0) (x 1)
  have z : (constant S128x512 .f32 0x00000000#32 : FVec Ideal S128x512 .f32) (ix2 (x 0) (x 1)) = 0 := by
    show Ideal.ofBits .f32 0x00000000#32 = 0
    simp [Ideal.ofBits, Ideal.ieee]
  rw [z, zero_add] at e
  rw [eq_ix2 x]
  exact e

/-- The kernel's quantiser is the quantiser, entry by entry. -/
theorem quant_at (X : FVec Ideal S128x512 .f32) (x : S128x512.Idx) :
    fptosi 8 (roundeven (minimumf (broadcast S128x512 (Scalar.ofBits (F := Ideal) .f32 0x42FE0000#32))
      (maximumf (broadcast S128x512 (Scalar.ofBits (F := Ideal) .f32 0xC2FE0000#32)) X))) x = byte (X x) := rfl

theorem WQ_at (c j : Dev nD) (h : ℕ) (x : S128x512.Idx) : WQ m ρ c j h x = byte (prod m ρ c j h x) := by
  unfold WQ k0_pay3
  rw [cast_self]
  exact (quant_at _ x).trans (congrArg byte (mm_eq _ _ x))

theorem PO_at (c : Dev nD) (h : ℕ) (x : S128x512.Idx) : PO m ρ c h x = prod m ρ c c h x := by
  unfold prod
  rw [← mm_eq]
  unfold PO k0_pay24 k0_pay23
  dsimp only
  rw [cast_self]

/-- The sum a device forms of its own rows. -/
def sum8 (c : Dev nD) (h : ℕ) (x : S128x512.Idx) : EReal :=
  prod m ρ c c h x + ∑ k ∈ Finset.range 7, q (prod m ρ (pr c k) c h x)

/-- Seven bytes summed in sixteen bits, read back and added, entry by entry. -/
theorem total_at (W : ℕ → IVec S128x512 8) (P : FVec Ideal S128x512 .f32) (x : S128x512.Idx) :
    addf P (sitofp .f32 (addi (addi (addi (addi (addi (addi (extsi 16 (W 0) natLt_8_16) (extsi 16 (W 1) natLt_8_16))
      (extsi 16 (W 2) natLt_8_16)) (extsi 16 (W 3) natLt_8_16)) (extsi 16 (W 4) natLt_8_16)) (extsi 16 (W 5) natLt_8_16))
      (extsi 16 (W 6) natLt_8_16))) x
    = P x + ((((((((((W 0 x).signExtend 16 + (W 1 x).signExtend 16) + (W 2 x).signExtend 16) + (W 3 x).signExtend 16)
      + (W 4 x).signExtend 16) + (W 5 x).signExtend 16) + (W 6 x).signExtend 16).toInt : ℤ) : ℝ) : EReal) := rfl

theorem RED_at (c : Dev nD) (h : ℕ) (x : S128x512.Idx) : RED m ρ c h x = sum8 m ρ c h x := by
  unfold sum8
  rw [← sum7, ← PO_at]
  simp only [← WQ_at]
  unfold RED SUM6 k0_pay28 k0_pay27 k0_pay26 k0_pay25 RX
  simp only [cast_lift]
  exact total_at (fun k => WQ m ρ (pr c k) c h) (PO m ρ c h) x

theorem AG_at (c : Dev nD) (h : ℕ) (x : S128x512.Idx) : AG m ρ c h x = byte (sum8 m ρ c h x * half) := by
  rw [← RED_at]
  unfold AG k0_pay29
  rw [cast_self]
  exact quant_at (mulf (RED m ρ c h) (broadcast S128x512 (Scalar.ofBits (F := Ideal) .f32 0x3F000000#32))) x

theorem OT_at (c : Dev nD) (h : ℕ) (j : Dev nD) (x : S128x512.Idx) :
    OT m ρ c h j x = if c = j then sum8 m ρ j h x else q (sum8 m ρ j h x * half) * two := by
  unfold OT
  by_cases hc : c = j
  · rw [if_pos hc.symm, if_pos hc, RED_at, hc]
  · rw [if_neg (Ne.symm hc), if_neg hc, ← byte_back, ← AG_at]
    unfold k0_pay36
    simp only [cast_lift]
    rfl

/-! ### In the whole factors' coordinates -/

variable (A : Spec.Lhs) (B : Spec.Rhs)
  (hA : ∀ c : Dev nD, m ((c : Thread nD τ).loc main_arg0) = Layout.block ⟨2, ![1024, 512]⟩ ⟨2, ![1024, 4096]⟩ 1 8 c A Spec.tilesA)
  (hB : ∀ c : Dev nD, m ((c : Thread nD τ).loc main_arg1) = Layout.block ⟨2, ![512, 1024]⟩ ⟨2, ![4096, 1024]⟩ 0 8 c B Spec.tilesB)

/-- Column `x` of half `h`. -/
def colOf (h : Fin 2) (n : Fin 512) : Fin 1024 := ⟨512 * h.val + n.val, by omega⟩

include hA in
theorem arow_at (c j : Dev nD) (r : Fin 128) (k : Fin 512) : arow m ρ c j (ix2 r k) = A (ix2 (Spec.rw128 j r) (Spec.sl c k)) := by
  unfold arow
  rw [A16_eq, hA]
  refine congrArg A (funext fun a => Fin.ext ?_)
  fin_cases a
  · show 128 * j.val + 1 * r.val = 128 * j.val + r.val; omega
  · show c.val * 512 + (0 + 1 * k.val) = 512 * c.val + k.val; omega

include hB in
theorem bcol_at (c : Dev nD) (h : Fin 2) (k : Fin 512) (n : Fin 512) : bcol m ρ c h.val (ix2 k n) = B (ix2 (Spec.sl c k) (colOf h n)) := by
  unfold bcol
  rw [B16_eq, hB]
  refine congrArg B (funext fun a => Fin.ext ?_)
  fin_cases a
  · show c.val * 512 + (0 + 1 * k.val) = 512 * c.val + k.val; omega
  · show 512 * (h.val % 2) + 1 * n.val = 512 * h.val + n.val; omega

include hA hB in
theorem prod_at (c j : Dev nD) (h : Fin 2) (r : Fin 128) (n : Fin 512) :
    prod m ρ c j h.val (ix2 r n) = Spec.part A B c j r (colOf h n) := by
  unfold prod Spec.part
  refine Finset.sum_congr rfl fun k _ => ?_
  show arow m ρ c j (ix2 r k) * bcol m ρ c h.val (ix2 k n) = _
  rw [arow_at m ρ A hA, bcol_at m ρ B hB]

include hA hB in
theorem sum8_at (c : Dev nD) (h : Fin 2) (r : Fin 128) (n : Fin 512) :
    sum8 m ρ c h.val (ix2 r n) = Spec.red A B c r (colOf h n) := by
  unfold sum8 Spec.red
  simp only [prod_at m ρ A B hA hB]
  have hn : c ∉ (Finset.Ico 0 7).image (pr c) := fun h => by
    obtain ⟨k, _, hk⟩ := Finset.mem_image.mp h
    exact pr_ne c k hk
  refine Eq.trans ?_ (Finset.sum_congr (peers_univ c).symm fun _ _ => rfl)
  rw [Finset.sum_insert hn, Finset.sum_image (pr_inj7 c), if_pos rfl, Finset.range_eq_Ico]
  exact congrArg _ (Finset.sum_congr rfl fun k _ => (if_neg (pr_ne c k)).symm)

include hA hB in
/-- Device `d`'s result at row `r` of the rows of `c`. -/
theorem outAt_at (d c : Dev nD) (r : Fin 128) (n : Fin 1024) : outAt m ρ d (ix2 (Spec.rw128 c r) n) = Spec.val A B d c r n := by
  have hn : n = colOf ⟨n.val / 512, by omega⟩ ⟨n.val % 512, by omega⟩ := Fin.ext (by show n.val = 512 * (n.val / 512) + n.val % 512; omega)
  have hd : rowDev (ix2 (Spec.rw128 c r) n) = c := Fin.ext (by
    show (128 * c.val + r.val) / 128 = c.val; omega)
  have hw : within (ix2 (Spec.rw128 c r) n) = ix2 r ⟨n.val % 512, by omega⟩ := funext fun a => Fin.ext (by
    fin_cases a
    · show (128 * c.val + r.val) % 128 = r.val; omega
    · rfl)
  unfold outAt
  rw [hd, hw, OT_at]
  have e := sum8_at m ρ A B hA hB c ⟨n.val / 512, by omega⟩ r ⟨n.val % 512, by omega⟩
  rw [← hn] at e
  unfold Spec.val Spec.sent
  rw [← e]
  rfl

end Cert.Ring

end
-- ==== Proof.ReferenceValue.lean ====
/-
The reference's result, entry by entry.
-/
module

public import proofs.«01_k».proof.Proof.Gen.ReferenceIdeal.Run
public import proofs.«01_k».proof.Proof.Spec
public import Idealize.ShloMosaic.Lib.IdealHost
public import Idealize.ShloMosaic.Lib.Pointwise.Reduce
public import Idealize.ShloMosaic.Lib.ValueIdxCoords
public import Idealize.ShloMosaic.Lib.Pipeline.Value

@[expose] public section

noncomputable section

namespace Cert.Refer

open Cert.ReferenceIdeal Cert.ReferenceIdeal.Gen

open Idealize.ShloMosaic hiding ix1 ix2 ix3 ix4
open Idealize.ShloMosaic.TcCoe
open Idealize.ShloMosaic.ValueIdx Cert.Quant
open scoped BigOperators

/-- One contracted axis under one batch axis, entry by entry. -/
theorem batched_at (l : FVec Ideal S1024x8x512 .f32) (r : FVec Ideal S8x512x1024 .f32) (j : Fin 8) (x n : Fin 1024) :
    Host.dotGeneral dot_S1024x8x512_S8x512x1024_S8x1024x1024_2_1_0_2_1_0 none l r (ix3 j x n)
      = ∑ k : Fin 512, l (ix3 x j k) * r (ix3 j k n) := by
  have hr : dot_S1024x8x512_S8x512x1024_S8x1024x1024_2_1_0_2_1_0.contr.rank = 1 := rfl
  have hs : dot_S1024x8x512_S8x512x1024_S8x1024x1024_2_1_0_2_1_0.contr.size ⟨0, by rw [hr]; exact Nat.one_pos⟩ = 512 := rfl
  show (0 : EReal) + ∑ k, l (dot_S1024x8x512_S8x512x1024_S8x1024x1024_2_1_0_2_1_0.lhsIdx (ix3 j x n) k)
    * r (dot_S1024x8x512_S8x512x1024_S8x1024x1024_2_1_0_2_1_0.rhsIdx (ix3 j x n) k) = _
  rw [zero_add, ← Equiv.sum_comp (contrEquiv1 _ 512 hr hs).symm]
  refine Finset.sum_congr rfl fun k _ => ?_
  have hk := contrEquiv1_symm_val _ 512 hr hs k
  have el : dot_S1024x8x512_S8x512x1024_S8x1024x1024_2_1_0_2_1_0.lhsIdx (ix3 j x n) ((contrEquiv1 _ 512 hr hs).symm k) = ix3 x j k := by
    funext a; apply Fin.ext
    match a with
    | ⟨0, _⟩ => rfl
    | ⟨1, _⟩ => rfl
    | ⟨2, _⟩ => exact hk
  have er : dot_S1024x8x512_S8x512x1024_S8x1024x1024_2_1_0_2_1_0.rhsIdx (ix3 j x n) ((contrEquiv1 _ 512 hr hs).symm k) = ix3 j k n := by
    funext a; apply Fin.ext
    match a with
    | ⟨0, _⟩ => rfl
    | ⟨1, _⟩ => exact hk
    | ⟨2, _⟩ => rfl
  rw [el, er]

variable (A : Spec.Lhs) (B : Spec.Rhs)

/-- The slices of the product, before the rows are grouped by device. -/
def slices : FVec Ideal S8x1024x1024 .f32 :=
  Host.dotGeneral (F := Ideal) (φ₁ := .f32) (φ₂ := .f32) dot_S1024x8x512_S8x512x1024_S8x1024x1024_2_1_0_2_1_0 none
    (shapeCast S1024x8x512 (A : FVec Ideal S1024x4096 .f32) shapeCasts_S1024x4096_S1024x8x512)
    (shapeCast S8x512x1024 (B : FVec Ideal S4096x1024 .f32) shapeCasts_S4096x1024_S8x512x1024)

theorem slices_at (j c : Fin 8) (r : Fin 128) (n : Fin 1024) : slices A B (ix3 j (Spec.rw128 c r) n) = Spec.part A B j c r n := by
  unfold slices Spec.part
  rw [batched_at]
  refine Finset.sum_congr rfl fun k _ => ?_
  rw [shapeCast_apply (A : FVec Ideal S1024x4096 .f32) _ (ix3 (Spec.rw128 c r) j k) (ix2 (Spec.rw128 c r) (Spec.sl j k)) (by
      rw [Shape.rowMajor_val_two, Shape.rowMajor_val_three]
      show (128 * c.val + r.val) * 4096 + (512 * j.val + k.val) = ((128 * c.val + r.val) * 8 + j.val) * 512 + k.val
      ring),
    shapeCast_apply (B : FVec Ideal S4096x1024 .f32) _ (ix3 j k n) (ix2 (Spec.sl j k) n) (by
      rw [Shape.rowMajor_val_two, Shape.rowMajor_val_three]
      show (512 * j.val + k.val) * 1024 + n.val = (j.val * 512 + k.val) * 1024 + n.val
      ring)]

/-- The slices with the rows grouped by device. -/
def grouped : FVec Ideal S8x8x128x1024 .f32 := shapeCast _ (slices A B) shapeCasts_S8x1024x1024_S8x8x128x1024

theorem grouped_at (j c : Fin 8) (r : Fin 128) (n : Fin 1024) : grouped A B (ix4 j c r n) = Spec.part A B j c r n := by
  unfold grouped
  rw [shapeCast_apply (slices A B) _ (ix4 j c r n) (ix3 j (Spec.rw128 c r) n) (by
    rw [Shape.rowMajor_val_three, Shape.rowMajor_val_four]
    show (j.val * 1024 + (128 * c.val + r.val)) * 1024 + n.val = ((j.val * 8 + c.val) * 128 + r.val) * 1024 + n.val
    ring), slices_at]

/-- Whether the slice is the row owner's own. -/
def own : IVec S8x8x128x1024 1 :=
  broadcastInDim S8x8x128x1024 ![0, 1, 2, 3] bcast_S8x8x1x1_S8x8x128x1024_0_1_2_3 (broadcastInDim S8x8x1x1 ![0, 1] bcast_S8x8_S8x8x1x1_0_1
    (cmpi .eq (broadcastInDim S8x8 ![0, 1] bcast_S8x1_S8x8_0_1 (broadcastInDim S8x1 ![0] bcast_S8_S8x1_0 (iotaInDim S8 32 0)))
      (broadcastInDim S8x8 ![0, 1] bcast_S1x8_S8x8_0_1 (broadcastInDim S1x8 ![1] bcast_S8_S1x8_1 (iotaInDim S8 32 0)))))

theorem own_at (j c : Fin 8) (r : Fin 128) (n : Fin 1024) : own (ix4 j c r n) = if j = c then 1#1 else 0#1 := by
  unfold own
  rw [broadcastInDim_apply _ _ _ (ix4 j c r n) (ix4 j c (0 : Fin 1) (0 : Fin 1)) (fun a => by fin_cases a <;> rfl),
    broadcastInDim_apply _ _ _ (ix4 j c (0 : Fin 1) (0 : Fin 1)) (ix2 j c) (fun a => by fin_cases a <;> rfl)]
  show IntOp.cmpi .eq _ _ = _
  rw [broadcastInDim_apply _ bcast_S8x1_S8x8_0_1 _ (ix2 j c) (ix2 j (0 : Fin 1)) (fun a => by fin_cases a <;> rfl),
    broadcastInDim_apply _ bcast_S1x8_S8x8_0_1 _ (ix2 j c) (ix2 (0 : Fin 1) c) (fun a => by fin_cases a <;> rfl),
    broadcastInDim_apply _ bcast_S8_S8x1_0 _ (ix2 j (0 : Fin 1)) (ix1 j) (fun a => by fin_cases a; rfl),
    broadcastInDim_apply _ bcast_S8_S1x8_1 _ (ix2 (0 : Fin 1) c) (ix1 c) (fun a => by fin_cases a; rfl)]
  show IntOp.cmpi .eq (BitVec.ofNat 32 j.val) (BitVec.ofNat 32 c.val) = _
  revert j c; decide

theorem pick_at {α : Type} (x y : S8x8x128x1024.Idx → α) (j c : Fin 8) (r : Fin 128) (n : Fin 1024) :
    select own x y (ix4 j c r n) = if j = c then x (ix4 j c r n) else y (ix4 j c r n) := by
  show Scalar.select (own (ix4 j c r n)) _ _ = _
  rw [own_at]
  by_cases h : j = c <;> simp [h, Scalar.select]

/-- The reference's quantiser is the quantiser, entry by entry. -/
theorem quant_at {s : Shape} (hs : S_.BroadcastsInDim s ![]) (X : FVec Ideal s .f32) (x : s.Idx) :
    Host.roundeven (minimumf (broadcastInDim s ![] hs (id (constant (F := Ideal) S_ .f32 0x42FE0000#32)))
      (maximumf (broadcastInDim s ![] hs (id (constant (F := Ideal) S_ .f32 0xC2FE0000#32))) X)) x = q (X x) := rfl

/-- The reference's quantised slices, its sum, and what it sends. -/
def terms : FVec Ideal S8x8x128x1024 .f32 :=
  select own (grouped A B) (Host.roundeven (minimumf (broadcastInDim S8x8x128x1024 ![] bcast_S_S8x8x128x1024 (id (constant (F := Ideal) S_ .f32 0x42FE0000#32)))
    (maximumf (broadcastInDim S8x8x128x1024 ![] bcast_S_S8x8x128x1024 (id (constant (F := Ideal) S_ .f32 0xC2FE0000#32))) (grouped A B))))
def total : FVec Ideal S8x128x1024 .f32 :=
  Host.reduceAdd (terms A B) (constant (F := Ideal) S_ .f32 0x00000000#32) reducesTo_S8x8x128x1024_S8x128x1024_d0 h_S_
def shared : FVec Ideal S8x128x1024 .f32 :=
  mulf (Host.roundeven (minimumf (broadcastInDim S8x128x1024 ![] bcast_S_S8x128x1024 (id (constant (F := Ideal) S_ .f32 0x42FE0000#32)))
    (maximumf (broadcastInDim S8x128x1024 ![] bcast_S_S8x128x1024 (id (constant (F := Ideal) S_ .f32 0xC2FE0000#32)))
      (mulf (total A B) (broadcastInDim S8x128x1024 ![] bcast_S_S8x128x1024 (constant (F := Ideal) S_ .f32 0x3F000000#32))))))
    (broadcastInDim S8x128x1024 ![] bcast_S_S8x128x1024 (constant (F := Ideal) S_ .f32 0x40000000#32))

theorem total_at (c : Fin 8) (r : Fin 128) (n : Fin 1024) : total A B (ix3 c r n) = Spec.red A B c r n := by
  unfold total Spec.red
  rw [hostReduceAdd_apply, Ideal.hostReduceAdd_r4_a0]
  have z : (constant (F := Ideal) S_ .f32 0x00000000#32) (Shape.Idx.first h_S_) = (0 : EReal) := by
    show Ideal.ofBits .f32 0x00000000#32 = 0
    simp [Ideal.ofBits, Ideal.ieee]
  rw [z, zero_add]
  refine Finset.sum_congr rfl fun j _ => ?_
  show terms A B (ix4 j c r n) = _
  unfold terms
  rw [pick_at, quant_at, grouped_at]

theorem shared_at (c : Fin 8) (r : Fin 128) (n : Fin 1024) : shared A B (ix3 c r n) = Spec.sent A B c r n := by
  unfold shared Spec.sent
  rw [← total_at]
  exact congrArg (· * two) (quant_at bcast_S_S8x128x1024 _ (ix3 c r n))

/-- A copy of a device's rows for every device. -/
theorem copies_at (X : FVec Ideal S8x128x1024 .f32) (d c : Fin 8) (r : Fin 128) (n : Fin 1024) :
    broadcastInDim S8x8x128x1024 ![0, 1, 2, 3] bcast_S1x8x128x1024_S8x8x128x1024_0_1_2_3
      (broadcastInDim S1x8x128x1024 ![1, 2, 3] bcast_S8x128x1024_S1x8x128x1024_1_2_3 X) (ix4 d c r n) = X (ix3 c r n) := by
  rw [broadcastInDim_apply _ _ _ (ix4 d c r n) (ix4 (0 : Fin 1) c r n) (fun a => by fin_cases a <;> rfl),
    broadcastInDim_apply _ _ _ (ix4 (0 : Fin 1) c r n) (ix3 c r n) (fun a => by fin_cases a <;> rfl)]

/-- The result as a function of the factors. -/
def result : FVec Ideal S8192x1024 .f32 :=
  shapeCast _ (select own
    (broadcastInDim S8x8x128x1024 ![0, 1, 2, 3] bcast_S1x8x128x1024_S8x8x128x1024_0_1_2_3
      (broadcastInDim S1x8x128x1024 ![1, 2, 3] bcast_S8x128x1024_S1x8x128x1024_1_2_3 (total A B)))
    (broadcastInDim S8x8x128x1024 ![0, 1, 2, 3] bcast_S1x8x128x1024_S8x8x128x1024_0_1_2_3
      (broadcastInDim S1x8x128x1024 ![1, 2, 3] bcast_S8x128x1024_S1x8x128x1024_1_2_3 (shared A B)))) shapeCasts_S8x8x128x1024_S8192x1024

/-- Row `r` of the rows of `c` in device `d`'s copy. -/
def rowOf (d c : Fin 8) (r : Fin 128) : Fin 8192 := ⟨1024 * d.val + (128 * c.val + r.val), by omega⟩

theorem result_at (d c : Fin 8) (r : Fin 128) (n : Fin 1024) : result A B (ix2 (rowOf d c r) n) = Spec.val A B d c r n := by
  unfold result Spec.val
  rw [shapeCast_apply _ _ (ix2 (rowOf d c r) n) (ix4 d c r n) (by
    rw [Shape.rowMajor_val_two, Shape.rowMajor_val_four]
    show ((d.val * 8 + c.val) * 128 + r.val) * 1024 + n.val = (1024 * d.val + (128 * c.val + r.val)) * 1024 + n.val
    ring), pick_at, copies_at, copies_at, total_at, shared_at]

/-- It is what the reference leaves. -/
theorem res_eq (m : (ℓ : Loc nD τ sig) → Buf (Elt Ideal) ℓ) (c : Dev nD) :
    Cert.ReferenceIdeal.Value.res_out0 (F := Ideal) m c
      = result (m ((c.tc : Thread nD τ).loc main_arg0)) (m ((c.tc : Thread nD τ).loc main_arg1)) := by
  show Cert.ReferenceIdeal.Value.res_main_v27 (F := Ideal) m c = _
  unfold Cert.ReferenceIdeal.Value.res_main_v27 result total shared terms total terms grouped slices own
  rfl

end Cert.Refer

end
-- ==== Proof.Algebraic.lean ====
/-
The kernel's result is the reference's, cut in eight.
-/
module

public import proofs.«01_k».proof.Defs
public import proofs.«01_k».proof.Proof.KernelValue
public import proofs.«01_k».proof.Proof.ReferenceValue

@[expose] public section

noncomputable section

namespace Cert.Proof

open Idealize.ShloMosaic hiding ix1 ix2 ix3 ix4
open Idealize.ShloMosaic.TcCoe
open Idealize.ShloMosaic.ValueIdx

/-- Device `d`'s array is block `d` of the reference's, entry by entry. -/
theorem block_result (m : (ℓ : Loc Cert.KernelIdeal.nD Cert.KernelIdeal.τ Cert.KernelIdeal.sig) → Buf (Elt Ideal) ℓ) (ρ : Dev Cert.KernelIdeal.nD → PrngReg)
    (A : Spec.Lhs) (B : Spec.Rhs)
    (hA : ∀ c : Dev Cert.KernelIdeal.nD, m ((c : Thread Cert.KernelIdeal.nD Cert.KernelIdeal.τ).loc Cert.KernelIdeal.main_arg0) = Layout.block ⟨2, ![1024, 512]⟩ ⟨2, ![1024, 4096]⟩ 1 8 c A Spec.tilesA)
    (hB : ∀ c : Dev Cert.KernelIdeal.nD, m ((c : Thread Cert.KernelIdeal.nD Cert.KernelIdeal.τ).loc Cert.KernelIdeal.main_arg1) = Layout.block ⟨2, ![512, 1024]⟩ ⟨2, ![4096, 1024]⟩ 0 8 c B Spec.tilesB)
    (d : Dev Cert.KernelIdeal.nD) :
    Cert.Ring.outAt m ρ d = Layout.block ⟨2, ![1024, 1024]⟩ ⟨2, ![8192, 1024]⟩ 0 8 d (Cert.Refer.result A B) Spec.tilesO := by
  refine funext fun (x : (⟨2, ![1024, 1024]⟩ : Shape).Idx) => ?_
  have hx : (x 0).val < 1024 := (x 0).isLt
  have e : x = ix2 (Spec.rw128 ⟨(x 0).val / 128, by omega⟩ ⟨(x 0).val % 128, by omega⟩) (x 1) := funext fun a => Fin.ext (by
    fin_cases a
    · show (x 0).val = 128 * ((x 0).val / 128) + (x 0).val % 128; omega
    · rfl)
  refine (congrArg (Cert.Ring.outAt m ρ d) e).trans ((Cert.Ring.outAt_at m ρ A B hA hB d _ _ _).trans ((Cert.Refer.result_at A B d _ _ _).symm.trans ?_))
  refine congrArg (Cert.Refer.result A B) (funext fun a => Fin.ext ?_)
  fin_cases a
  · show 1024 * d.val + (128 * ((x 0).val / 128) + (x 0).val % 128) = d.val * 1024 + (x 0).val; omega
  · rfl

/-- The value claim. -/
theorem algebraic : Cert.algebraic_KernelIdeal_ReferenceIdeal := by
  intro m ρ m' ρ' _ hagree
  refine ⟨Cert.ReferenceIdeal.Value.res_out0 (F := Ideal) m' 0, ?_, ?_⟩
  · refine (θ_run Cert.KernelIdeal.defs _ _).mono
      (fun _ h c => ⟨((h.1 c (2 : Fin 3)).trans (Cert.Ring.finalA_o m ρ c)).trans ?_, (h.1 c (0 : Fin 3)).trans (Cert.Ring.finalA_a m ρ c),
        (h.1 c (1 : Fin 3)).trans (Cert.Ring.finalA_b m ρ c)⟩) (Cert.Ring.run_main (F := Ideal) m ρ)
    rw [Cert.Refer.res_eq]
    exact block_result m ρ _ _ (fun c => (hagree c).1) (fun c => (hagree c).2) c
  · exact (θ_run Cert.ReferenceIdeal.defs _ _).mono (fun _ h => h 0) (Cert.ReferenceIdeal.Value.run (F := Ideal) m' ρ')

end Cert.Proof

end
-- ==== Proof.Bound.lean ====
/-
How far what a device holds lies from the exact product: where no slice leaves ±127 and the product itself stays within
±250, seven roundings of one half and one of a half-sized sum, doubled, move it by at most 4.5.
-/
module

public import proofs.«01_k».proof.Proof.Spec
public import Mathlib.Logic.Equiv.Fin.Basic
public import Mathlib.Algebra.BigOperators.Fin

@[expose] public section

noncomputable section

namespace Cert.Spec

open Idealize.ShloMosaic Idealize.ShloMosaic.ValueIdx Cert.Quant
open scoped BigOperators

/-- The words of 250 and 4.5. -/
theorem w250_eq : Ideal.ofBits .f32 0x437A0000#32 = ((250 : ℝ) : EReal) := by
  simp [Ideal.ofBits, Ideal.ieee]; norm_num; rw [← EReal.coe_mul]; norm_num
theorem w4_5_eq : Ideal.ofBits .f32 0x40900000#32 = ((9 / 2 : ℝ) : EReal) := by
  simp [Ideal.ofBits, Ideal.ieee]; norm_num; rw [← EReal.coe_mul]; norm_num

/-- A value whose size is at most a real's is a real. -/
theorem real_of_size (x : EReal) (b : ℝ) (h : max x (-x) ≤ (b : EReal)) : ∃ r : ℝ, x = (r : EReal) ∧ |r| ≤ b := by
  induction x using EReal.rec with
  | bot => exact absurd h (by simp)
  | top => exact absurd h (by simp)
  | coe r =>
    refine ⟨r, rfl, ?_⟩
    rw [← EReal.coe_neg, ← coe_max] at h
    exact EReal.coe_le_coe_iff.mp h

theorem size_of_real (r b : ℝ) (h : |r| ≤ b) : max (r : EReal) (-(r : EReal)) ≤ (b : EReal) := by
  rw [← EReal.coe_neg, ← coe_max]
  exact EReal.coe_le_coe_iff.mpr h

/-- A finite sum of reals. -/
theorem coe_sum8 (f : Fin 8 → ℝ) : ((∑ j, f j : ℝ) : EReal) = ∑ j, (f j : EReal) := by
  simp only [Fin.sum_univ_eight, EReal.coe_add]

/-- The quantised slices summed, against the slices summed. -/
theorem sum_near (p : Fin 8 → ℝ) (hp : ∀ j, |p j| ≤ 127) (c : Fin 8) :
    ∃ R : ℝ, |R - ∑ j, p j| ≤ 7 / 2 ∧ (∑ j, if j = c then (p j : EReal) else q (p j)) = (R : EReal) := by
  choose z hz e using fun j => q_near (p j) (hp j)
  refine ⟨∑ j, if j = c then p j else z j, ?_, ?_⟩
  · rw [← Finset.sum_sub_distrib]
    refine (Finset.abs_sum_le_sum_abs _ _).trans ?_
    refine (Finset.sum_le_sum (g := fun j => if j = c then (0 : ℝ) else 1 / 2) fun j _ => ?_).trans ?_
    · by_cases h : j = c
      · simp [h]
      · simpa [h] using hz j
    · have hc : ∀ c : Fin 8, (∑ j : Fin 8, if j = c then (0 : ℝ) else 1 / 2) = 7 / 2 := by
        intro c
        rw [Fin.sum_univ_eight]
        fin_cases c <;> simp <;> norm_num
      exact (hc c).le
  · rw [coe_sum8]
    refine Finset.sum_congr rfl fun j _ => ?_
    by_cases h : j = c <;> simp [h, e]

/-- Half of it quantised and doubled. -/
theorem sent_near (R : ℝ) (h : |R| ≤ 254) : ∃ S : ℝ, |S - R| ≤ 1 ∧ q ((R : EReal) * half) * two = (S : EReal) := by
  obtain ⟨z, hz, e⟩ := q_near (R * (1 / 2)) (by rw [abs_mul, abs_of_nonneg (by norm_num : (0 : ℝ) ≤ 1 / 2)]; linarith)
  refine ⟨z * 2, ?_, ?_⟩
  · have := abs_le.mp hz
    rw [abs_le]; constructor <;> linarith
  · rw [half_eq, two_eq, ← EReal.coe_mul, e, ← EReal.coe_mul]

variable (A : Lhs) (B : Rhs)

/-- The exact product, entry by entry. -/
def exact (x n : Fin 1024) : EReal := ∑ k : Fin 4096, A (ix2 x k) * B (ix2 k n)

/-- It is the sum of the eight slices. -/
theorem exact_eq (c : Fin 8) (r : Fin 128) (n : Fin 1024) : exact A B (rw128 c r) n = ∑ j, part A B j c r n := by
  unfold exact part
  rw [← Fintype.sum_prod_type' (f := fun (j : Fin 8) (k : Fin 512) => A (ix2 (rw128 c r) (sl j k)) * B (ix2 (sl j k) n)),
    ← Equiv.sum_comp (finProdFinEquiv (m := 8) (n := 512)) (fun k : Fin (8 * 512) => A (ix2 (rw128 c r) (k : Fin 4096)) * B (ix2 (k : Fin 4096) n))]
  refine Finset.sum_congr rfl fun x _ => ?_
  have e : (finProdFinEquiv (m := 8) (n := 512) x : Fin 4096) = sl x.1 x.2 := Fin.ext (by
    show x.2.val + 512 * x.1.val = 512 * x.1.val + x.2.val
    omega)
  rw [e]

/-- What a device holds, against the exact product. -/
theorem val_near (d c : Fin 8) (r : Fin 128) (n : Fin 1024)
    (hp : ∀ j, max (part A B j c r n) (-part A B j c r n) ≤ ((127 : ℝ) : EReal))
    (he : max (exact A B (rw128 c r) n) (-exact A B (rw128 c r) n) ≤ ((250 : ℝ) : EReal)) :
    max (val A B d c r n - exact A B (rw128 c r) n) (-(val A B d c r n - exact A B (rw128 c r) n)) ≤ ((9 / 2 : ℝ) : EReal) := by
  choose p ep hp using fun j => real_of_size _ _ (hp j)
  have ee : exact A B (rw128 c r) n = ((∑ j, p j : ℝ) : EReal) := by
    rw [exact_eq, coe_sum8]
    exact Finset.sum_congr rfl fun j _ => ep j
  rw [ee] at he ⊢
  obtain ⟨E, eE, hE⟩ := real_of_size _ _ he
  rw [EReal.coe_eq_coe_iff] at eE
  rw [← eE] at hE
  obtain ⟨R, hR, eR⟩ := sum_near p hp c
  have er : red A B c r n = (R : EReal) := by
    rw [← eR]
    unfold red
    exact Finset.sum_congr rfl fun j _ => by rw [ep j]
  have hE' := abs_le.mp hE
  have hR' := abs_le.mp hR
  obtain ⟨S, hS, eS⟩ := sent_near R (by rw [abs_le]; constructor <;> linarith)
  have hS' := abs_le.mp hS
  unfold val sent
  rw [er, eS]
  split_ifs <;> rw [← EReal.coe_sub] <;> refine size_of_real _ _ ?_ <;> rw [abs_le] <;> constructor <;> linarith

end Cert.Spec

end
-- ==== Proof.Near.lean ====
/-
How near the reference is to the product: the stated bound, read entry by entry, is `Cert.Spec.val_near`.
-/
module

public import proofs.«01_k».proof.Defs
public import proofs.«01_k».proof.Proof.Gen.Post_near_the_product
public import proofs.«01_k».proof.Proof.Bound
public import proofs.«01_k».proof.Proof.ReferenceValue
public import Idealize.ShloMosaic.Lib.ReduceAll
public import Idealize.ShloMosaic.Lib.Affine
public import Idealize.ShloMosaic.Lib.MatmulPlain

@[expose] public section

noncomputable section

namespace Cert.Near

open Cert.Post_near_the_product Cert.Post_near_the_product.Gen

open Idealize.ShloMosaic hiding ix1 ix2 ix3 ix4
open Idealize.ShloMosaic.TcCoe
open Idealize.ShloMosaic.ValueIdx Cert.Quant
open scoped BigOperators

/-- A comparison's bit. -/
theorem bit_le (x y : EReal) : Ideal.cmp .ole x y = 1#1 ↔ x ≤ y := by
  show BitVec.ofBool (decide (x ≤ y)) = 1#1 ↔ _
  by_cases h : x ≤ y <;> simp [h]

variable (A : Spec.Lhs) (B : Spec.Rhs)

/-- The product as the bound computes it. -/
def product : FVec Ideal S1024x1024 .f32 :=
  Host.dotGeneral (F := Ideal) (φ₁ := .f32) (φ₂ := .f32) dot_S1024x4096_S4096x1024_S1024x1024_1_0_0_1_n_n none
    (A : FVec Ideal S1024x4096 .f32) (B : FVec Ideal S4096x1024 .f32)

theorem product_at (x n : Fin 1024) : product A B (ix2 x n) = Spec.exact A B x n := by
  have h := Ideal.matmul_plain_apply (φ₁ := .f32) (φ₂ := .f32) none A B (fun _ => 0) x n
  exact h.trans (zero_add _)

/-- Whether the entry is one the bound speaks of. -/
def fits : IVec S1024x1024 1 :=
  andi (Host.reduce IntOp.andi (cmpf .ole (Host.absf (Refer.slices A B)) (broadcastInDim S8x1024x1024 ![] bcast_S_S8x1024x1024 (constant (F := Ideal) S_ .f32 0x42FE0000#32)))
      (constantI S_ 1 1#1) reducesTo_S8x1024x1024_S1024x1024_d0 h_S_)
    (cmpf .ole (Host.absf (product A B)) (broadcastInDim S1024x1024 ![] bcast_S_S1024x1024 (constant (F := Ideal) S_ .f32 0x437A0000#32)))

theorem fits_at (c : Fin 8) (r : Fin 128) (n : Fin 1024) (h : fits A B (ix2 (Spec.rw128 c r) n) = 1#1) :
    (∀ j, max (Spec.part A B j c r n) (-Spec.part A B j c r n) ≤ ((127 : ℝ) : EReal))
    ∧ max (Spec.exact A B (Spec.rw128 c r) n) (-Spec.exact A B (Spec.rw128 c r) n) ≤ ((250 : ℝ) : EReal) := by
  obtain ⟨ha, hb⟩ := IntOp.andi_eq_one.mp (show IntOp.andi _ _ = 1#1 from h)
  constructor
  · intro j
    have e := Host.reduce_andi_eq_one _ _ _ _ _ ha (ix3 j (Spec.rw128 c r) n) (by
      funext a; apply Fin.ext; fin_cases a <;> rfl)
    rw [← Refer.slices_at, ← hi_eq]
    exact (bit_le _ _).mp e
  · rw [← product_at, ← Spec.w250_eq]
    exact (bit_le _ _).mp hb

/-- The stated bound, its product and slices named. -/
theorem fn_eq (O : FVec Ideal S8192x1024 .f32) :
    Cert.Post_near_the_product.fn (F := Ideal) A B O
      = select (broadcastInDim S8x1024x1024 ![0, 1, 2] bcast_S1x1024x1024_S8x1024x1024_0_1_2 (broadcastInDim S1x1024x1024 ![1, 2] bcast_S1024x1024_S1x1024x1024_1_2 (fits A B)))
          (cmpf .ole (Host.absf (subf (shapeCast S8x1024x1024 O shapeCasts_S8192x1024_S8x1024x1024)
            (broadcastInDim S8x1024x1024 ![0, 1, 2] bcast_S1x1024x1024_S8x1024x1024_0_1_2 (broadcastInDim S1x1024x1024 ![1, 2] bcast_S1024x1024_S1x1024x1024_1_2 (product A B)))))
            (broadcastInDim S8x1024x1024 ![] bcast_S_S8x1024x1024 (constant (F := Ideal) S_ .f32 0x40900000#32)))
          (broadcastInDim S8x1024x1024 ![] bcast_S_S8x1024x1024 (constantI S_ 1 1#1)) := rfl

/-- A copy for every device, read. -/
theorem copies_at {α : Type} (X : S1024x1024.Idx → α) (d : Fin 8) (x n : Fin 1024) :
    broadcastInDim S8x1024x1024 ![0, 1, 2] bcast_S1x1024x1024_S8x1024x1024_0_1_2
      (broadcastInDim S1x1024x1024 ![1, 2] bcast_S1024x1024_S1x1024x1024_1_2 X) (ix3 d x n) = X (ix2 x n) := by
  rw [broadcastInDim_apply _ _ _ (ix3 d x n) (ix3 (0 : Fin 1) x n) (fun a => by fin_cases a <;> rfl),
    broadcastInDim_apply _ _ _ (ix3 (0 : Fin 1) x n) (ix2 x n) (fun a => by fin_cases a <;> rfl)]

theorem near_at (d c : Fin 8) (r : Fin 128) (n : Fin 1024) :
    Cert.Post_near_the_product.fn (F := Ideal) A B (Refer.result A B) (ix3 d (Spec.rw128 c r) n) = 1#1 := by
  rw [fn_eq]
  show Scalar.select (broadcastInDim S8x1024x1024 ![0, 1, 2] bcast_S1x1024x1024_S8x1024x1024_0_1_2 (broadcastInDim S1x1024x1024 ![1, 2] bcast_S1024x1024_S1x1024x1024_1_2 (fits A B)) (ix3 d (Spec.rw128 c r) n)) (Ideal.cmp .ole
    (max (shapeCast S8x1024x1024 (Refer.result A B) shapeCasts_S8192x1024_S8x1024x1024 (ix3 d (Spec.rw128 c r) n)
        - broadcastInDim S8x1024x1024 ![0, 1, 2] bcast_S1x1024x1024_S8x1024x1024_0_1_2 (broadcastInDim S1x1024x1024 ![1, 2] bcast_S1024x1024_S1x1024x1024_1_2 (product A B)) (ix3 d (Spec.rw128 c r) n))
      (-(shapeCast S8x1024x1024 (Refer.result A B) shapeCasts_S8192x1024_S8x1024x1024 (ix3 d (Spec.rw128 c r) n)
        - broadcastInDim S8x1024x1024 ![0, 1, 2] bcast_S1x1024x1024_S8x1024x1024_0_1_2 (broadcastInDim S1x1024x1024 ![1, 2] bcast_S1024x1024_S1x1024x1024_1_2 (product A B)) (ix3 d (Spec.rw128 c r) n))))
    (Ideal.ofBits .f32 0x40900000#32)) 1#1 = 1#1
  rw [copies_at, copies_at, product_at,
    shapeCast_apply (Refer.result A B) _ (ix3 d (Spec.rw128 c r) n) (ix2 (Refer.rowOf d c r) n) (by
      rw [Shape.rowMajor_val_two, Shape.rowMajor_val_three]
      show (1024 * d.val + (128 * c.val + r.val)) * 1024 + n.val = (d.val * 1024 + (128 * c.val + r.val)) * 1024 + n.val
      ring), Refer.result_at]
  by_cases h : fits A B (ix2 (Spec.rw128 c r) n) = 1#1
  · obtain ⟨hp, he⟩ := fits_at A B c r n h
    rw [(bit_le _ _).mpr ((Spec.val_near A B d c r n hp he).trans Spec.w4_5_eq.ge)]
    simp [Scalar.select]
  · simp [Scalar.select, h]

/-- Every entry of every copy. -/
theorem near : Cert.Post_near_the_product.fn (F := Ideal) A B (Refer.result A B) = fun _ => 1#1 := by
  refine funext fun (x : S8x1024x1024.Idx) => ?_
  have hx : (x 1).val < 1024 := (x 1).isLt
  have e : x = ix3 (x 0) (Spec.rw128 ⟨(x 1).val / 128, by omega⟩ ⟨(x 1).val % 128, by omega⟩) (x 2) := funext fun a => Fin.ext (by
    fin_cases a
    · rfl
    · show (x 1).val = 128 * ((x 1).val / 128) + (x 1).val % 128; omega
    · rfl)
  exact (congrArg (Cert.Post_near_the_product.fn (F := Ideal) A B (Refer.result A B)) e).trans (near_at A B _ _ _ _)

end Cert.Near

namespace Cert.Proof

open Idealize.ShloMosaic
open Idealize.ShloMosaic.TcCoe

/-- The bound. -/
theorem holds : Cert.holds_ReferenceIdeal_near_the_product := fun m ρ _ =>
  (θ_run Cert.ReferenceIdeal.defs _ _).mono
    (fun r h c => ⟨(h c).2.1, (h c).2.2, by
      rw [(h c).1, show Cert.ReferenceIdeal.Value.res_main_v27 (F := Ideal) m c = _ from Cert.Refer.res_eq m c]
      exact Cert.Near.near _ _⟩)
    (Cert.ReferenceIdeal.Value.run (F := Ideal) m ρ)

end Cert.Proof

end
-- ==== Proof.lean ====
/-
The claims: the frames of the three programs, that the kernel computes the reference, and how near the
reference is to the product.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Post_near_the_product
public import proofs.«01_k».proof.Proof.Launch
public import proofs.«01_k».proof.Proof.Same
public import proofs.«01_k».proof.Proof.Algebraic
public import proofs.«01_k».proof.Proof.Near
public import Idealize.ShloMosaic.Lib.Quiescent

@[expose] public section

noncomputable section

namespace Cert.Proof

open Idealize.ShloMosaic
open Idealize.ShloMosaic.TcCoe

/-- At any float values the kernel keeps its arguments and ends with every counter at zero (`Cert.Ring.run_main`). -/
theorem kept {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.Ring.finalA_a m ρ c), (h.1 c (1 : Fin 3)).trans (Cert.Ring.finalA_b m ρ c)⟩, h.2⟩)
    (Cert.Ring.run_main (F := F) m ρ)

/-- The printed kernel is the same text. -/
theorem frame_kernel : Cert.quiescent_Kernel := fun m ρ _ => by
  have h := kept (F := Bits) m ρ
  rw [← Cert.Ring.defs_same] at h
  exact h

theorem frame_kernelIdeal : Cert.quiescent_KernelIdeal := fun m ρ _ => kept (F := Ideal) m ρ

/-- The reference keeps its arguments and has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Post_near_the_product.Gen.facts, frame_kernel, frame_kernelIdeal, frame_reference, trivial,
    algebraic, holds⟩

end Cert.Proof

end
